-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)

def algebraic_KernelIdeal_ReferenceIdeal_on_proved_here_pre_finite [hKernelIdeal : Cert.KernelIdeal.Facts] [hReferenceIdeal : Cert.ReferenceIdeal.Facts] [hPre_finite : Cert.Pre_finite.Facts] [hOn_proved_here : Cert.On_proved_here.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![9, 4096, 1024]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨4, ![9, 4096, 8, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v0_1) i = v1 c i)
          ∧ (∀ i : (⟨3, ![9, 8, 32]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v0_2) i = v2 c i)
          ∧ (∀ i : (⟨4, ![9, 2, 4096, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.KernelIdeal.nD Cert.KernelIdeal.τ).loc Cert.KernelIdeal.main_v0_3) i = v3 c i)
          ∧ (∀ i : (⟨3, ![9, 2, 64]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 i = 1#1 → r.2.mem ((c.tc : Thread Cert.KernelIdeal.nD Cert.KernelIdeal.τ).loc Cert.KernelIdeal.main_v0_4) i = v4 c i)
          ∧ (∀ i : (⟨4, ![9, 2, 4096, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 i = 1#1 → r.2.mem ((c.tc : Thread Cert.KernelIdeal.nD Cert.KernelIdeal.τ).loc Cert.KernelIdeal.main_v0_5) i = v5 c i)
          ∧ (∀ i : (⟨3, ![9, 2, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2 i = 1#1 → r.2.mem ((c.tc : Thread Cert.KernelIdeal.nD Cert.KernelIdeal.τ).loc Cert.KernelIdeal.main_v0_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![9, 4096, 1024]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v139) i = v0 c i)
          ∧ (∀ i : (⟨4, ![9, 4096, 8, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v142_0) i = v1 c i)
          ∧ (∀ i : (⟨3, ![9, 8, 32]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v84) i = v2 c i)
          ∧ (∀ i : (⟨4, ![9, 2, 4096, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.ReferenceIdeal.nD Cert.ReferenceIdeal.τ).loc Cert.ReferenceIdeal.main_v142_1) i = v3 c i)
          ∧ (∀ i : (⟨3, ![9, 2, 64]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 i = 1#1 → r.2.mem ((c.tc : Thread Cert.ReferenceIdeal.nD Cert.ReferenceIdeal.τ).loc Cert.ReferenceIdeal.main_v85) i = v4 c i)
          ∧ (∀ i : (⟨4, ![9, 2, 4096, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 i = 1#1 → r.2.mem ((c.tc : Thread Cert.ReferenceIdeal.nD Cert.ReferenceIdeal.τ).loc Cert.ReferenceIdeal.main_v142_2) i = v5 c i)
          ∧ (∀ i : (⟨3, ![9, 2, 128]⟩ : Shape).Idx, (Cert.On_proved_here.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2 i = 1#1 → r.2.mem ((c.tc : Thread Cert.ReferenceIdeal.nD Cert.ReferenceIdeal.τ).loc Cert.ReferenceIdeal.main_v76) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts) (hOn_proved_here : Cert.On_proved_here.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_proved_here_pre_finite (hKernelIdeal := hKernelIdeal) (hReferenceIdeal := hReferenceIdeal) (hPre_finite := hPre_finite) (hOn_proved_here := hOn_proved_here)
-- ==== On_proved_here.lean ====
abbrev S9x4096x1024 : Shape := ⟨3, ![9, 4096, 1024]⟩
abbrev S9x4096x256 : Shape := ⟨3, ![9, 4096, 256]⟩
abbrev S4096 : Shape := ⟨1, ![4096]⟩
abbrev S1x4096x1 : Shape := ⟨3, ![1, 4096, 1]⟩
abbrev S_ : Shape := ⟨0, ![]⟩
abbrev S9x4096x8x128 : Shape := ⟨4, ![9, 4096, 8, 128]⟩
abbrev S9x8x32 : Shape := ⟨3, ![9, 8, 32]⟩
abbrev S9x2x4096x128 : Shape := ⟨4, ![9, 2, 4096, 128]⟩
abbrev S9x2x64 : Shape := ⟨3, ![9, 2, 64]⟩
abbrev S9x2x128 : Shape := ⟨3, ![9, 2, 128]⟩

class Facts : Prop where
  bcast_S4096_S1x4096x1_1 : S4096.BroadcastsInDim S1x4096x1 (![1] : Fin 1 → Fin S1x4096x1.rank)
  bcast_S_S1x4096x1 : S_.BroadcastsInDim S1x4096x1 (![] : Fin 0 → Fin S1x4096x1.rank)
  bcast_S1x4096x1_S9x4096x1024_0_1_2 : S1x4096x1.BroadcastsInDim S9x4096x1024 (![0, 1, 2] : Fin 3 → Fin S9x4096x1024.rank)
  bcast_S_S9x4096x8x128 : S_.BroadcastsInDim S9x4096x8x128 (![] : Fin 0 → Fin S9x4096x8x128.rank)
  bcast_S_S9x8x32 : S_.BroadcastsInDim S9x8x32 (![] : Fin 0 → Fin S9x8x32.rank)
  bcast_S_S9x2x4096x128 : S_.BroadcastsInDim S9x2x4096x128 (![] : Fin 0 → Fin S9x2x4096x128.rank)
  bcast_S_S9x2x64 : S_.BroadcastsInDim S9x2x64 (![] : Fin 0 → Fin S9x2x64.rank)
  bcast_S_S9x2x128 : S_.BroadcastsInDim S9x2x128 (![] : Fin 0 → Fin S9x2x128.rank)

variable [Facts]

def fn {F : FTy → Type} [FloatOps F] (main_arg0 : FVec F S9x4096x1024 .bf16) (main_arg1 : FVec F S9x4096x256 .bf16) (main_arg2 : FVec F S9x4096x256 .bf16) : IVec S9x4096x1024 1 × IVec S9x4096x8x128 1 × IVec S9x8x32 1 × IVec S9x2x4096x128 1 × IVec S9x2x64 1 × IVec S9x2x4096x128 1 × IVec S9x2x128 1 :=
  let main_v0 : IVec S4096 32 := iotaInDim S4096 32 0
  let main_v1 : IVec S1x4096x1 32 := broadcastInDim S1x4096x1 ![1] bcast_S4096_S1x4096x1_1 main_v0
  let main_c : IVec S_ 32 := constantI S_ 32 1024#32
  let main_v2 : IVec S1x4096x1 32 := broadcastInDim S1x4096x1 ![] bcast_S_S1x4096x1 main_c
  let main_v3 : IVec S1x4096x1 1 := cmpi .sge main_v1 main_v2
  let main_v4 : IVec S9x4096x1024 1 := broadcastInDim S9x4096x1024 ![0, 1, 2] bcast_S1x4096x1_S9x4096x1024_0_1_2 main_v3
  let main_c_0 : IVec S_ 1 := constantI S_ 1 1#1
  let main_v5 : IVec S9x4096x8x128 1 := broadcastInDim S9x4096x8x128 ![] bcast_S_S9x4096x8x128 main_c_0
  let main_c_1 : IVec S_ 1 := constantI S_ 1 1#1
  let main_v6 : IVec S9x8x32 1 := broadcastInDim S9x8x32 ![] bcast_S_S9x8x32 main_c_1
  let main_c_2 : IVec S_ 1 := constantI S_ 1 1#1
  let main_v7 : IVec S9x2x4096x128 1 := broadcastInDim S9x2x4096x128 ![] bcast_S_S9x2x4096x128 main_c_2
  let main_c_3 : IVec S_ 1 := constantI S_ 1 1#1
  let main_v8 : IVec S9x2x64 1 := broadcastInDim S9x2x64 ![] bcast_S_S9x2x64 main_c_3
  let main_c_4 : IVec S_ 1 := constantI S_ 1 1#1
  let main_v9 : IVec S9x2x4096x128 1 := broadcastInDim S9x2x4096x128 ![] bcast_S_S9x2x4096x128 main_c_4
  let main_c_5 : IVec S_ 1 := constantI S_ 1 1#1
  let main_v10 : IVec S9x2x128 1 := broadcastInDim S9x2x128 ![] bcast_S_S9x2x128 main_c_5
  (main_v4, main_v5, main_v6, main_v7, main_v8, main_v9, main_v10)
-- ==== Pre_finite.lean ====
abbrev S9x4096x1024 : Shape := ⟨3, ![9, 4096, 1024]⟩
abbrev S9x4096x256 : Shape := ⟨3, ![9, 4096, 256]⟩
abbrev S_ : Shape := ⟨0, ![]⟩

class Facts : Prop where
  bitsLt_bf16_f32 : FTy.bits .bf16 < FTy.bits .f32
  bcast_S_S9x4096x1024 : S_.BroadcastsInDim S9x4096x1024 (![] : Fin 0 → Fin S9x4096x1024.rank)
  reducesTo_S9x4096x1024_S_d0_1_2 : S9x4096x1024.ReducesTo [0, 1, 2] S_
  h_S_ : 0 < S_.numel
  bcast_S_S9x4096x256 : S_.BroadcastsInDim S9x4096x256 (![] : Fin 0 → Fin S9x4096x256.rank)
  reducesTo_S9x4096x256_S_d0_1_2 : S9x4096x256.ReducesTo [0, 1, 2] S_

variable [Facts]

def fn {F : FTy → Type} [FloatOps F] (main_arg0 : FVec F S9x4096x1024 .bf16) (main_arg1 : FVec F S9x4096x256 .bf16) (main_arg2 : FVec F S9x4096x256 .bf16) : IVec S_ 1 :=
  let main_v0 : FVec F S9x4096x1024 .f32 := (extf .f32 · bitsLt_bf16_f32) main_arg0
  let main_v1 : FVec F S9x4096x1024 .f32 := Host.absf main_v0
  let main_cst : FVec F S_ .f32 := constant S_ .f32 0x7F7F0000#32
  let main_v2 : FVec F S9x4096x1024 .f32 := broadcastInDim S9x4096x1024 ![] bcast_S_S9x4096x1024 main_cst
  let main_v3 : IVec S9x4096x1024 1 := cmpf .ole main_v1 main_v2
  let main_c : IVec S_ 1 := constantI S_ 1 1#1
  let main_v4 : IVec S_ 1 := (fun x v => Host.reduce IntOp.andi x v reducesTo_S9x4096x1024_S_d0_1_2 h_S_) main_v3 main_c
  let main_v5 : FVec F S9x4096x256 .f32 := (extf .f32 · bitsLt_bf16_f32) main_arg1
  let main_v6 : FVec F S9x4096x256 .f32 := Host.absf main_v5
  let main_cst_0 : FVec F S_ .f32 := constant S_ .f32 0x7F7F0000#32
  let main_v7 : FVec F S9x4096x256 .f32 := broadcastInDim S9x4096x256 ![] bcast_S_S9x4096x256 main_cst_0
  let main_v8 : IVec S9x4096x256 1 := cmpf .ole main_v6 main_v7
  let main_c_1 : IVec S_ 1 := constantI S_ 1 1#1
  let main_v9 : IVec S_ 1 := (fun x v => Host.reduce IntOp.andi x v reducesTo_S9x4096x256_S_d0_1_2 h_S_) main_v8 main_c_1
  let main_v10 : IVec S_ 1 := andi main_v4 main_v9
  let main_v11 : FVec F S9x4096x256 .f32 := (extf .f32 · bitsLt_bf16_f32) main_arg2
  let main_v12 : FVec F S9x4096x256 .f32 := Host.absf main_v11
  let main_cst_2 : FVec F S_ .f32 := constant S_ .f32 0x7F7F0000#32
  let main_v13 : FVec F S9x4096x256 .f32 := broadcastInDim S9x4096x256 ![] bcast_S_S9x4096x256 main_cst_2
  let main_v14 : IVec S9x4096x256 1 := cmpf .ole main_v12 main_v13
  let main_c_3 : IVec S_ 1 := constantI S_ 1 1#1
  let main_v15 : IVec S_ 1 := (fun x v => Host.reduce IntOp.andi x v reducesTo_S9x4096x256_S_d0_1_2 h_S_) main_v14 main_c_3
  let main_v16 : IVec S_ 1 := andi main_v10 main_v15
  main_v16
-- ==== Kernel.lean ====
abbrev S9x4096x1024 : Shape := ⟨3, ![9, 4096, 1024]⟩
abbrev S9x4096x256 : Shape := ⟨3, ![9, 4096, 256]⟩
abbrev S9x4096x8x128 : Shape := ⟨4, ![9, 4096, 8, 128]⟩
abbrev S9x8x32 : Shape := ⟨3, ![9, 8, 32]⟩
abbrev S9x2x4096x128 : Shape := ⟨4, ![9, 2, 4096, 128]⟩
abbrev S9x2x64 : Shape := ⟨3, ![9, 2, 64]⟩
abbrev S9x2x128 : Shape := ⟨3, ![9, 2, 128]⟩
abbrev S1x256x1024 : Shape := ⟨3, ![1, 256, 1024]⟩
abbrev S1x4096x256 : Shape := ⟨3, ![1, 4096, 256]⟩
abbrev S1x256x8x128 : Shape := ⟨4, ![1, 256, 8, 128]⟩
abbrev S1x8x32 : Shape := ⟨3, ![1, 8, 32]⟩
abbrev S1x2x4096x128 : Shape := ⟨4, ![1, 2, 4096, 128]⟩
abbrev S1x2x64 : Shape := ⟨3, ![1, 2, 64]⟩
abbrev S1x2x128 : Shape := ⟨3, ![1, 2, 128]⟩
abbrev S2x64x128 : Shape := ⟨3, ![2, 64, 128]⟩
abbrev S2x128x4096 : Shape := ⟨3, ![2, 128, 4096]⟩
abbrev S2x2x512x128 : Shape := ⟨4, ![2, 2, 512, 128]⟩
abbrev S2x2x8x128 : Shape := ⟨4, ![2, 2, 8, 128]⟩
abbrev S1152x512 : Shape := ⟨2, ![1152, 512]⟩
abbrev S8x256 : Shape := ⟨2, ![8, 256]⟩
abbrev S16x256 : Shape := ⟨2, ![16, 256]⟩
abbrev S1x512x256 : Shape := ⟨3, ![1, 512, 256]⟩
abbrev S512x256 : Shape := ⟨2, ![512, 256]⟩
abbrev S64x8x256 : Shape := ⟨3, ![64, 8, 256]⟩
abbrev S32x16x256 : Shape := ⟨3, ![32, 16, 256]⟩
abbrev S256 : Shape := ⟨1, ![256]⟩
abbrev S1x256 : Shape := ⟨2, ![1, 256]⟩
abbrev S1x128 : Shape := ⟨2, ![1, 128]⟩
abbrev S1x1x128 : Shape := ⟨3, ![1, 1, 128]⟩
abbrev S1x512x128 : Shape := ⟨3, ![1, 512, 128]⟩
abbrev S512x128 : Shape := ⟨2, ![512, 128]⟩
abbrev S8x64x128 : Shape := ⟨3, ![8, 64, 128]⟩
abbrev S8x128 : Shape := ⟨2, ![8, 128]⟩
abbrev S8 : Shape := ⟨1, ![8]⟩
abbrev S8x1 : Shape := ⟨2, ![8, 1]⟩
abbrev S1x8x128 : Shape := ⟨3, ![1, 8, 128]⟩
abbrev S64x128 : Shape := ⟨2, ![64, 128]⟩
abbrev S1x1 : Shape := ⟨2, ![1, 1]⟩
abbrev S1x1x64x128 : Shape := ⟨4, ![1, 1, 64, 128]⟩
abbrev S1x1x512x128 : Shape := ⟨4, ![1, 1, 512, 128]⟩
abbrev S128x512 : Shape := ⟨2, ![128, 512]⟩
abbrev S1x128x512 : Shape := ⟨3, ![1, 128, 512]⟩
abbrev S1x64x128 : Shape := ⟨3, ![1, 64, 128]⟩
abbrev S128 : Shape := ⟨1, ![128]⟩
abbrev S1x64 : Shape := ⟨2, ![1, 64]⟩
abbrev S1x1x64 : Shape := ⟨3, ![1, 1, 64]⟩
abbrev S1x128x128 : Shape := ⟨3, ![1, 128, 128]⟩
abbrev S128x128 : Shape := ⟨2, ![128, 128]⟩
abbrev S8x16x128 : Shape := ⟨3, ![8, 16, 128]⟩
abbrev S16x128 : Shape := ⟨2, ![16, 128]⟩
abbrev S1x16x128 : Shape := ⟨3, ![1, 16, 128]⟩
abbrev S8x32 : Shape := ⟨2, ![8, 32]⟩
abbrev S32x128 : Shape := ⟨2, ![32, 128]⟩
abbrev S1x1x32x128 : Shape := ⟨4, ![1, 1, 32, 128]⟩
abbrev S1x1x8x128 : Shape := ⟨4, ![1, 1, 8, 128]⟩
abbrev S128x1x128 : Shape := ⟨3, ![128, 1, 128]⟩
abbrev S128x4x128 : Shape := ⟨3, ![128, 4, 128]⟩
abbrev S1x128x4x128 : Shape := ⟨4, ![1, 128, 4, 128]⟩
abbrev S1x18x128 : Shape := ⟨3, ![1, 18, 128]⟩
abbrev S18x128 : Shape := ⟨2, ![18, 128]⟩
abbrev S1x1x1x128 : Shape := ⟨4, ![1, 1, 1, 128]⟩
abbrev S1x1x128x128 : Shape := ⟨4, ![1, 1, 128, 128]⟩
abbrev S4x8x128 : Shape := ⟨3, ![4, 8, 128]⟩
abbrev S24x128 : Shape := ⟨2, ![24, 128]⟩
abbrev S1x128x1152 : Shape := ⟨3, ![1, 128, 1152]⟩
abbrev S128x1152 : Shape := ⟨2, ![128, 1152]⟩
abbrev S1x32x128 : Shape := ⟨3, ![1, 32, 128]⟩

abbrev nBuf : Space → Nat
  | .hbm => 10
  | .vmem => 26
  | .smem => 0
  | _ => 0

abbrev bufTy : (tb : Table) → Fin (tcTables nBuf tb) → BufTy
  | .hbm, ⟨0, _⟩ => ⟨S9x4096x1024, .bf16⟩
  | .hbm, ⟨1, _⟩ => ⟨S9x4096x256, .bf16⟩
  | .hbm, ⟨2, _⟩ => ⟨S9x4096x256, .bf16⟩
  | .hbm, ⟨3, _⟩ => ⟨S9x4096x1024, .bf16⟩
  | .hbm, ⟨4, _⟩ => ⟨S9x4096x8x128, .fp8e4m3⟩
  | .hbm, ⟨5, _⟩ => ⟨S9x8x32, .f32⟩
  | .hbm, ⟨6, _⟩ => ⟨S9x2x4096x128, .fp8e4m3⟩
  | .hbm, ⟨7, _⟩ => ⟨S9x2x64, .f32⟩
  | .hbm, ⟨8, _⟩ => ⟨S9x2x4096x128, .fp8e4m3⟩
  | .hbm, ⟨9, _⟩ => ⟨S9x2x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x8x128, .fp8e4m3⟩
  | .local _ .vmem, ⟨9, _⟩ => ⟨S1x256x8x128, .fp8e4m3⟩
  | .local _ .vmem, ⟨10, _⟩ => ⟨S1x8x32, .f32⟩
  | .local _ .vmem, ⟨11, _⟩ => ⟨S1x8x32, .f32⟩
  | .local _ .vmem, ⟨12, _⟩ => ⟨S1x2x4096x128, .fp8e4m3⟩
  | .local _ .vmem, ⟨13, _⟩ => ⟨S1x2x4096x128, .fp8e4m3⟩
  | .local _ .vmem, ⟨14, _⟩ => ⟨S1x2x64, .f32⟩
  | .local _ .vmem, ⟨15, _⟩ => ⟨S1x2x64, .f32⟩
  | .local _ .vmem, ⟨16, _⟩ => ⟨S1x2x4096x128, .fp8e4m3⟩
  | .local _ .vmem, ⟨17, _⟩ => ⟨S1x2x4096x128, .fp8e4m3⟩
  | .local _ .vmem, ⟨18, _⟩ => ⟨S1x2x128, .f32⟩
  | .local _ .vmem, ⟨19, _⟩ => ⟨S1x2x128, .f32⟩
  | .local _ .vmem, ⟨20, _⟩ => ⟨S2x64x128, .f32⟩
  | .local _ .vmem, ⟨21, _⟩ => ⟨S2x128x4096, .fp8e4m3⟩
  | .local _ .vmem, ⟨22, _⟩ => ⟨S2x2x512x128, .fp8e4m3⟩
  | .local _ .vmem, ⟨23, _⟩ => ⟨S2x2x8x128, .f32⟩
  | .local _ .vmem, ⟨24, _⟩ => ⟨S1152x512, .f32⟩
  | .local _ .vmem, ⟨25, _⟩ => ⟨S1152x512, .fp8e4m3⟩
  | _, _ => ⟨S9x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c8_i32 : BitVec 32 := 8#32
  let v17 : BitVec 32 := Scalar.addi c0_i32_11 c8_i32
  let c1_i32 : BitVec 32 := 1#32
  ⟨c0_i32_11, v17, c1_i32⟩
def k0_off1 (k0_t1 : Fin k0_t1_loop.trips) : Fin 3 → Nat :=
  let c0_65 : Index := 0#32
  let c0_i32_11 : BitVec 32 := 0#32
  let c1_i32 : BitVec 32 := 1#32
  let arg18 : BitVec 32 := Scf.iv c0_i32_11 c1_i32 k0_t1
  let c512_i32 : BitVec 32 := 512#32
  let v148 : BitVec 32 := Scalar.muli arg18 c512_i32
  let v149 : Index := Scalar.indexCast v148
  let c0_66 : Index := 0#32
  ![0, v149.toNat, 0]
@[reducible] def k0_t2_loop : Scf.Loop 32 :=
  let c0_i32_45 : BitVec 32 := 0#32
  let c8_i32_46 : BitVec 32 := 8#32
  let v124 : BitVec 32 := Scalar.addi c0_i32_45 c8_i32_46
  let c1_i32_47 : BitVec 32 := 1#32
  ⟨c0_i32_45, v124, c1_i32_47⟩
def k0_mult1 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32 : BitVec 32 := 512#32
  let v148 : BitVec 32 := Scalar.muli arg18 c512_i32
  v148
def k0_off2 (k0_t2 : Fin k0_t2_loop.trips) : Fin 3 → Nat :=
  let c0_65 : Index := 0#32
  let c0_i32_45 : BitVec 32 := 0#32
  let c1_i32_47 : BitVec 32 := 1#32
  let arg18 : BitVec 32 := Scf.iv c0_i32_45 c1_i32_47 k0_t2
  let c512_i32 : BitVec 32 := 512#32
  let v148 : BitVec 32 := Scalar.muli arg18 c512_i32
  let v149 : BitVec 32 := v148
  let v150 : Index := Scalar.indexCast v149
  let c0_66 : Index := 0#32
  ![0, v150.toNat, 0]
def k0_off3 (k0_t2 : Fin k0_t2_loop.trips) : Fin 3 → Nat :=
  let c0_102 : Index := 0#32
  let c0_i32_45 : BitVec 32 := 0#32
  let c1_i32_47 : BitVec 32 := 1#32
  let arg18 : BitVec 32 := Scf.iv c0_i32_45 c1_i32_47 k0_t2
  let c8_i32_101 : BitVec 32 := 8#32
  let v253 : BitVec 32 := Scalar.muli arg18 c8_i32_101
  let v254 : Index := Scalar.indexCast v253
  let c0_103 : Index := 0#32
  ![0, v254.toNat, 0]
def k0_mult2 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_106 : BitVec 32 := 512#32
  let v267 : BitVec 32 := Scalar.muli arg18 c512_i32_106
  let c0_i32_107 : BitVec 32 := 0#32
  let v268 : BitVec 32 := Scalar.addi v267 c0_i32_107
  v268
def k0_off4 (k0_t2 : Fin k0_t2_loop.trips) (c0_i32_107 : BitVec 32) : Fin 4 → Nat :=
  let c0_108 : Index := 0#32
  let c0_109 : Index := 0#32
  let c0_i32_45 : BitVec 32 := 0#32
  let c1_i32_47 : BitVec 32 := 1#32
  let arg18 : BitVec 32 := Scf.iv c0_i32_45 c1_i32_47 k0_t2
  let c512_i32_106 : BitVec 32 := 512#32
  let v267 : BitVec 32 := Scalar.muli arg18 c512_i32_106
  let v268 : BitVec 32 := Scalar.addi v267 c0_i32_107
  let v269 : BitVec 32 := v268
  let v270 : Index := Scalar.indexCast v269
  let c0_110 : Index := 0#32
  ![0, 0, v270.toNat, 0]
def k0_mult3 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_113 : BitVec 32 := 512#32
  let v283 : BitVec 32 := Scalar.muli arg18 c512_i32_113
  let c64_i32_114 : BitVec 32 := 64#32
  let v284 : BitVec 32 := Scalar.addi v283 c64_i32_114
  v284
def k0_mult4 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_120 : BitVec 32 := 512#32
  let v299 : BitVec 32 := Scalar.muli arg18 c512_i32_120
  let c128_i32_121 : BitVec 32 := 128#32
  let v300 : BitVec 32 := Scalar.addi v299 c128_i32_121
  v300
def k0_mult5 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_127 : BitVec 32 := 512#32
  let v315 : BitVec 32 := Scalar.muli arg18 c512_i32_127
  let c192_i32 : BitVec 32 := 192#32
  let v316 : BitVec 32 := Scalar.addi v315 c192_i32
  v316
def k0_mult6 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_133 : BitVec 32 := 512#32
  let v331 : BitVec 32 := Scalar.muli arg18 c512_i32_133
  let c256_i32 : BitVec 32 := 256#32
  let v332 : BitVec 32 := Scalar.addi v331 c256_i32
  v332
def k0_mult7 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_139 : BitVec 32 := 512#32
  let v347 : BitVec 32 := Scalar.muli arg18 c512_i32_139
  let c320_i32 : BitVec 32 := 320#32
  let v348 : BitVec 32 := Scalar.addi v347 c320_i32
  v348
def k0_mult8 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_145 : BitVec 32 := 512#32
  let v363 : BitVec 32 := Scalar.muli arg18 c512_i32_145
  let c384_i32 : BitVec 32 := 384#32
  let v364 : BitVec 32 := Scalar.addi v363 c384_i32
  v364
def k0_mult9 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_151 : BitVec 32 := 512#32
  let v379 : BitVec 32 := Scalar.muli arg18 c512_i32_151
  let c448_i32 : BitVec 32 := 448#32
  let v380 : BitVec 32 := Scalar.addi v379 c448_i32
  v380
def k0_off5 (k0_t2 : Fin k0_t2_loop.trips) : Fin 4 → Nat :=
  let c0_159 : Index := 0#32
  let c0_160 : Index := 0#32
  let c0_i32_45 : BitVec 32 := 0#32
  let c1_i32_47 : BitVec 32 := 1#32
  let arg18 : BitVec 32 := Scf.iv c0_i32_45 c1_i32_47 k0_t2
  let c512_i32 : BitVec 32 := 512#32
  let v148 : BitVec 32 := Scalar.muli arg18 c512_i32
  let v149 : BitVec 32 := v148
  let v399 : Index := Scalar.indexCast v149
  let c0_161 : Index := 0#32
  ![0, 0, v399.toNat, 0]
def k0_off6 (k0_t2 : Fin k0_t2_loop.trips) : Fin 3 → Nat :=
  let c0_162 : Index := 0#32
  let c0_163 : Index := 0#32
  let c0_i32_45 : BitVec 32 := 0#32
  let c1_i32_47 : BitVec 32 := 1#32
  let arg18 : BitVec 32 := Scf.iv c0_i32_45 c1_i32_47 k0_t2
  let c512_i32 : BitVec 32 := 512#32
  let v148 : BitVec 32 := Scalar.muli arg18 c512_i32
  let v149 : BitVec 32 := v148
  let v405 : Index := Scalar.indexCast v149
  ![0, 0, v405.toNat]
def k0_off7 (k0_t2 : Fin k0_t2_loop.trips) : Fin 3 → Nat :=
  let c0_164 : Index := 0#32
  let c0_i32_45 : BitVec 32 := 0#32
  let c1_i32_47 : BitVec 32 := 1#32
  let arg18 : BitVec 32 := Scf.iv c0_i32_45 c1_i32_47 k0_t2
  let c512_i32 : BitVec 32 := 512#32
  let v148 : BitVec 32 := Scalar.muli arg18 c512_i32
  let v149 : BitVec 32 := v148
  let v409 : Index := Scalar.indexCast v149
  let c128 : Index := 128#32
  ![0, v409.toNat, 128]
def k0_off8 (k0_t2 : Fin k0_t2_loop.trips) : Fin 3 → Nat :=
  let c1_200 : Index := 1#32
  let c0_i32_45 : BitVec 32 := 0#32
  let c1_i32_47 : BitVec 32 := 1#32
  let arg18 : BitVec 32 := Scf.iv c0_i32_45 c1_i32_47 k0_t2
  let c8_i32_199 : BitVec 32 := 8#32
  let v512 : BitVec 32 := Scalar.muli arg18 c8_i32_199
  let v513 : Index := Scalar.indexCast v512
  let c0_201 : Index := 0#32
  ![1, v513.toNat, 0]
def k0_mult10 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_204 : BitVec 32 := 512#32
  let v526 : BitVec 32 := Scalar.muli arg18 c512_i32_204
  let c0_i32_205 : BitVec 32 := 0#32
  let v527 : BitVec 32 := Scalar.addi v526 c0_i32_205
  v527
def k0_off9 (k0_t2 : Fin k0_t2_loop.trips) (c0_i32_205 : BitVec 32) : Fin 4 → Nat :=
  let c0_206 : Index := 0#32
  let c1_207 : Index := 1#32
  let c0_i32_45 : BitVec 32 := 0#32
  let c1_i32_47 : BitVec 32 := 1#32
  let arg18 : BitVec 32 := Scf.iv c0_i32_45 c1_i32_47 k0_t2
  let c512_i32_204 : BitVec 32 := 512#32
  let v526 : BitVec 32 := Scalar.muli arg18 c512_i32_204
  let v527 : BitVec 32 := Scalar.addi v526 c0_i32_205
  let v528 : BitVec 32 := v527
  let v529 : Index := Scalar.indexCast v528
  let c0_208 : Index := 0#32
  ![0, 1, v529.toNat, 0]
def k0_mult11 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_211 : BitVec 32 := 512#32
  let v542 : BitVec 32 := Scalar.muli arg18 c512_i32_211
  let c64_i32_212 : BitVec 32 := 64#32
  let v543 : BitVec 32 := Scalar.addi v542 c64_i32_212
  v543
def k0_mult12 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_218 : BitVec 32 := 512#32
  let v558 : BitVec 32 := Scalar.muli arg18 c512_i32_218
  let c128_i32_219 : BitVec 32 := 128#32
  let v559 : BitVec 32 := Scalar.addi v558 c128_i32_219
  v559
def k0_mult13 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_225 : BitVec 32 := 512#32
  let v574 : BitVec 32 := Scalar.muli arg18 c512_i32_225
  let c192_i32_226 : BitVec 32 := 192#32
  let v575 : BitVec 32 := Scalar.addi v574 c192_i32_226
  v575
def k0_mult14 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_232 : BitVec 32 := 512#32
  let v590 : BitVec 32 := Scalar.muli arg18 c512_i32_232
  let c256_i32_233 : BitVec 32 := 256#32
  let v591 : BitVec 32 := Scalar.addi v590 c256_i32_233
  v591
def k0_mult15 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_239 : BitVec 32 := 512#32
  let v606 : BitVec 32 := Scalar.muli arg18 c512_i32_239
  let c320_i32_240 : BitVec 32 := 320#32
  let v607 : BitVec 32 := Scalar.addi v606 c320_i32_240
  v607
def k0_mult16 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_246 : BitVec 32 := 512#32
  let v622 : BitVec 32 := Scalar.muli arg18 c512_i32_246
  let c384_i32_247 : BitVec 32 := 384#32
  let v623 : BitVec 32 := Scalar.addi v622 c384_i32_247
  v623
def k0_mult17 (k0_t2 : Fin k0_t2_loop.trips) : BitVec 32 :=
  let c0_i32_45 : BitVec 32 := 0#32
  let c1_i32_47 : BitVec 32 := 1#32
  let arg18 : BitVec 32 := Scf.iv c0_i32_45 c1_i32_47 k0_t2
  let c512_i32_253 : BitVec 32 := 512#32
  let v638 : BitVec 32 := Scalar.muli arg18 c512_i32_253
  let c448_i32_254 : BitVec 32 := 448#32
  let v639 : BitVec 32 := Scalar.addi v638 c448_i32_254
  v639
def k0_off10 (k0_t2 : Fin k0_t2_loop.trips) : Fin 4 → Nat :=
  let c0_262 : Index := 0#32
  let c1_263 : Index := 1#32
  let c0_i32_45 : BitVec 32 := 0#32
  let c1_i32_47 : BitVec 32 := 1#32
  let arg18 : BitVec 32 := Scf.iv c0_i32_45 c1_i32_47 k0_t2
  let c512_i32 : BitVec 32 := 512#32
  let v148 : BitVec 32 := Scalar.muli arg18 c512_i32
  let v149 : BitVec 32 := v148
  let v658 : Index := Scalar.indexCast v149
  let c0_264 : Index := 0#32
  ![0, 1, v658.toNat, 0]
def k0_off11 (k0_t2 : Fin k0_t2_loop.trips) : Fin 3 → Nat :=
  let c1_265 : Index := 1#32
  let c0_266 : Index := 0#32
  let c0_i32_45 : BitVec 32 := 0#32
  let c1_i32_47 : BitVec 32 := 1#32
  let arg18 : BitVec 32 := Scf.iv c0_i32_45 c1_i32_47 k0_t2
  let c512_i32 : BitVec 32 := 512#32
  let v148 : BitVec 32 := Scalar.muli arg18 c512_i32
  let v149 : BitVec 32 := v148
  let v664 : Index := Scalar.indexCast v149
  ![1, 0, v664.toNat]
def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_mult18 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  v503
def k0_off12 (i : grid0.Coords) (c0_i32_4 : BitVec 32) : Fin 3 → Nat :=
  let c0_256 : Index := 0#32
  let arg1 : BitVec 32 := BitVec.ofNat 32 (i 1).val
  let c2_i32 : BitVec 32 := 2#32
  let v9 : BitVec 32 := Scalar.muli arg1 c2_i32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c0_i32_250 : BitVec 32 := 0#32
  let v506 : BitVec 1 := Scalar.cmpi .sgt v504 c0_i32_250
  let v507 : BitVec 32 := Scalar.extui v506
  let c0_i32_251 : BitVec 32 := 0#32
  let v508 : BitVec 1 := Scalar.cmpi .slt v504 c0_i32_251
  let v509 : BitVec 32 := Scalar.extui v508
  let v510 : BitVec 32 := Scalar.subi v507 v509
  let c64_i32_249 : BitVec 32 := 64#32
  let c0_i32_252 : BitVec 32 := 0#32
  let v511 : BitVec 1 := Scalar.cmpi .sgt c64_i32_249 c0_i32_252
  let v512 : BitVec 32 := Scalar.extui v511
  let c0_i32_253 : BitVec 32 := 0#32
  let v513 : BitVec 1 := Scalar.cmpi .slt c64_i32_249 c0_i32_253
  let v514 : BitVec 32 := Scalar.extui v513
  let v515 : BitVec 32 := Scalar.subi v512 v514
  let v516 : BitVec 1 := Scalar.cmpi .ne v510 v515
  let v517 : BitVec 32 := Scalar.remsi v504 c64_i32_249
  let c0_i32_254 : BitVec 32 := 0#32
  let v518 : BitVec 1 := Scalar.cmpi .ne v517 c0_i32_254
  let v519 : BitVec 1 := Scalar.andi v516 v518
  let v505 : BitVec 32 := Scalar.divsi v504 c64_i32_249
  let c1_i32_255 : BitVec 32 := 1#32
  let v520 : BitVec 32 := Scalar.subi v505 c1_i32_255
  let v521 : BitVec 32 := Scalar.select v519 v520 v505
  let v522 : Index := Scalar.indexCast v521
  let c0_257 : Index := 0#32
  ![0, v522.toNat, 0]
def k0_mult19 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c0_i32_273 : BitVec 32 := 0#32
  let v550 : BitVec 32 := Scalar.addi v504 c0_i32_273
  v550
def k0_off13 (i : grid0.Coords) (c0_i32_4 : BitVec 32) (c0_i32_273 : BitVec 32) : Fin 4 → Nat :=
  let c0_274 : Index := 0#32
  let c0_275 : Index := 0#32
  let arg1 : BitVec 32 := BitVec.ofNat 32 (i 1).val
  let c2_i32 : BitVec 32 := 2#32
  let v9 : BitVec 32 := Scalar.muli arg1 c2_i32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let v550 : BitVec 32 := Scalar.addi v504 c0_i32_273
  let v551 : BitVec 32 := v550
  let v552 : Index := Scalar.indexCast v551
  let c0_276 : Index := 0#32
  ![0, 0, v552.toNat, 0]
def k0_mult20 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c128_i32_317 : BitVec 32 := 128#32
  let v695 : BitVec 32 := Scalar.addi v504 c128_i32_317
  v695
def k0_mult21 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c256_i32 : BitVec 32 := 256#32
  let v866 : BitVec 32 := Scalar.addi v504 c256_i32
  v866
def k0_mult22 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c384_i32 : BitVec 32 := 384#32
  let v1032 : BitVec 32 := Scalar.addi v504 c384_i32
  v1032
def k0_mult23 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c512_i32 : BitVec 32 := 512#32
  let v1198 : BitVec 32 := Scalar.addi v504 c512_i32
  v1198
def k0_mult24 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c640_i32 : BitVec 32 := 640#32
  let v1364 : BitVec 32 := Scalar.addi v504 c640_i32
  v1364
def k0_mult25 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c768_i32 : BitVec 32 := 768#32
  let v1530 : BitVec 32 := Scalar.addi v504 c768_i32
  v1530
def k0_mult26 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c896_i32 : BitVec 32 := 896#32
  let v1696 : BitVec 32 := Scalar.addi v504 c896_i32
  v1696
def k0_mult27 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let c1024_i32 : BitVec 32 := 1024#32
  let v1862 : BitVec 32 := Scalar.addi v504 c1024_i32
  v1862
def k0_off14 (i : grid0.Coords) (c0_i32_4 : BitVec 32) : Fin 3 → Nat :=
  let c0_1654 : Index := 0#32
  let c0_1655 : Index := 0#32
  let arg1 : BitVec 32 := BitVec.ofNat 32 (i 1).val
  let c2_i32 : BitVec 32 := 2#32
  let v9 : BitVec 32 := Scalar.muli arg1 c2_i32
  let v10 : BitVec 32 := Scalar.addi v9 c0_i32_4
  let c128_i32_247 : BitVec 32 := 128#32
  let v501 : BitVec 32 := Scalar.muli v10 c128_i32_247
  let c128_i32_248 : BitVec 32 := 128#32
  let v502 : BitVec 32 := Scalar.addi v501 c128_i32_248
  let c1152_i32 : BitVec 32 := 1152#32
  let v503 : BitVec 32 := Scalar.subi v502 c1152_i32
  let v504 : BitVec 32 := v503
  let v4004 : Index := Scalar.indexCast v504
  ![0, 0, v4004.toNat]
def k0_mult28 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  v4111
def k0_off15 (i : grid0.Coords) (c0_i32_4 : BitVec 32) : Fin 3 → Nat :=
  let c1_1729 : Index := 1#32
  let arg1 : BitVec 32 := BitVec.ofNat 32 (i 1).val
  let c2_i32 : BitVec 32 := 2#32
  let v9 : BitVec 32 := Scalar.muli arg1 c2_i32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c0_i32_1723 : BitVec 32 := 0#32
  let v4114 : BitVec 1 := Scalar.cmpi .sgt v4112 c0_i32_1723
  let v4115 : BitVec 32 := Scalar.extui v4114
  let c0_i32_1724 : BitVec 32 := 0#32
  let v4116 : BitVec 1 := Scalar.cmpi .slt v4112 c0_i32_1724
  let v4117 : BitVec 32 := Scalar.extui v4116
  let v4118 : BitVec 32 := Scalar.subi v4115 v4117
  let c64_i32_1722 : BitVec 32 := 64#32
  let c0_i32_1725 : BitVec 32 := 0#32
  let v4119 : BitVec 1 := Scalar.cmpi .sgt c64_i32_1722 c0_i32_1725
  let v4120 : BitVec 32 := Scalar.extui v4119
  let c0_i32_1726 : BitVec 32 := 0#32
  let v4121 : BitVec 1 := Scalar.cmpi .slt c64_i32_1722 c0_i32_1726
  let v4122 : BitVec 32 := Scalar.extui v4121
  let v4123 : BitVec 32 := Scalar.subi v4120 v4122
  let v4124 : BitVec 1 := Scalar.cmpi .ne v4118 v4123
  let v4125 : BitVec 32 := Scalar.remsi v4112 c64_i32_1722
  let c0_i32_1727 : BitVec 32 := 0#32
  let v4126 : BitVec 1 := Scalar.cmpi .ne v4125 c0_i32_1727
  let v4127 : BitVec 1 := Scalar.andi v4124 v4126
  let v4113 : BitVec 32 := Scalar.divsi v4112 c64_i32_1722
  let c1_i32_1728 : BitVec 32 := 1#32
  let v4128 : BitVec 32 := Scalar.subi v4113 c1_i32_1728
  let v4129 : BitVec 32 := Scalar.select v4127 v4128 v4113
  let v4130 : Index := Scalar.indexCast v4129
  let c0_1730 : Index := 0#32
  ![1, v4130.toNat, 0]
def k0_mult29 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c0_i32_1746 : BitVec 32 := 0#32
  let v4158 : BitVec 32 := Scalar.addi v4112 c0_i32_1746
  v4158
def k0_off16 (i : grid0.Coords) (c0_i32_4 : BitVec 32) (c0_i32_1746 : BitVec 32) : Fin 4 → Nat :=
  let c0_1747 : Index := 0#32
  let c1_1748 : Index := 1#32
  let arg1 : BitVec 32 := BitVec.ofNat 32 (i 1).val
  let c2_i32 : BitVec 32 := 2#32
  let v9 : BitVec 32 := Scalar.muli arg1 c2_i32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let v4158 : BitVec 32 := Scalar.addi v4112 c0_i32_1746
  let v4159 : BitVec 32 := v4158
  let v4160 : Index := Scalar.indexCast v4159
  let c0_1749 : Index := 0#32
  ![0, 1, v4160.toNat, 0]
def k0_mult30 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c128_i32_1795 : BitVec 32 := 128#32
  let v4303 : BitVec 32 := Scalar.addi v4112 c128_i32_1795
  v4303
def k0_mult31 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c256_i32_1850 : BitVec 32 := 256#32
  let v4474 : BitVec 32 := Scalar.addi v4112 c256_i32_1850
  v4474
def k0_mult32 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c384_i32_1903 : BitVec 32 := 384#32
  let v4640 : BitVec 32 := Scalar.addi v4112 c384_i32_1903
  v4640
def k0_mult33 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c512_i32_1956 : BitVec 32 := 512#32
  let v4806 : BitVec 32 := Scalar.addi v4112 c512_i32_1956
  v4806
def k0_mult34 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c640_i32_2009 : BitVec 32 := 640#32
  let v4972 : BitVec 32 := Scalar.addi v4112 c640_i32_2009
  v4972
def k0_mult35 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c768_i32_2062 : BitVec 32 := 768#32
  let v5138 : BitVec 32 := Scalar.addi v4112 c768_i32_2062
  v5138
def k0_mult36 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c896_i32_2115 : BitVec 32 := 896#32
  let v5304 : BitVec 32 := Scalar.addi v4112 c896_i32_2115
  v5304
def k0_mult37 (i : grid0.Coords) : BitVec 32 :=
  let arg1 : BitVec 32 := BitVec.ofNat 32 (i 1).val
  let c2_i32 : BitVec 32 := 2#32
  let v9 : BitVec 32 := Scalar.muli arg1 c2_i32
  let c0_i32_4 : BitVec 32 := 0#32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let c1024_i32_2168 : BitVec 32 := 1024#32
  let v5470 : BitVec 32 := Scalar.addi v4112 c1024_i32_2168
  v5470
def k0_off17 (i : grid0.Coords) (c0_i32_4 : BitVec 32) : Fin 3 → Nat :=
  let c1_3155 : Index := 1#32
  let c0_3156 : Index := 0#32
  let arg1 : BitVec 32 := BitVec.ofNat 32 (i 1).val
  let c2_i32 : BitVec 32 := 2#32
  let v9 : BitVec 32 := Scalar.muli arg1 c2_i32
  let v10 : BitVec 32 := Scalar.addi v9 c0_i32_4
  let c128_i32_1719 : BitVec 32 := 128#32
  let v4109 : BitVec 32 := Scalar.muli v10 c128_i32_1719
  let c128_i32_1720 : BitVec 32 := 128#32
  let v4110 : BitVec 32 := Scalar.addi v4109 c128_i32_1720
  let c1152_i32_1721 : BitVec 32 := 1152#32
  let v4111 : BitVec 32 := Scalar.subi v4110 c1152_i32_1721
  let v4112 : BitVec 32 := v4111
  let v7612 : Index := Scalar.indexCast v4112
  ![1, 0, v7612.toNat]
def k0_mult38 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  v8211
def k0_mult39 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c0_i32_3524 : BitVec 32 := 0#32
  let v8258 : BitVec 32 := Scalar.addi v8212 c0_i32_3524
  v8258
def k0_mult40 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c128_i32_3573 : BitVec 32 := 128#32
  let v8403 : BitVec 32 := Scalar.addi v8212 c128_i32_3573
  v8403
def k0_mult41 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c256_i32_3628 : BitVec 32 := 256#32
  let v8574 : BitVec 32 := Scalar.addi v8212 c256_i32_3628
  v8574
def k0_mult42 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c384_i32_3681 : BitVec 32 := 384#32
  let v8740 : BitVec 32 := Scalar.addi v8212 c384_i32_3681
  v8740
def k0_mult43 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c512_i32_3734 : BitVec 32 := 512#32
  let v8906 : BitVec 32 := Scalar.addi v8212 c512_i32_3734
  v8906
def k0_mult44 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c640_i32_3787 : BitVec 32 := 640#32
  let v9072 : BitVec 32 := Scalar.addi v8212 c640_i32_3787
  v9072
def k0_mult45 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c768_i32_3840 : BitVec 32 := 768#32
  let v9238 : BitVec 32 := Scalar.addi v8212 c768_i32_3840
  v9238
def k0_mult46 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c896_i32_3893 : BitVec 32 := 896#32
  let v9404 : BitVec 32 := Scalar.addi v8212 c896_i32_3893
  v9404
def k0_mult47 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_3497 : BitVec 32 := 128#32
  let v8209 : BitVec 32 := Scalar.muli v7718 c128_i32_3497
  let c128_i32_3498 : BitVec 32 := 128#32
  let v8210 : BitVec 32 := Scalar.addi v8209 c128_i32_3498
  let c1152_i32_3499 : BitVec 32 := 1152#32
  let v8211 : BitVec 32 := Scalar.subi v8210 c1152_i32_3499
  let v8212 : BitVec 32 := v8211
  let c1024_i32_3946 : BitVec 32 := 1024#32
  let v9570 : BitVec 32 := Scalar.addi v8212 c1024_i32_3946
  v9570
def k0_mult48 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  v11819
def k0_mult49 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c0_i32_5025 : BitVec 32 := 0#32
  let v11866 : BitVec 32 := Scalar.addi v11820 c0_i32_5025
  v11866
def k0_mult50 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c128_i32_5074 : BitVec 32 := 128#32
  let v12011 : BitVec 32 := Scalar.addi v11820 c128_i32_5074
  v12011
def k0_mult51 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c256_i32_5129 : BitVec 32 := 256#32
  let v12182 : BitVec 32 := Scalar.addi v11820 c256_i32_5129
  v12182
def k0_mult52 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c384_i32_5182 : BitVec 32 := 384#32
  let v12348 : BitVec 32 := Scalar.addi v11820 c384_i32_5182
  v12348
def k0_mult53 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c512_i32_5235 : BitVec 32 := 512#32
  let v12514 : BitVec 32 := Scalar.addi v11820 c512_i32_5235
  v12514
def k0_mult54 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c640_i32_5288 : BitVec 32 := 640#32
  let v12680 : BitVec 32 := Scalar.addi v11820 c640_i32_5288
  v12680
def k0_mult55 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c768_i32_5341 : BitVec 32 := 768#32
  let v12846 : BitVec 32 := Scalar.addi v11820 c768_i32_5341
  v12846
def k0_mult56 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c896_i32_5394 : BitVec 32 := 896#32
  let v13012 : BitVec 32 := Scalar.addi v11820 c896_i32_5394
  v13012
def k0_mult57 (i : grid0.Coords) : BitVec 32 :=
  let arg1 : BitVec 32 := BitVec.ofNat 32 (i 1).val
  let c2_i32_3220 : BitVec 32 := 2#32
  let v7717 : BitVec 32 := Scalar.muli arg1 c2_i32_3220
  let c1_i32_3221 : BitVec 32 := 1#32
  let v7718 : BitVec 32 := Scalar.addi v7717 c1_i32_3221
  let c128_i32_4998 : BitVec 32 := 128#32
  let v11817 : BitVec 32 := Scalar.muli v7718 c128_i32_4998
  let c128_i32_4999 : BitVec 32 := 128#32
  let v11818 : BitVec 32 := Scalar.addi v11817 c128_i32_4999
  let c1152_i32_5000 : BitVec 32 := 1152#32
  let v11819 : BitVec 32 := Scalar.subi v11818 c1152_i32_5000
  let v11820 : BitVec 32 := v11819
  let c1024_i32_5447 : BitVec 32 := 1024#32
  let v13178 : BitVec 32 := Scalar.addi v11820 c1024_i32_5447
  v13178
def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "score_scale" => some (((Real.sqrt 128)⁻¹ * (Real.log 2)⁻¹ : ℝ) : EReal)
  | _ => none
-- ==== ReferenceIdeal.lean ====
abbrev S9x4096x1024 : Shape := ⟨3, ![9, 4096, 1024]⟩
abbrev S9x4096x256 : Shape := ⟨3, ![9, 4096, 256]⟩
abbrev S9x32x128x8x128 : Shape := ⟨5, ![9, 32, 128, 8, 128]⟩
abbrev S_ : Shape := ⟨0, ![]⟩
abbrev S9x32x8 : Shape := ⟨3, ![9, 32, 8]⟩
abbrev S9x32x1x8x1 : Shape := ⟨5, ![9, 32, 1, 8, 1]⟩
abbrev S9x4096x8x128 : Shape := ⟨4, ![9, 4096, 8, 128]⟩
abbrev S9x4096x2x128 : Shape := ⟨4, ![9, 4096, 2, 128]⟩
abbrev S9x2x128 : Shape := ⟨3, ![9, 2, 128]⟩
abbrev S9x1x2x128 : Shape := ⟨4, ![9, 1, 2, 128]⟩
abbrev S9x64x64x2x128 : Shape := ⟨5, ![9, 64, 64, 2, 128]⟩
abbrev S9x64x2 : Shape := ⟨3, ![9, 64, 2]⟩
abbrev S9x64x1x2x1 : Shape := ⟨5, ![9, 64, 1, 2, 1]⟩
abbrev S9x8x32 : Shape := ⟨3, ![9, 8, 32]⟩
abbrev S9x2x64 : Shape := ⟨3, ![9, 2, 64]⟩
abbrev S9x4096x2x4x128 : Shape := ⟨5, ![9, 4096, 2, 4, 128]⟩
abbrev S9x2x4096x4096x4 : Shape := ⟨5, ![9, 2, 4096, 4096, 4]⟩
abbrev S9x2x4x4096x4096 : Shape := ⟨5, ![9, 2, 4, 4096, 4096]⟩
abbrev S9x8x32x128 : Shape := ⟨4, ![9, 8, 32, 128]⟩
abbrev S9x8x4096 : Shape := ⟨3, ![9, 8, 4096]⟩
abbrev S9x2x4x4096 : Shape := ⟨4, ![9, 2, 4, 4096]⟩
abbrev S9x2x64x64 : Shape := ⟨4, ![9, 2, 64, 64]⟩
abbrev S9x2x4096 : Shape := ⟨3, ![9, 2, 4096]⟩
abbrev S9x2x4x4096x1 : Shape := ⟨5, ![9, 2, 4, 4096, 1]⟩
abbrev S9x2x1x1x4096 : Shape := ⟨5, ![9, 2, 1, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S9x2x128x4x4096 : Shape := ⟨5, ![9, 2, 128, 4, 4096]⟩
abbrev S9x1x2x1x128 : Shape := ⟨5, ![9, 1, 2, 1, 128]⟩
abbrev S9x4096x2x4 : Shape := ⟨4, ![9, 4096, 2, 4]⟩
abbrev S9x4096x2x4x1 : Shape := ⟨5, ![9, 4096, 2, 4, 1]⟩
abbrev S9x2x4096x128 : Shape := ⟨4, ![9, 2, 4096, 128]⟩

abbrev nBuf : Space → Nat
  | .hbm => 218
  | .vmem => 6
  | .smem => 0
  | _ => 0

abbrev hbmTy0_0 (i : Nat) : BufTy := match i % 128 with
  | 0 => ⟨S9x4096x1024, .bf16⟩
  | 1 => ⟨S9x4096x256, .bf16⟩
  | 2 => ⟨S9x4096x256, .bf16⟩
  | 3 => ⟨S9x4096x1024, .f32⟩
  | 4 => ⟨S9x32x128x8x128, .f32⟩
  | 5 => ⟨S9x32x128x8x128, .f32⟩
  | 6 => ⟨S_, .f32⟩
  | 7 => ⟨S9x32x8, .f32⟩
  | 8 => ⟨S_, .f32⟩
  | 9 => ⟨S9x32x8, .f32⟩
  | 10 => ⟨S9x32x8, .f32⟩
  | 11 => ⟨S_, .f32⟩
  | 12 => ⟨S9x32x8, .f32⟩
  | 13 => ⟨S9x32x8, .i1⟩
  | 14 => ⟨S9x32x8, .f32⟩
  | 15 => ⟨S_, .f32⟩
  | 16 => ⟨S_, .f32⟩
  | 17 => ⟨S9x32x8, .f32⟩
  | 18 => ⟨S9x32x8, .f32⟩
  | 19 => ⟨S9x32x8, .f32⟩
  | 20 => ⟨S_, .f32⟩
  | 21 => ⟨S9x32x8, .f32⟩
  | 22 => ⟨S9x32x8, .f32⟩
  | 23 => ⟨S_, .f32⟩
  | 24 => ⟨S_, .f32⟩
  | 25 => ⟨S9x32x8, .f32⟩
  | 26 => ⟨S9x32x8, .f32⟩
  | 27 => ⟨S_, .f32⟩
  | 28 => ⟨S9x32x8, .f32⟩
  | 29 => ⟨S9x32x8, .f32⟩
  | 30 => ⟨S9x32x8, .f32⟩
  | 31 => ⟨S_, .f32⟩
  | 32 => ⟨S9x32x8, .f32⟩
  | 33 => ⟨S9x32x8, .f32⟩
  | 34 => ⟨S9x32x1x8x1, .f32⟩
  | 35 => ⟨S9x32x128x8x128, .f32⟩
  | 36 => ⟨S9x32x128x8x128, .f32⟩
  | 37 => ⟨S_, .f32⟩
  | 38 => ⟨S_, .f32⟩
  | 39 => ⟨S_, .f32⟩
  | 40 => ⟨S9x32x128x8x128, .f32⟩
  | 41 => ⟨S9x32x128x8x128, .f32⟩
  | 42 => ⟨S_, .f32⟩
  | 43 => ⟨S9x32x128x8x128, .f32⟩
  | 44 => ⟨S9x32x128x8x128, .f32⟩
  | 45 => ⟨S9x4096x8x128, .f32⟩
  | 46 => ⟨S9x4096x256, .f32⟩
  | 47 => ⟨S9x4096x2x128, .f32⟩
  | 48 => ⟨S_, .f32⟩
  | 49 => ⟨S9x2x128, .f32⟩
  | 50 => ⟨S9x1x2x128, .f32⟩
  | 51 => ⟨S_, .f32⟩
  | 52 => ⟨S9x1x2x128, .f32⟩
  | 53 => ⟨S9x1x2x128, .f32⟩
  | 54 => ⟨S9x4096x2x128, .f32⟩
  | 55 => ⟨S9x4096x2x128, .f32⟩
  | 56 => ⟨S9x64x64x2x128, .f32⟩
  | 57 => ⟨S9x64x64x2x128, .f32⟩
  | 58 => ⟨S_, .f32⟩
  | 59 => ⟨S9x64x2, .f32⟩
  | 60 => ⟨S_, .f32⟩
  | 61 => ⟨S9x64x2, .f32⟩
  | 62 => ⟨S9x64x2, .f32⟩
  | 63 => ⟨S_, .f32⟩
  | 64 => ⟨S9x64x2, .f32⟩
  | 65 => ⟨S9x64x2, .i1⟩
  | 66 => ⟨S9x64x2, .f32⟩
  | 67 => ⟨S_, .f32⟩
  | 68 => ⟨S_, .f32⟩
  | 69 => ⟨S9x64x2, .f32⟩
  | 70 => ⟨S9x64x2, .f32⟩
  | 71 => ⟨S9x64x2, .f32⟩
  | 72 => ⟨S_, .f32⟩
  | 73 => ⟨S9x64x2, .f32⟩
  | 74 => ⟨S9x64x2, .f32⟩
  | 75 => ⟨S_, .f32⟩
  | 76 => ⟨S_, .f32⟩
  | 77 => ⟨S9x64x2, .f32⟩
  | 78 => ⟨S9x64x2, .f32⟩
  | 79 => ⟨S_, .f32⟩
  | 80 => ⟨S9x64x2, .f32⟩
  | 81 => ⟨S9x64x2, .f32⟩
  | 82 => ⟨S9x64x2, .f32⟩
  | 83 => ⟨S_, .f32⟩
  | 84 => ⟨S9x64x2, .f32⟩
  | 85 => ⟨S9x64x2, .f32⟩
  | 86 => ⟨S9x64x1x2x1, .f32⟩
  | 87 => ⟨S9x64x64x2x128, .f32⟩
  | 88 => ⟨S9x64x64x2x128, .f32⟩
  | 89 => ⟨S_, .f32⟩
  | 90 => ⟨S_, .f32⟩
  | 91 => ⟨S_, .f32⟩
  | 92 => ⟨S9x64x64x2x128, .f32⟩
  | 93 => ⟨S9x64x64x2x128, .f32⟩
  | 94 => ⟨S_, .f32⟩
  | 95 => ⟨S9x64x64x2x128, .f32⟩
  | 96 => ⟨S9x64x64x2x128, .f32⟩
  | 97 => ⟨S9x4096x2x128, .f32⟩
  | 98 => ⟨S9x4096x256, .f32⟩
  | 99 => ⟨S9x4096x2x128, .f32⟩
  | 100 => ⟨S9x4096x2x128, .f32⟩
  | 101 => ⟨S_, .f32⟩
  | 102 => ⟨S9x2x128, .f32⟩
  | 103 => ⟨S_, .f32⟩
  | 104 => ⟨S9x2x128, .f32⟩
  | 105 => ⟨S9x2x128, .f32⟩
  | 106 => ⟨S_, .f32⟩
  | 107 => ⟨S9x2x128, .f32⟩
  | 108 => ⟨S9x2x128, .i1⟩
  | 109 => ⟨S9x2x128, .f32⟩
  | 110 => ⟨S_, .f32⟩
  | 111 => ⟨S_, .f32⟩
  | 112 => ⟨S9x2x128, .f32⟩
  | 113 => ⟨S9x2x128, .f32⟩
  | 114 => ⟨S9x2x128, .f32⟩
  | 115 => ⟨S_, .f32⟩
  | 116 => ⟨S9x2x128, .f32⟩
  | 117 => ⟨S9x2x128, .f32⟩
  | 118 => ⟨S_, .f32⟩
  | 119 => ⟨S_, .f32⟩
  | 120 => ⟨S9x2x128, .f32⟩
  | 121 => ⟨S9x2x128, .f32⟩
  | 122 => ⟨S_, .f32⟩
  | 123 => ⟨S9x2x128, .f32⟩
  | 124 => ⟨S9x2x128, .f32⟩
  | 125 => ⟨S9x2x128, .f32⟩
  | 126 => ⟨S_, .f32⟩
  | 127 => ⟨S9x2x128, .f32⟩
  | _ => ⟨S9x4096x1024, .bf16⟩

abbrev hbmTy0_1 (i : Nat) : BufTy := match i % 128 with
  | 0 => ⟨S9x2x128, .f32⟩
  | 1 => ⟨S9x1x2x128, .f32⟩
  | 2 => ⟨S9x4096x2x128, .f32⟩
  | 3 => ⟨S9x4096x2x128, .f32⟩
  | 4 => ⟨S_, .f32⟩
  | 5 => ⟨S_, .f32⟩
  | 6 => ⟨S_, .f32⟩
  | 7 => ⟨S9x4096x2x128, .f32⟩
  | 8 => ⟨S9x4096x2x128, .f32⟩
  | 9 => ⟨S_, .f32⟩
  | 10 => ⟨S9x4096x2x128, .f32⟩
  | 11 => ⟨S9x4096x2x128, .f32⟩
  | 12 => ⟨S9x8x32, .f32⟩
  | 13 => ⟨S9x2x64, .f32⟩
  | 14 => ⟨S9x4096x2x4x128, .f32⟩
  | 15 => ⟨S9x2x4096x4096x4, .f32⟩
  | 16 => ⟨S9x2x4x4096x4096, .f32⟩
  | 17 => ⟨S9x8x32x128, .f32⟩
  | 18 => ⟨S9x8x4096, .f32⟩
  | 19 => ⟨S9x2x4x4096, .f32⟩
  | 20 => ⟨S9x2x64x64, .f32⟩
  | 21 => ⟨S9x2x4096, .f32⟩
  | 22 => ⟨S9x2x4x4096x1, .f32⟩
  | 23 => ⟨S_, .f32⟩
  | 24 => ⟨S_, .f32⟩
  | 25 => ⟨S9x2x4x4096x1, .f32⟩
  | 26 => ⟨S9x2x4x4096x1, .f32⟩
  | 27 => ⟨S9x2x4x4096x4096, .f32⟩
  | 28 => ⟨S9x2x4x4096x4096, .f32⟩
  | 29 => ⟨S9x2x1x1x4096, .f32⟩
  | 30 => ⟨S9x2x4x4096x4096, .f32⟩
  | 31 => ⟨S9x2x4x4096x4096, .f32⟩
  | 32 => ⟨S4096, .i32⟩
  | 33 => ⟨S1x4096, .i32⟩
  | 34 => ⟨S4096x1, .i32⟩
  | 35 => ⟨S4096x4096, .i32⟩
  | 36 => ⟨S4096x4096, .i32⟩
  | 37 => ⟨S4096x4096, .i1⟩
  | 38 => ⟨S1x4096, .i32⟩
  | 39 => ⟨S4096x1, .i32⟩
  | 40 => ⟨S_, .i32⟩
  | 41 => ⟨S4096x1, .i32⟩
  | 42 => ⟨S4096x1, .i32⟩
  | 43 => ⟨S4096x4096, .i32⟩
  | 44 => ⟨S4096x4096, .i32⟩
  | 45 => ⟨S4096x4096, .i1⟩
  | 46 => ⟨S4096x4096, .i1⟩
  | 47 => ⟨S_, .f32⟩
  | 48 => ⟨S_, .f32⟩
  | 49 => ⟨S9x2x4x4096x4096, .i1⟩
  | 50 => ⟨S9x2x4x4096x4096, .f32⟩
  | 51 => ⟨S9x2x4x4096x4096, .f32⟩
  | 52 => ⟨S_, .f32⟩
  | 53 => ⟨S9x2x4x4096, .f32⟩
  | 54 => ⟨S9x2x4x4096x1, .f32⟩
  | 55 => ⟨S9x2x4x4096x4096, .f32⟩
  | 56 => ⟨S9x2x4x4096x4096, .f32⟩
  | 57 => ⟨S9x2x4x4096x4096, .f32⟩
  | 58 => ⟨S_, .f32⟩
  | 59 => ⟨S9x2x4x4096, .f32⟩
  | 60 => ⟨S_, .f32⟩
  | 61 => ⟨S9x2x4x4096x4096, .f32⟩
  | 62 => ⟨S9x2x4x4096x4096, .f32⟩
  | 63 => ⟨S_, .f32⟩
  | 64 => ⟨S_, .f32⟩
  | 65 => ⟨S_, .f32⟩
  | 66 => ⟨S9x2x4x4096x4096, .f32⟩
  | 67 => ⟨S9x2x4x4096x4096, .f32⟩
  | 68 => ⟨S_, .f32⟩
  | 69 => ⟨S9x2x4x4096x4096, .f32⟩
  | 70 => ⟨S9x2x4x4096x4096, .f32⟩
  | 71 => ⟨S9x2x128x4x4096, .f32⟩
  | 72 => ⟨S9x4096x2x4x128, .f32⟩
  | 73 => ⟨S9x1x2x1x128, .f32⟩
  | 74 => ⟨S_, .f32⟩
  | 75 => ⟨S9x1x2x1x128, .f32⟩
  | 76 => ⟨S9x1x2x1x128, .f32⟩
  | 77 => ⟨S9x4096x2x4x128, .f32⟩
  | 78 => ⟨S9x4096x2x4x128, .f32⟩
  | 79 => ⟨S9x4096x2x4, .f32⟩
  | 80 => ⟨S9x4096x2x4x1, .f32⟩
  | 81 => ⟨S9x4096x2x4x128, .f32⟩
  | 82 => ⟨S9x4096x2x4x128, .f32⟩
  | 83 => ⟨S9x4096x1024, .f32⟩
  | 84 => ⟨S9x4096x1024, .bf16⟩
  | 85 => ⟨S9x2x4096x128, .f32⟩
  | 86 => ⟨S9x2x4096x128, .f32⟩
  | 87 => ⟨S9x4096x8x128, .fp8e4m3⟩
  | 88 => ⟨S9x2x4096x128, .fp8e4m3⟩
  | 89 => ⟨S9x2x4096x128, .fp8e4m3⟩
  | _ => ⟨S9x4096x1024, .bf16⟩

abbrev hbmTy (i : Nat) : BufTy := match i / 128 with
  | 0 => hbmTy0_0 i
  | 1 => hbmTy0_1 i
  | _ => ⟨S9x4096x1024, .bf16⟩

abbrev bufTy : (tb : Table) → Fin (tcTables nBuf tb) → BufTy
  | .hbm, ⟨i, _⟩ => hbmTy i
  | .local _ .vmem, ⟨0, _⟩ => ⟨S9x4096x8x128, .f32⟩
  | .local _ .vmem, ⟨1, _⟩ => ⟨S9x2x4096x128, .f32⟩
  | .local _ .vmem, ⟨2, _⟩ => ⟨S9x2x4096x128, .f32⟩
  | .local _ .vmem, ⟨3, _⟩ => ⟨S9x4096x8x128, .fp8e4m3⟩
  | .local _ .vmem, ⟨4, _⟩ => ⟨S9x2x4096x128, .fp8e4m3⟩
  | .local _ .vmem, ⟨5, _⟩ => ⟨S9x2x4096x128, .fp8e4m3⟩
  | _, _ => ⟨S9x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_15 : Ref sig .tc := ⟨.hbm, 72, rfl⟩
abbrev main_v46 : Ref sig .tc := ⟨.hbm, 73, rfl⟩
abbrev main_v47 : Ref sig .tc := ⟨.hbm, 74, rfl⟩
abbrev main_cst_16 : Ref sig .tc := ⟨.hbm, 75, rfl⟩
abbrev main_call2_v0 : Ref sig .tc := ⟨.hbm, 76, rfl⟩
abbrev main_call2_v1 : Ref sig .tc := ⟨.hbm, 77, rfl⟩
abbrev main_v48 : Ref sig .tc := ⟨.hbm, 78, rfl⟩
abbrev main_cst_17 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_18 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_19 : Ref sig .tc := ⟨.hbm, 89, rfl⟩
abbrev main_cst_20 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_21 : Ref sig .tc := ⟨.hbm, 101, rfl⟩
abbrev main_v62 : Ref sig .tc := ⟨.hbm, 102, rfl⟩
abbrev main_cst_22 : Ref sig .tc := ⟨.hbm, 103, rfl⟩
abbrev main_v63 : Ref sig .tc := ⟨.hbm, 104, rfl⟩
abbrev main_v64 : Ref sig .tc := ⟨.hbm, 105, rfl⟩
abbrev main_cst_23 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_24 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_25 : Ref sig .tc := ⟨.hbm, 115, rfl⟩
abbrev main_v72 : Ref sig .tc := ⟨.hbm, 116, rfl⟩
abbrev main_v73 : Ref sig .tc := ⟨.hbm, 117, rfl⟩
abbrev main_cst_26 : Ref sig .tc := ⟨.hbm, 118, rfl⟩
abbrev main_call4_v0 : Ref sig .tc := ⟨.hbm, 119, rfl⟩
abbrev main_call4_v1 : Ref sig .tc := ⟨.hbm, 120, rfl⟩
abbrev main_v74 : Ref sig .tc := ⟨.hbm, 121, rfl⟩
abbrev main_cst_27 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_28 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_29 : Ref sig .tc := ⟨.hbm, 132, rfl⟩
abbrev main_cst_30 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_31 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_c : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_32 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_v117 : Ref sig .tc := ⟨.hbm, 179, rfl⟩
abbrev main_cst_33 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_34 : Ref sig .tc := ⟨.hbm, 186, rfl⟩
abbrev main_v123 : Ref sig .tc := ⟨.hbm, 187, rfl⟩
abbrev main_cst_35 : Ref sig .tc := ⟨.hbm, 188, rfl⟩
abbrev main_v124 : Ref sig .tc := ⟨.hbm, 189, rfl⟩
abbrev main_v125 : Ref sig .tc := ⟨.hbm, 190, rfl⟩
abbrev main_cst_36 : Ref sig .tc := ⟨.hbm, 191, rfl⟩
abbrev main_cst_37 : Ref sig .tc := ⟨.hbm, 192, rfl⟩
abbrev main_call7_v0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_cst_38 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142_0 : Ref sig .tc := ⟨.hbm, 215, rfl⟩
abbrev main_v142_1 : Ref sig .tc := ⟨.hbm, 216, rfl⟩
abbrev main_v142_2 : Ref sig .tc := ⟨.hbm, 217, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9x4096x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x2x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x2x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x4096x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x2x4096x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x2x4096x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Share.lean ====
module

public import proofs.«01_k».proof.Proof.Gen.Kernel.Frame
public import proofs.«01_k».proof.Proof.Gen.Kernel.Skeleton
public import Idealize.ShloMosaic.Lib.Pipeline.DatRel
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the runs of the three kinds of grid points share: the conditions in closed form, the buffers a point is given,
and the frame read off a run. -/

/-- The frame from a run of the pipeline, for proof data of any kind over the arrays the region finds. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- The first condition holds at the first point of a batch entry. -/
theorem hcond1 : ∀ t : Fin cfg0.N, k0_cond1 (grid0.coords t) = 1#1 ↔ t.val % 16 = 0 :=
  (fun t => by
    have ht : t.val < 144 := Nat.lt_of_lt_of_eq t.isLt N_0
    have e0 : (grid0.coords t 0).val = t.val / 16 % 9 := Pipeline.Grid.coords_val t 0 (by decide) rfl
    have e1 : (grid0.coords t 1).val = t.val / 1 % 16 := Pipeline.Grid.coords_val t 1 (by decide) rfl
    simp only [k0_cond1, e0, e1]
    word_cmp
   : ∀ t : Fin grid0.N, k0_cond1 (grid0.coords t) = 1#1 ↔ t.val % 16 = 0)

/-- The second condition holds at the first four points of a batch entry. -/
theorem hcond2 : ∀ t : Fin cfg0.N, k0_cond2 (grid0.coords t) = 1#1 ↔ t.val % 16 < 4 :=
  (fun t => by
    have ht : t.val < 144 := Nat.lt_of_lt_of_eq t.isLt N_0
    have e0 : (grid0.coords t 0).val = t.val / 16 % 9 := Pipeline.Grid.coords_val t 0 (by decide) rfl
    have e1 : (grid0.coords t 1).val = t.val / 1 % 16 := Pipeline.Grid.coords_val t 1 (by decide) rfl
    simp only [k0_cond2, e0, e1]
    word_cmp
   : ∀ t : Fin grid0.N, k0_cond2 (grid0.coords t) = 1#1 ↔ t.val % 16 < 4)

/-- The third condition holds at the other points of a batch entry. -/
theorem hcond3 : ∀ t : Fin cfg0.N, k0_cond3 (grid0.coords t) = 1#1 ↔ 4 ≤ t.val % 16 :=
  (fun t => by
    have ht : t.val < 144 := Nat.lt_of_lt_of_eq t.isLt N_0
    have e0 : (grid0.coords t 0).val = t.val / 16 % 9 := Pipeline.Grid.coords_val t 0 (by decide) rfl
    have e1 : (grid0.coords t 1).val = t.val / 1 % 16 := Pipeline.Grid.coords_val t 1 (by decide) rfl
    simp only [k0_cond3, e0, e1]
    word_cmp
   : ∀ t : Fin grid0.N, k0_cond3 (grid0.coords t) = 1#1 ↔ 4 ≤ t.val % 16)

/-! No input is ever idle. -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl

/-! The windows' staging buffers at a point, and the scratch buffers. -/

abbrev ms0 (t : Fin cfg0.N) : Memref sig .tc .vmem S1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x8x128 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2x4096x128 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2x4096x128 .fp8e4m3 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2x128 .f32 := win0_9.stage (cfg0.slots t 9)
abbrev hs9 (t : Fin cfg0.N) : (ms9 t).IsWhole := hstage0_9 ((cfg0.slots t 9).cast nbuf0_9)
abbrev sc0 : Memref sig .tc .vmem S2x64x128 .f32 := Memref.whole cc0_scratch0
abbrev sc1 : Memref sig .tc .vmem S2x128x4096 .fp8e4m3 := Memref.whole cc0_scratch1
abbrev sc2 : Memref sig .tc .vmem S2x2x512x128 .fp8e4m3 := Memref.whole cc0_scratch2
abbrev sc3 : Memref sig .tc .vmem S2x2x8x128 .f32 := Memref.whole cc0_scratch3
abbrev sc4 : Memref sig .tc .vmem S1152x512 .f32 := Memref.whole cc0_scratch4
abbrev sc5 : Memref sig .tc .vmem S1152x512 .fp8e4m3 := Memref.whole cc0_scratch5

/-- What a point is given beside its windows: the scratch buffers at some contents, and the generator's register. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

end Cert.Kernel.Hand

end
-- ==== Proof.Bits.RunA.lean ====
module

public import proofs.«01_k».proof.Proof.Gen.Kernel.Loops
public import proofs.«01_k».proof.Proof.Gen.Kernel.Frame

@[expose] public section

set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000000 in
theorem runA (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x0 : Vec F S1x256x1024 .bf16) (x1 : Vec F S1x4096x256 .bf16) (x2 : Vec F S1x4096x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_sage_fp8_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    unfold cc0_sage_fp8_window_attention
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Kernel.Hand

end
-- ==== Proof.Bits.RunB.lean ====
module

public import proofs.«01_k».proof.Proof.Gen.Kernel.Loops
public import proofs.«01_k».proof.Proof.Gen.Kernel.Frame

@[expose] public section

set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000000 in
theorem runB (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : k0_cond2 i = 1#1) (hc2 : ¬ k0_cond3 i = 1#1)
    (x0 : Vec F S1x256x1024 .bf16) (x1 : Vec F S1x4096x256 .bf16) (x2 : Vec F S1x4096x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_sage_fp8_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    unfold cc0_sage_fp8_window_attention
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Kernel.Hand

end
-- ==== Proof.Bits.RunC.lean ====
module

public import proofs.«01_k».proof.Proof.Gen.Kernel.Loops
public import proofs.«01_k».proof.Proof.Gen.Kernel.Frame

@[expose] public section

set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000000 in
theorem runC (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : ¬ k0_cond2 i = 1#1) (hc2 : k0_cond3 i = 1#1)
    (x0 : Vec F S1x256x1024 .bf16) (x1 : Vec F S1x4096x256 .bf16) (x2 : Vec F S1x4096x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_sage_fp8_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    unfold cc0_sage_fp8_window_attention
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Kernel.Hand

end
-- ==== Proof.Bits.Frame.lean ====
module

public import proofs.«01_k».proof.Proof.Bits.Share
public import proofs.«01_k».proof.Proof.Bits.RunA
public import proofs.«01_k».proof.Proof.Bits.RunB
public import proofs.«01_k».proof.Proof.Bits.RunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The frame of the kernel: it ends, its arguments unchanged and its counters at zero. Nothing is said of its results. -/

/-- The windows of which nothing is said. -/
def forgets : Fin 10 → Bool := fun w => decide (3 ≤ w.val)

/-- The proof data: the arrays as the region finds them, and each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]

theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]

theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]

theorem before2 (c : Dev nD) (t : Fin cfg0.N) (d) : (dats m 0 c).before 2 t d = iblk m c 2 t :=
  before0_2_of m (dats m 0 c) (A_eq m c 2) (after2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d)
    ∗ (∃ d, owns (c : Thread nD τ) (ms4 t) fullShare d)
    ∗ (∃ d, owns (c : Thread nD τ) (ms5 t) fullShare d)
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms3 t) fullShare d)
    ∗ (∃ d, owns (c : Thread nD τ) (ms4 t) fullShare d)
    ∗ (∃ d, owns (c : Thread nD τ) (ms5 t) fullShare d)
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d))

set_option maxHeartbeats 2400000 in
/-- A point of any kind keeps the invariant, from the run of its kind. -/
theorem sound_of (c : Dev nD) (t : Fin cfg0.N)
    (hrun : ∀ (K : PUnit → sProp 𝕄),
      iprop(owns (c : Thread nD τ) (ms0 t) fullShare (iblk m c 0 t) ∗ owns (c : Thread nD τ) (ms1 t) fullShare (iblk m c 1 t) ∗ owns (c : Thread nD τ) (ms2 t) fullShare (iblk m c 2 t) ∗ (∃ d, owns (c : Thread nD τ) (ms3 t) fullShare d) ∗ (∃ d, owns (c : Thread nD τ) (ms4 t) fullShare d) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ (∃ d, owns (c : Thread nD τ) (ms3 t) fullShare d) ∗ (∃ d, owns (c : Thread nD τ) (ms4 t) fullShare d) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) -∗ K ⟨⟩)) ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0, before1, before2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  iintro ⟨⟨⟨HS0, HS1, HS2, HS3, HS4, HS5⟩, Hg⟩, Ho, ⟨%d0, H0⟩, ⟨%d1, H1⟩, ⟨%d2, H2⟩, H3, H4, H5, H6, H7, H8, H9⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2400000 in
/-- Every point keeps the invariant. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_of m c t fun K => runA c (grid0.coords t) _ _ _ _ _ _ _ _ _ _ _ _ _ _ _ _ _ _ _ _ _ _ _ _ _ _ _ _ _ _ _ _ ((hcond1 t).mpr h0) ((hcond2 t).mpr (by omega)) (fun h => by have := (hcond3 t).mp h; omega) (iblk m c 0 t) (iblk m c 1 t) (iblk m c 2 t) Set.univ K
  by_cases h1 : t.val % 16 < 4
  · exact sound_of m c t fun K => runB c (grid0.coords t) _ _ _ _ _ _ _ _ _ _ _ _ _ _ _ _ _ _ _ _ _ _ _ _ _ _ _ _ _ _ _ _ (fun h => h0 ((hcond1 t).mp h)) ((hcond2 t).mpr h1) (fun h => by have := (hcond3 t).mp h; omega) (iblk m c 0 t) (iblk m c 1 t) (iblk m c 2 t) Set.univ K
  · exact sound_of m c t fun K => runC c (grid0.coords t) _ _ _ _ _ _ _ _ _ _ _ _ _ _ _ _ _ _ _ _ _ _ _ _ _ _ _ _ _ _ _ _ (fun h => h0 ((hcond1 t).mp h)) (fun h => h1 ((hcond2 t).mp h)) ((hcond3 t).mpr (by omega)) (iblk m c 0 t) (iblk m c 1 t) (iblk m c 2 t) Set.univ K

/-- The body obligation of the pipeline. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: the run ends, with every counter at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (fun c => (dats m 0 c).toRForget forgets) (A_eq m) ((θ_run defs _ _).mono (fun _ h => h.1) (run_main_quiescent m ρ)))
    ((θ_run defs _ _).mono (fun _ h => h.2) (run_main_quiescent m ρ))

end Cert.Kernel.Hand

end
-- ==== Proof.Ideal.Share.lean ====
module

public import proofs.«01_k».proof.Proof.Gen.KernelIdeal.Frame
public import proofs.«01_k».proof.Proof.Gen.KernelIdeal.Skeleton
public import Idealize.ShloMosaic.Lib.Pipeline.DatRel
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! What the runs of the three kinds of grid points share: the conditions in closed form, the buffers a point is given,
and the frame read off a run. -/

/-- The frame from a run of the pipeline, for proof data of any kind over the arrays the region finds. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- The first condition holds at the first point of a batch entry. -/
theorem hcond1 : ∀ t : Fin cfg0.N, k0_cond1 (grid0.coords t) = 1#1 ↔ t.val % 16 = 0 :=
  (fun t => by
    have ht : t.val < 144 := Nat.lt_of_lt_of_eq t.isLt N_0
    have e0 : (grid0.coords t 0).val = t.val / 16 % 9 := Pipeline.Grid.coords_val t 0 (by decide) rfl
    have e1 : (grid0.coords t 1).val = t.val / 1 % 16 := Pipeline.Grid.coords_val t 1 (by decide) rfl
    simp only [k0_cond1, e0, e1]
    word_cmp
   : ∀ t : Fin grid0.N, k0_cond1 (grid0.coords t) = 1#1 ↔ t.val % 16 = 0)

/-- The second condition holds at the first four points of a batch entry. -/
theorem hcond2 : ∀ t : Fin cfg0.N, k0_cond2 (grid0.coords t) = 1#1 ↔ t.val % 16 < 4 :=
  (fun t => by
    have ht : t.val < 144 := Nat.lt_of_lt_of_eq t.isLt N_0
    have e0 : (grid0.coords t 0).val = t.val / 16 % 9 := Pipeline.Grid.coords_val t 0 (by decide) rfl
    have e1 : (grid0.coords t 1).val = t.val / 1 % 16 := Pipeline.Grid.coords_val t 1 (by decide) rfl
    simp only [k0_cond2, e0, e1]
    word_cmp
   : ∀ t : Fin grid0.N, k0_cond2 (grid0.coords t) = 1#1 ↔ t.val % 16 < 4)

/-- The third condition holds at the other points of a batch entry. -/
theorem hcond3 : ∀ t : Fin cfg0.N, k0_cond3 (grid0.coords t) = 1#1 ↔ 4 ≤ t.val % 16 :=
  (fun t => by
    have ht : t.val < 144 := Nat.lt_of_lt_of_eq t.isLt N_0
    have e0 : (grid0.coords t 0).val = t.val / 16 % 9 := Pipeline.Grid.coords_val t 0 (by decide) rfl
    have e1 : (grid0.coords t 1).val = t.val / 1 % 16 := Pipeline.Grid.coords_val t 1 (by decide) rfl
    simp only [k0_cond3, e0, e1]
    word_cmp
   : ∀ t : Fin grid0.N, k0_cond3 (grid0.coords t) = 1#1 ↔ 4 ≤ t.val % 16)

/-! No input is ever idle. -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl

/-! The windows' staging buffers at a point, and the scratch buffers. -/

abbrev ms0 (t : Fin cfg0.N) : Memref sig .tc .vmem S1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x8x128 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2x4096x128 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2x4096x128 .fp8e4m3 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2x128 .f32 := win0_9.stage (cfg0.slots t 9)
abbrev hs9 (t : Fin cfg0.N) : (ms9 t).IsWhole := hstage0_9 ((cfg0.slots t 9).cast nbuf0_9)
abbrev sc0 : Memref sig .tc .vmem S2x64x128 .f32 := Memref.whole cc0_scratch0
abbrev sc1 : Memref sig .tc .vmem S2x128x4096 .fp8e4m3 := Memref.whole cc0_scratch1
abbrev sc2 : Memref sig .tc .vmem S2x2x512x128 .fp8e4m3 := Memref.whole cc0_scratch2
abbrev sc3 : Memref sig .tc .vmem S2x2x8x128 .f32 := Memref.whole cc0_scratch3
abbrev sc4 : Memref sig .tc .vmem S1152x512 .f32 := Memref.whole cc0_scratch4
abbrev sc5 : Memref sig .tc .vmem S1152x512 .fp8e4m3 := Memref.whole cc0_scratch5

/-- What a point is given beside its windows: the scratch buffers at some contents, and the generator's register. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.Ideal.QGen.lean ====
module

public import proofs.«01_k».proof.Proof.Gen.KernelIdeal.Skeleton
public import proofs.«01_k».proof.Proof.Gen.KernelIdeal.Loops
public import proofs.«01_k».proof.Proof.Gen.KernelIdeal.Frame

/-! The quantiser of the kernel as functions of vectors: the search for a scale, the scales of a block of 128 query
rows, and its codes. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section Search

variable {S : Shape}

/-- One step of the search for a biased exponent. -/
def vstep (y : FVec F S .f32) (b : BitVec 32) (e : IVec S 32) : IVec S 32 :=
  select (cmpf .oge y (bitcastToFloat .f32 (shli (addi e (broadcast S b)) (broadcast S 23#32)))) (addi e (broadcast S b)) e

/-- The biased exponent of each element. -/
def vexp (y : FVec F S .f32) : IVec S 32 :=
  vstep y 1#32 (vstep y 2#32 (vstep y 4#32 (vstep y 8#32 (vstep y 16#32 (vstep y 32#32 (vstep y 64#32 (vstep y 128#32 (broadcast S 0#32))))))))

/-- The same, an exponent of zero replaced. -/
def vsel (y : FVec F S .f32) : IVec S 32 := select (cmpi .eq (vexp y) (broadcast S 0#32)) (broadcast S 126#32) (vexp y)

/-- The power of two above each element. -/
def vscale (y : FVec F S .f32) : FVec F S .f32 :=
  bitcastToFloat .f32 (shli (addi (vsel y) (broadcast S 1#32)) (broadcast S 23#32))

/-- Its inverse. -/
def vinv (y : FVec F S .f32) : FVec F S .f32 :=
  bitcastToFloat .f32 (shli (subi (broadcast S 253#32) (vsel y)) (broadcast S 23#32))

end Search

/-- The maxima of one head's block over groups of rows. -/
def qHeadMax (l : Vec F S1x128x128 .bf16) : FVec F S1x16x128 .f32 :=
  shapeCast S1x16x128 (extf .f32 (multiReduction .maximumf [0] S16x128
    (shapeCast S8x16x128 (absf (shapeCast S128x128 l shapeCasts_S1x128x128_S128x128)) shapeCasts_S128x128_S8x16x128)
    0xFF80#16 reduces_S8x16x128_S16x128 (.inr rfl) rfl) bitsLt_bf16_f32) shapeCasts_S16x128_S1x16x128

/-- The maximum magnitudes of the eight heads' blocks, over the largest code. -/
def qY (l : Fin 8 → Vec F S1x128x128 .bf16) : FVec F S8x1 .f32 :=
  mulf (shapeCast S8x1 (multiReduction .maximumf [1] S8 (multiReduction .maximumf [1] S8x128
    (concatenate S8x16x128 0 [⟨S1x16x128, qHeadMax (l 0)⟩, ⟨S1x16x128, qHeadMax (l 1)⟩, ⟨S1x16x128, qHeadMax (l 2)⟩, ⟨S1x16x128, qHeadMax (l 3)⟩,
      ⟨S1x16x128, qHeadMax (l 4)⟩, ⟨S1x16x128, qHeadMax (l 5)⟩, ⟨S1x16x128, qHeadMax (l 6)⟩, ⟨S1x16x128, qHeadMax (l 7)⟩]
      concatenates_S1x16x128_S1x16x128_S1x16x128_S1x16x128_S1x16x128_S1x16x128_S1x16x128_S1x16x128_S8x16x128_d0)
    0xFF800000#32 reduces_S8x16x128_S8x128 (.inl rfl) rfl) 0xFF800000#32 reduces_S8x128_S8 (.inl rfl) rfl) shapeCasts_S8_S8x1)
    (broadcast S8x1 (FloatOps.ofBits .f32 0x3B124925#32))

/-- The slice of a column of eight at one of its rows. -/
theorem slices_S8x1 (h : Fin 8) : S8x1.Slices ![h.val, 0] S1x1 := by revert h; decide

/-- The codes of one head's block under the inverses of the scales. -/
def qCode (l : Vec F S1x128x128 .bf16) (inv : FVec F S8x1 .f32) (h : Fin 8) : FVec F S128x128 .fp8e4m3 :=
  truncf .fp8e4m3 (minimumf (broadcast S128x128 (Scalar.truncf .bf16 bitsLt_bf16_f32 (FloatOps.ofBits .f32 0x43E00000#32)))
    (maximumf (broadcast S128x128 (Scalar.truncf .bf16 bitsLt_bf16_f32 (FloatOps.ofBits .f32 0xC3E00000#32)))
      (mulf (shapeCast S128x128 l shapeCasts_S1x128x128_S128x128)
        (broadcastTo S128x128 (extractStridedSlice S1x1 ![h.val, 0] (truncf .bf16 inv bitsLt_bf16_f32) (slices_S8x1 h)) broadcasts_S1x1_S128x128))))
    bitsLt_fp8e4m3_bf16

/-- The codes of four neighbouring heads, as stored. -/
def qPack (l : Fin 8 → Vec F S1x128x128 .bf16) (g : Fin 2) : FVec F S1x128x4x128 .fp8e4m3 :=
  shapeCast S1x128x4x128 (concatenate S128x4x128 1
    [⟨S128x1x128, shapeCast S128x1x128 (qCode (l ⟨4 * g, by omega⟩) (vinv (qY l)) ⟨4 * g, by omega⟩) shapeCasts_S128x128_S128x1x128⟩,
     ⟨S128x1x128, shapeCast S128x1x128 (qCode (l ⟨4 * g + 1, by omega⟩) (vinv (qY l)) ⟨4 * g + 1, by omega⟩) shapeCasts_S128x128_S128x1x128⟩,
     ⟨S128x1x128, shapeCast S128x1x128 (qCode (l ⟨4 * g + 2, by omega⟩) (vinv (qY l)) ⟨4 * g + 2, by omega⟩) shapeCasts_S128x128_S128x1x128⟩,
     ⟨S128x1x128, shapeCast S128x1x128 (qCode (l ⟨4 * g + 3, by omega⟩) (vinv (qY l)) ⟨4 * g + 3, by omega⟩) shapeCasts_S128x128_S128x1x128⟩]
    concatenates_S128x1x128_S128x1x128_S128x1x128_S128x1x128_S128x4x128_d1) shapeCasts_S128x4x128_S1x128x4x128

/-- The table of scales with the column of one block set. -/
def qsPut (l : Fin 8 → Vec F S1x128x128 .bf16) (b : BitVec 32) (old : Vec F S1x8x32 .f32) : FVec F S1x8x32 .f32 :=
  shapeCast S1x8x32 (select (cmpi .eq (iota .tc S8x32 32 [1] iota_S8x32_d1_w32) (broadcast S8x32 b))
    (broadcastTo S8x32 (shapeCast S8x1 (vscale (qY l)) shapeCasts_S8x1_S8x1) broadcasts_S8x1_S8x32)
    (shapeCast S8x32 old shapeCasts_S1x8x32_S8x32)) shapeCasts_S8x32_S1x8x32

theorem inb_qload (rb : Fin 2) (h : Fin 8) : ∀ a : Fin 3, (![0, 128 * rb.val, 128 * h.val] : Fin 3 → ℕ) a + S1x128x128.size a ≤ S1x256x1024.size a := by
  revert rb h; decide

/-- The block that the body loads for a head. -/
def qLoad (arg2 : Memref sig .tc .vmem S1x256x1024 .bf16) (harg2 : arg2.IsWhole) (x2 : Vec F S1x256x1024 .bf16) (rb : Fin 2) (h : Fin 8) :
    Vec F S1x128x128 .bf16 :=
  View.readAt (Elt F) arg2.view (Rect.unit (s := S1x256x1024) ![0, 128 * rb.val, 128 * h.val] S1x128x128.size (inb_qload rb h)).toLoadRect (harg2.unread x2)

theorem inb_qstore (rb g : Fin 2) : ∀ a : Fin 4, (![0, 128 * rb.val, 4 * g.val, 0] : Fin 4 → ℕ) a + S1x128x4x128.size a ≤ S1x256x8x128.size a := by
  revert rb g; decide

/-- The piece of the codes that four heads of a block make. -/
def qPiece (ld : Fin 2 → Fin 8 → Vec F S1x128x128 .bf16) (rb g : Fin 2) : View.Piece (Elt F) S1x256x8x128 .fp8e4m3 :=
  ⟨Rect.unit (s := S1x256x8x128) ![0, 128 * rb.val, 4 * g.val, 0] S1x128x4x128.size (inb_qstore rb g), qPack (ld rb) g⟩

theorem inb_qs : ∀ a : Fin 3, (![0, 0, 0] : Fin 3 → ℕ) a + S1x8x32.size a ≤ S1x8x32.size a := by decide

/-- The number of a point's first block. -/
def qBlk (i : grid0.Coords) (rb : BitVec 32) : BitVec 32 := Scalar.addi (Scalar.muli (BitVec.ofNat 32 (i 1).val) 2#32) rb

/-- The pieces of the table of scales that a point makes over the pieces `H`, whose contents are `old`. -/
def qsPieces (arg7 : Memref sig .tc .vmem S1x8x32 .f32) (i : grid0.Coords) (ld : Fin 2 → Fin 8 → Vec F S1x128x128 .bf16) (old : Vec F S1x8x32 .f32)
    (H : List (View.Piece (Elt F) S1x8x32 .f32)) : List (View.Piece (Elt F) S1x8x32 .f32) :=
  ⟨Rect.unit (s := S1x8x32) ![0, 0, 0] S1x8x32.size inb_qs, qsPut (ld 1) (qBlk i 1#32) (arg7.view.readCov
      (⟨Rect.unit (s := S1x8x32) ![0, 0, 0] S1x8x32.size inb_qs, qsPut (ld 0) (qBlk i 0#32) old⟩ :: H) (Rect.unit (s := S1x8x32) ![0, 0, 0] S1x8x32.size inb_qs).toLoadRect)⟩ ::
   ⟨Rect.unit (s := S1x8x32) ![0, 0, 0] S1x8x32.size inb_qs, qsPut (ld 0) (qBlk i 0#32) old⟩ :: H

/-- The piece that clears the table of scales. -/
def qsZero : View.Piece (Elt F) S1x8x32 .f32 := ⟨Rect.unit (s := S1x8x32) ![0, 0, 0] S1x8x32.size inb_qs, k0_pay53⟩

end Cert.KernelIdeal.Hand

end
-- ==== Proof.Ideal.KGen.lean ====
module

public import proofs.«01_k».proof.Proof.Ideal.QGen

/-! The preparation of the keys and of the values as functions of vectors: the codes of the values, plain and transposed,
and the scales and the codes of the keys less their mean. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The slice of a row of 256 at one of its halves. -/
theorem slices_half (n : Fin 2) : S1x256.Slices ![0, 128 * n.val] S1x128 := by revert n; decide

/-- The clipped codes of 512 rows of one head's values. -/
def vCode (inv : FVec F S1x256 .bf16) (n : Fin 2) (l : Vec F S1x512x128 .bf16) : FVec F S512x128 .bf16 :=
  minimumf (broadcast S512x128 (Scalar.truncf .bf16 bitsLt_bf16_f32 (FloatOps.ofBits .f32 0x43E00000#32)))
    (maximumf (broadcast S512x128 (Scalar.truncf .bf16 bitsLt_bf16_f32 (FloatOps.ofBits .f32 0xC3E00000#32)))
      (mulf (shapeCast S512x128 l shapeCasts_S1x512x128_S512x128)
        (broadcastTo S512x128 (extractStridedSlice S1x128 ![0, 128 * n.val] inv (slices_half n)) broadcasts_S1x128_S512x128)))

/-- The codes, as stored. -/
def vPack (inv : FVec F S1x256 .bf16) (n : Fin 2) (l : Vec F S1x512x128 .bf16) : FVec F S1x1x512x128 .fp8e4m3 :=
  shapeCast S1x1x512x128 (truncf .fp8e4m3 (vCode inv n l) bitsLt_fp8e4m3_bf16) shapeCasts_S512x128_S1x1x512x128

/-- The codes transposed, as stored. -/
def vTrans (inv : FVec F S1x256 .bf16) (n : Fin 2) (l : Vec F S1x512x128 .bf16) : FVec F S1x128x512 .fp8e4m3 :=
  shapeCast S1x128x512 (truncf .fp8e4m3 (transpose S128x512 [1, 0] (vCode inv n l) transposes_S512x128_p1_0_S128x512) bitsLt_fp8e4m3_bf16)
    shapeCasts_S128x512_S1x128x512

/-- 512 rows of one head's keys less their mean. -/
def kSub (mean : FVec F S1x256 .f32) (n : Fin 2) (l : Vec F S1x512x128 .bf16) : FVec F S512x128 .f32 :=
  subf (extf .f32 (shapeCast S512x128 l shapeCasts_S1x512x128_S512x128) bitsLt_bf16_f32)
    (broadcastTo S512x128 (extractStridedSlice S1x128 ![0, 128 * n.val] mean (slices_half n)) broadcasts_S1x128_S512x128)

/-- The maximum magnitudes of the eight blocks of 64 rows, over the largest code. -/
def kY (mean : FVec F S1x256 .f32) (n : Fin 2) (l : Vec F S1x512x128 .bf16) : FVec F S8x1 .f32 :=
  mulf (shapeCast S8x1 (multiReduction .maximumf [1] S8 (multiReduction .maximumf [1] S8x128
    (shapeCast S8x64x128 (absf (kSub mean n l)) shapeCasts_S512x128_S8x64x128)
    0xFF800000#32 reduces_S8x64x128_S8x128 (.inl rfl) rfl) 0xFF800000#32 reduces_S8x128_S8 (.inl rfl) rfl) shapeCasts_S8_S8x1)
    (broadcast S8x1 (FloatOps.ofBits .f32 0x3B124925#32))

/-- The scales of the eight blocks, as stored. -/
def kPut (mean : FVec F S1x256 .f32) (n : Fin 2) (l : Vec F S1x512x128 .bf16) : FVec F S1x8x128 .f32 :=
  shapeCast S1x8x128 (broadcastTo S8x128 (shapeCast S8x1 (vscale (kY mean n l)) shapeCasts_S8x1_S8x1) broadcasts_S8x1_S8x128) shapeCasts_S8x128_S1x8x128

theorem slices_rows (b : Fin 8) : S512x128.Slices ![64 * b.val, 0] S64x128 := by revert b; decide

/-- The codes of one block of 64 rows, as stored. -/
def kCode (mean : FVec F S1x256 .f32) (n : Fin 2) (l : Vec F S1x512x128 .bf16) (b : Fin 8) : FVec F S1x1x64x128 .fp8e4m3 :=
  shapeCast S1x1x64x128 (truncf .fp8e4m3 (minimumf (broadcast S64x128 (FloatOps.ofBits .f32 0x43E00000#32))
    (maximumf (broadcast S64x128 (FloatOps.ofBits .f32 0xC3E00000#32))
      (mulf (extractStridedSlice S64x128 ![64 * b.val, 0] (kSub mean n l) (slices_rows b))
        (broadcastTo S64x128 (extractStridedSlice S1x1 ![b.val, 0] (vinv (kY mean n l)) (slices_S8x1 b)) broadcasts_S1x1_S64x128))))
    bitsLt_fp8e4m3_f32) shapeCasts_S64x128_S1x1x64x128

/-- The scales of one head's 64 blocks, as stored: the diagonal of a square of their table. -/
def kDiag (l : Vec F S1x64x128 .f32) : FVec F S1x1x64 .f32 :=
  shapeCast S1x1x64 (extractStridedSlice S1x64 ![0, 0] (shapeCast S1x128 (multiReduction .add [0] S128
    (select (cmpi .eq (iota .tc S64x128 32 [0] iota_S64x128_d0_w32) (iota .tc S64x128 32 [1] iota_S64x128_d1_w32))
      (shapeCast S64x128 l shapeCasts_S1x64x128_S64x128) (broadcast S64x128 (FloatOps.ofBits .f32 0x00000000#32)))
    0x00000000#32 reduces_S64x128_S128 (.inl rfl) rfl) shapeCasts_S128_S1x128) slices_S1x128_o0_0_S1x64) shapeCasts_S1x64_S1x1x64

/-! Where a trip loads and stores. -/

theorem off1 : ∀ k : Fin k0_t1_loop.trips, k0_off1 k = ![0, 512 * k.val, 0] := by decide +kernel
theorem off2 : ∀ k : Fin k0_t2_loop.trips, k0_off2 k = ![0, 512 * k.val, 0] := by decide +kernel
theorem off7 : ∀ k : Fin k0_t2_loop.trips, k0_off7 k = ![0, 512 * k.val, 128] := by decide +kernel
theorem off3 : ∀ k : Fin k0_t2_loop.trips, k0_off3 k = ![0, 8 * k.val, 0] := by decide +kernel
theorem off8 : ∀ k : Fin k0_t2_loop.trips, k0_off8 k = ![1, 8 * k.val, 0] := by decide +kernel
theorem off4 : ∀ (k : Fin k0_t2_loop.trips) (b : Fin 8), k0_off4 k (BitVec.ofNat 32 (64 * b.val)) = ![0, 0, 512 * k.val + 64 * b.val, 0] := by decide +kernel
theorem off9 : ∀ (k : Fin k0_t2_loop.trips) (b : Fin 8), k0_off9 k (BitVec.ofNat 32 (64 * b.val)) = ![0, 1, 512 * k.val + 64 * b.val, 0] := by decide +kernel
theorem off5 : ∀ k : Fin k0_t2_loop.trips, k0_off5 k = ![0, 0, 512 * k.val, 0] := by decide +kernel
theorem off10 : ∀ k : Fin k0_t2_loop.trips, k0_off10 k = ![0, 1, 512 * k.val, 0] := by decide +kernel
theorem off6 : ∀ k : Fin k0_t2_loop.trips, k0_off6 k = ![0, 0, 512 * k.val] := by decide +kernel
theorem off11 : ∀ k : Fin k0_t2_loop.trips, k0_off11 k = ![1, 0, 512 * k.val] := by decide +kernel

theorem inb1 : ∀ (k : Fin k0_t1_loop.trips) (a : Fin 3), k0_off1 k a + S1x512x256.size a ≤ S1x4096x256.size a := by decide +kernel

/-- The 512 rows, both heads, that the first loop loads at a trip. -/
def kvLoad1 (arg : Memref sig .tc .vmem S1x4096x256 .bf16) (X : arg.view.ty.Contents (Elt F)) (k : Fin k0_t1_loop.trips) : Vec F S1x512x256 .bf16 :=
  View.readAt (Elt F) arg.view (Rect.unit (s := S1x4096x256) (k0_off1 k) S1x512x256.size (inb1 k)).toLoadRect X

/-- The offsets of the rows that the second loop loads for a head. -/
def kvOff (n : Fin 2) (k : Fin k0_t2_loop.trips) : Fin 3 → ℕ := if n = 0 then k0_off2 k else k0_off7 k

theorem kvOff_eq : ∀ (n : Fin 2) (k : Fin k0_t2_loop.trips), kvOff n k = ![0, 512 * k.val, 128 * n.val] := by decide +kernel

theorem inb_kv : ∀ (n : Fin 2) (k : Fin k0_t2_loop.trips) (a : Fin 3), kvOff n k a + S1x512x128.size a ≤ S1x4096x256.size a := by decide +kernel

/-- The 512 rows that the second loop loads for a head. -/
def kvLoad (arg : Memref sig .tc .vmem S1x4096x256 .bf16) (X : arg.view.ty.Contents (Elt F)) (n : Fin 2) (k : Fin k0_t2_loop.trips) : Vec F S1x512x128 .bf16 :=
  View.readAt (Elt F) arg.view (Rect.unit (s := S1x4096x256) (kvOff n k) S1x512x128.size (inb_kv n k)).toLoadRect X

/-- The offsets of the codes of one block of keys. -/
def kcOff (n : Fin 2) (k : Fin k0_t2_loop.trips) (b : Fin 8) : Fin 4 → ℕ :=
  if n = 0 then k0_off4 k (BitVec.ofNat 32 (64 * b.val)) else k0_off9 k (BitVec.ofNat 32 (64 * b.val))
theorem kcOff_eq : ∀ (n : Fin 2) (k : Fin k0_t2_loop.trips) (b : Fin 8), kcOff n k b = ![0, n.val, 512 * k.val + 64 * b.val, 0] := by decide +kernel
theorem inb_kc : ∀ (n : Fin 2) (k : Fin k0_t2_loop.trips) (b : Fin 8) (a : Fin 4), kcOff n k b a + S1x1x64x128.size a ≤ S1x2x4096x128.size a := by decide +kernel

/-- The offsets of the scales of a trip's keys. -/
def ksOff (n : Fin 2) (k : Fin k0_t2_loop.trips) : Fin 3 → ℕ := if n = 0 then k0_off3 k else k0_off8 k
theorem ksOff_eq : ∀ (n : Fin 2) (k : Fin k0_t2_loop.trips), ksOff n k = ![n.val, 8 * k.val, 0] := by decide +kernel
theorem inb_ks : ∀ (n : Fin 2) (k : Fin k0_t2_loop.trips) (a : Fin 3), ksOff n k a + S1x8x128.size a ≤ S2x64x128.size a := by decide +kernel

/-- The offsets of the codes of a trip's values, -/
def vcOff (n : Fin 2) (k : Fin k0_t2_loop.trips) : Fin 4 → ℕ := if n = 0 then k0_off5 k else k0_off10 k
theorem vcOff_eq : ∀ (n : Fin 2) (k : Fin k0_t2_loop.trips), vcOff n k = ![0, n.val, 512 * k.val, 0] := by decide +kernel
theorem inb_vc : ∀ (n : Fin 2) (k : Fin k0_t2_loop.trips) (a : Fin 4), vcOff n k a + S1x1x512x128.size a ≤ S1x2x4096x128.size a := by decide +kernel

/-- and of the same transposed. -/
def vtOff (n : Fin 2) (k : Fin k0_t2_loop.trips) : Fin 3 → ℕ := if n = 0 then k0_off6 k else k0_off11 k
theorem vtOff_eq : ∀ (n : Fin 2) (k : Fin k0_t2_loop.trips), vtOff n k = ![n.val, 0, 512 * k.val] := by decide +kernel
theorem inb_vt : ∀ (n : Fin 2) (k : Fin k0_t2_loop.trips) (a : Fin 3), vtOff n k a + S1x128x512.size a ≤ S2x128x4096.size a := by decide +kernel

/-- The pieces that a trip stores, head by head. -/
def kcPiece (mean : FVec F S1x256 .f32) (ld : Fin 2 → Vec F S1x512x128 .bf16) (k : Fin k0_t2_loop.trips) (n : Fin 2) (b : Fin 8) :
    View.Piece (Elt F) S1x2x4096x128 .fp8e4m3 :=
  ⟨Rect.unit (s := S1x2x4096x128) (kcOff n k b) S1x1x64x128.size (inb_kc n k b), kCode mean n (ld n) b⟩
def ksPiece (mean : FVec F S1x256 .f32) (ld : Fin 2 → Vec F S1x512x128 .bf16) (k : Fin k0_t2_loop.trips) (n : Fin 2) : View.Piece (Elt F) S2x64x128 .f32 :=
  ⟨Rect.unit (s := S2x64x128) (ksOff n k) S1x8x128.size (inb_ks n k), kPut mean n (ld n)⟩
def vcPiece (inv : FVec F S1x256 .bf16) (ld : Fin 2 → Vec F S1x512x128 .bf16) (k : Fin k0_t2_loop.trips) (n : Fin 2) :
    View.Piece (Elt F) S1x2x4096x128 .fp8e4m3 :=
  ⟨Rect.unit (s := S1x2x4096x128) (vcOff n k) S1x1x512x128.size (inb_vc n k), vPack inv n (ld n)⟩
def vtPiece (inv : FVec F S1x256 .bf16) (ld : Fin 2 → Vec F S1x512x128 .bf16) (k : Fin k0_t2_loop.trips) (n : Fin 2) : View.Piece (Elt F) S2x128x4096 .fp8e4m3 :=
  ⟨Rect.unit (s := S2x128x4096) (vtOff n k) S1x128x512.size (inb_vt n k), vTrans inv n (ld n)⟩

/-- What the first loop carries after some trips: the sums of the keys and the largest magnitudes of the values. -/
def kvAcc (arg3 arg4 : Memref sig .tc .vmem S1x4096x256 .bf16) (X3 : arg3.view.ty.Contents (Elt F)) (X4 : arg4.view.ty.Contents (Elt F)) :
    ℕ → FVec F S8x256 .f32 × FVec F S16x256 .bf16
  | 0 => (k0_pay55, k0_pay56)
  | n + 1 => if h : n < k0_t1_loop.trips then (k0_pay57 (kvAcc arg3 arg4 X3 X4 n).1 (kvLoad1 arg3 X3 ⟨n, h⟩), k0_pay58 (kvAcc arg3 arg4 X3 X4 n).2 (kvLoad1 arg4 X4 ⟨n, h⟩))
      else kvAcc arg3 arg4 X3 X4 n

/-- What the second loop has stored after some trips, last first: the codes of the keys, -/
def kcAll (mean : FVec F S1x256 .f32) (ld : Fin 2 → Fin k0_t2_loop.trips → Vec F S1x512x128 .bf16) : ℕ → List (View.Piece (Elt F) S1x2x4096x128 .fp8e4m3)
  | 0 => []
  | n + 1 => if h : n < k0_t2_loop.trips then
      [kcPiece mean (ld · ⟨n, h⟩) ⟨n, h⟩ 1 7, kcPiece mean (ld · ⟨n, h⟩) ⟨n, h⟩ 1 6, kcPiece mean (ld · ⟨n, h⟩) ⟨n, h⟩ 1 5, kcPiece mean (ld · ⟨n, h⟩) ⟨n, h⟩ 1 4,
       kcPiece mean (ld · ⟨n, h⟩) ⟨n, h⟩ 1 3, kcPiece mean (ld · ⟨n, h⟩) ⟨n, h⟩ 1 2, kcPiece mean (ld · ⟨n, h⟩) ⟨n, h⟩ 1 1, kcPiece mean (ld · ⟨n, h⟩) ⟨n, h⟩ 1 0,
       kcPiece mean (ld · ⟨n, h⟩) ⟨n, h⟩ 0 7, kcPiece mean (ld · ⟨n, h⟩) ⟨n, h⟩ 0 6, kcPiece mean (ld · ⟨n, h⟩) ⟨n, h⟩ 0 5, kcPiece mean (ld · ⟨n, h⟩) ⟨n, h⟩ 0 4,
       kcPiece mean (ld · ⟨n, h⟩) ⟨n, h⟩ 0 3, kcPiece mean (ld · ⟨n, h⟩) ⟨n, h⟩ 0 2, kcPiece mean (ld · ⟨n, h⟩) ⟨n, h⟩ 0 1, kcPiece mean (ld · ⟨n, h⟩) ⟨n, h⟩ 0 0] ++ kcAll mean ld n
      else kcAll mean ld n

/-- their scales, -/
def ksAll (mean : FVec F S1x256 .f32) (ld : Fin 2 → Fin k0_t2_loop.trips → Vec F S1x512x128 .bf16) : ℕ → List (View.Piece (Elt F) S2x64x128 .f32)
  | 0 => []
  | n + 1 => if h : n < k0_t2_loop.trips then [ksPiece mean (ld · ⟨n, h⟩) ⟨n, h⟩ 1, ksPiece mean (ld · ⟨n, h⟩) ⟨n, h⟩ 0] ++ ksAll mean ld n else ksAll mean ld n

/-- the codes of the values, -/
def vcAll (inv : FVec F S1x256 .bf16) (ld : Fin 2 → Fin k0_t2_loop.trips → Vec F S1x512x128 .bf16) : ℕ → List (View.Piece (Elt F) S1x2x4096x128 .fp8e4m3)
  | 0 => []
  | n + 1 => if h : n < k0_t2_loop.trips then [vcPiece inv (ld · ⟨n, h⟩) ⟨n, h⟩ 1, vcPiece inv (ld · ⟨n, h⟩) ⟨n, h⟩ 0] ++ vcAll inv ld n else vcAll inv ld n

/-- and the same transposed. -/
def vtAll (inv : FVec F S1x256 .bf16) (ld : Fin 2 → Fin k0_t2_loop.trips → Vec F S1x512x128 .bf16) : ℕ → List (View.Piece (Elt F) S2x128x4096 .fp8e4m3)
  | 0 => []
  | n + 1 => if h : n < k0_t2_loop.trips then [vtPiece inv (ld · ⟨n, h⟩) ⟨n, h⟩ 1, vtPiece inv (ld · ⟨n, h⟩) ⟨n, h⟩ 0] ++ vtAll inv ld n else vtAll inv ld n

/-- The mean of the keys, and the largest magnitudes of the values over the largest code, that the first loop finds. -/
def kvMean (arg3 arg4 : Memref sig .tc .vmem S1x4096x256 .bf16) (X3 : arg3.view.ty.Contents (Elt F)) (X4 : arg4.view.ty.Contents (Elt F)) : FVec F S1x256 .f32 :=
  k0_pay59 (kvAcc arg3 arg4 X3 X4 8).1
def kvY (arg3 arg4 : Memref sig .tc .vmem S1x4096x256 .bf16) (X3 : arg3.view.ty.Contents (Elt F)) (X4 : arg4.view.ty.Contents (Elt F)) : FVec F S1x256 .f32 :=
  k0_pay60 (kvAcc arg3 arg4 X3 X4 8).2

/-- The inverses of the values' scales. -/
def kvInv (arg3 arg4 : Memref sig .tc .vmem S1x4096x256 .bf16) (X3 : arg3.view.ty.Contents (Elt F)) (X4 : arg4.view.ty.Contents (Elt F)) : FVec F S1x256 .bf16 :=
  truncf .bf16 (vinv (kvY arg3 arg4 X3 X4)) bitsLt_bf16_f32

/-- The values' scales of one head, as stored. -/
def vsPut (y : FVec F S1x256 .f32) (n : Fin 2) : FVec F S1x1x128 .f32 :=
  shapeCast S1x1x128 (extractStridedSlice S1x128 ![0, 128 * n.val] (vscale y) (slices_half n)) shapeCasts_S1x128_S1x1x128

theorem inb_vs : ∀ (n : Fin 2) (a : Fin 3), (![0, n.val, 0] : Fin 3 → ℕ) a + S1x1x128.size a ≤ S1x2x128.size a := by decide
theorem inb_kd : ∀ (n : Fin 2) (a : Fin 3), (![0, n.val, 0] : Fin 3 → ℕ) a + S1x1x64.size a ≤ S1x2x64.size a := by decide
theorem inb_kl : ∀ (n : Fin 2) (a : Fin 3), (![n.val, 0, 0] : Fin 3 → ℕ) a + S1x64x128.size a ≤ S2x64x128.size a := by decide

def vsPiece (y : FVec F S1x256 .f32) (n : Fin 2) : View.Piece (Elt F) S1x2x128 .f32 :=
  ⟨Rect.unit (s := S1x2x128) ![0, n.val, 0] S1x1x128.size (inb_vs n), vsPut y n⟩

/-- The table of the keys' scales of one head, read back. -/
def kdLoad (arg12 : Memref sig .tc .vmem S2x64x128 .f32) (X : arg12.view.ty.Contents (Elt F)) (n : Fin 2) : Vec F S1x64x128 .f32 :=
  View.readAt (Elt F) arg12.view (Rect.unit (s := S2x64x128) ![n.val, 0, 0] S1x64x128.size (inb_kl n)).toLoadRect X

def kdPiece (arg12 : Memref sig .tc .vmem S2x64x128 .f32) (X : arg12.view.ty.Contents (Elt F)) (n : Fin 2) : View.Piece (Elt F) S1x2x64 .f32 :=
  ⟨Rect.unit (s := S1x2x64) ![0, n.val, 0] S1x1x64.size (inb_kd n), kDiag (kdLoad arg12 X n)⟩

end Cert.KernelIdeal.Hand

end
-- ==== Proof.Pow2.lean ====
/-
  The power-of-two scale of a nonnegative real, computed two ways: by a search over the biased exponent that compares
  against bit patterns (the kernel), and as a power of two of a rounded logarithm (the reference).
-/
module

public import Idealize.ShloMosaic.PureOps.Ideal
public import Idealize.ShloMosaic.Lib.Pointwise

@[expose] public section

noncomputable section

namespace Cert.Pow2

open Idealize.ShloMosaic

/-- The bit pattern of the exponent `e` with an empty significand denotes `2^(e-127)`. -/
theorem ofBits_exp (e : ℕ) (h1 : 1 ≤ e) (h2 : e ≤ 254) :
    Ideal.ofBits .f32 (BitVec.ofNat 32 e <<< 23) = (((2 : ℝ) ^ ((e : ℤ) - 127) : ℝ) : EReal) := by
  have hx : ((BitVec.ofNat 32 e <<< 23).extractLsb' 23 8).toNat = e := by
    simp [BitVec.extractLsb'_toNat, Nat.shiftRight_eq_div_pow, Nat.shiftLeft_eq]; omega
  have hf : ((BitVec.ofNat 32 e <<< 23).extractLsb' 0 23).toNat = 0 := by
    simp [BitVec.extractLsb'_toNat, Nat.shiftLeft_eq]
  have hs : ((BitVec.ofNat 32 e <<< 23).extractLsb' (8 + 23) 1 == 1#1) = false := by
    have : ((BitVec.ofNat 32 e <<< 23).extractLsb' 31 1).toNat = 0 := by
      simp [BitVec.extractLsb'_toNat, Nat.shiftRight_eq_div_pow, Nat.shiftLeft_eq]; omega
    have h : (BitVec.ofNat 32 e <<< 23).extractLsb' 31 1 = 0#1 := BitVec.eq_of_toNat_eq (by simpa using this)
    rw [show 8 + 23 = 31 from rfl, h]; rfl
  generalize BitVec.ofNat 32 e <<< 23 = w at hx hf hs ⊢
  unfold Ideal.ofBits Ideal.ieee
  simp only [hx, hf, hs]
  rw [if_neg (by omega), if_neg (by omega)]
  congr 1
  simp only [Bool.false_eq_true, if_false, one_mul, Nat.add_zero]
  rw [show ((e : ℤ) - (2 ^ (8 - 1) - 1) - (23 : ℕ)) = ((e : ℤ) - 127) - 23 by norm_num,
    zpow_sub₀ (by norm_num : (2:ℝ) ≠ 0) _ 23]
  norm_num
  exact mul_div_cancel₀ _ (by norm_num)

/-- The pattern of the exponent 255 denotes `+∞`. -/
theorem ofBits_255 : Ideal.ofBits .f32 (BitVec.ofNat 32 255 <<< 23) = ⊤ := by
  simp [Ideal.ofBits, Ideal.ieee]

/-- `2^-126`, the smallest normal value. -/
theorem ofBits_tiny : Ideal.ofBits .f32 0x00800000#32 = (((2 : ℝ) ^ (-126 : ℤ) : ℝ) : EReal) := by
  have := ofBits_exp 1 (by norm_num) (by norm_num)
  simpa using this

/-- One step of the search: whether the exponent `e + b` is still at most the one of `y`. -/
def estep (y : EReal) (b e : BitVec 32) : BitVec 32 :=
  if y ≥ Ideal.ofBits .f32 ((e + b) <<< 23) then e + b else e

/-- The search over the eight bits of a biased exponent. -/
def eof (y : EReal) : BitVec 32 :=
  estep y 1#32 (estep y 2#32 (estep y 4#32 (estep y 8#32 (estep y 16#32 (estep y 32#32 (estep y 64#32
    (estep y 128#32 0#32)))))))

/-- The exponent a scale is made of: the found one, or that of one half where nothing was found. -/
def esel (e : BitVec 32) : BitVec 32 := if e = 0#32 then 126#32 else e

/-- The scale and its inverse, from bit patterns. -/
def scale (y : EReal) : EReal := Ideal.ofBits .f32 ((esel (eof y) + 1#32) <<< 23)
def inv (y : EReal) : EReal := Ideal.ofBits .f32 ((253#32 - esel (eof y)) <<< 23)

/-- The exponent of the scale by the logarithm. -/
def rexp (y : EReal) : EReal :=
  if y < (((2 : ℝ) ^ (-126 : ℤ) : ℝ) : EReal) then 0
  else Ideal.liftRound Int.floor (Ideal.div (Ideal.log y) (Ideal.log ((2 : ℝ) : EReal))) + 1

theorem estep_spec (y : EReal) (E : ℕ) (hE : ∀ c, 1 ≤ c → c ≤ 255 → (Ideal.ofBits .f32 (BitVec.ofNat 32 c <<< 23) ≤ y ↔ c ≤ E))
    (n b : ℕ) (hb : 1 ≤ b) (hn : n + 2 * b ≤ 256) (h1 : n ≤ E) (h2 : E < n + 2 * b) :
    ∃ n', estep y (BitVec.ofNat 32 b) (BitVec.ofNat 32 n) = BitVec.ofNat 32 n' ∧ n' + b ≤ 256 ∧ n' ≤ E ∧ E < n' + b := by
  have hadd : BitVec.ofNat 32 n + BitVec.ofNat 32 b = BitVec.ofNat 32 (n + b) := by
    rw [BitVec.ofNat_add]
  unfold estep
  rw [hadd]
  have := hE (n + b) (by omega) (by omega)
  by_cases hc : n + b ≤ E
  · exact ⟨n + b, if_pos (this.2 hc), by omega, hc, by omega⟩
  · exact ⟨n, if_neg (fun h => hc (this.1 h)), by omega, h1, by omega⟩

/-- Where `E` is what the comparisons say, the search finds it. -/
theorem eof_eq (y : EReal) (E : ℕ) (hE : ∀ c, 1 ≤ c → c ≤ 255 → (Ideal.ofBits .f32 (BitVec.ofNat 32 c <<< 23) ≤ y ↔ c ≤ E))
    (hl : E < 256) : eof y = BitVec.ofNat 32 E := by
  obtain ⟨n1, e1, a1, b1, c1⟩ := estep_spec y E hE 0 128 (by omega) (by omega) (by omega) (by omega)
  obtain ⟨n2, e2, a2, b2, c2⟩ := estep_spec y E hE n1 64 (by omega) (by omega) (by omega) (by omega)
  obtain ⟨n3, e3, a3, b3, c3⟩ := estep_spec y E hE n2 32 (by omega) (by omega) (by omega) (by omega)
  obtain ⟨n4, e4, a4, b4, c4⟩ := estep_spec y E hE n3 16 (by omega) (by omega) (by omega) (by omega)
  obtain ⟨n5, e5, a5, b5, c5⟩ := estep_spec y E hE n4 8 (by omega) (by omega) (by omega) (by omega)
  obtain ⟨n6, e6, a6, b6, c6⟩ := estep_spec y E hE n5 4 (by omega) (by omega) (by omega) (by omega)
  obtain ⟨n7, e7, a7, b7, c7⟩ := estep_spec y E hE n6 2 (by omega) (by omega) (by omega) (by omega)
  obtain ⟨n8, e8, a8, b8, c8⟩ := estep_spec y E hE n7 1 (by omega) (by omega) (by omega) (by omega)
  unfold eof
  rw [e1, e2, e3, e4, e5, e6, e7, e8]
  congr 1; omega

/-- The comparisons of a real in range: there is one exponent that they all agree on. -/
theorem exists_exp (r : ℝ) (h0 : 0 ≤ r) (hlt : r < (2 : ℝ) ^ (125 : ℤ)) :
    ∃ E : ℕ, E ≤ 251 ∧ (∀ c, 1 ≤ c → c ≤ 255 → (Ideal.ofBits .f32 (BitVec.ofNat 32 c <<< 23) ≤ (r : EReal) ↔ c ≤ E)) ∧
      (E = 0 ↔ r < (2 : ℝ) ^ (-126 : ℤ)) ∧ (E ≠ 0 → ⌊Real.log r / Real.log 2⌋ = (E : ℤ) - 127) := by
  have h2 : (1 : ℝ) < 2 := by norm_num
  have key : ∀ E : ℕ, E ≤ 251 → (∀ c : ℕ, 1 ≤ c → c ≤ 254 → ((2 : ℝ) ^ ((c : ℤ) - 127) ≤ r ↔ c ≤ E)) →
      (∀ c, 1 ≤ c → c ≤ 255 → (Ideal.ofBits .f32 (BitVec.ofNat 32 c <<< 23) ≤ (r : EReal) ↔ c ≤ E)) := by
    intro E hE h c hc1 hc2
    rcases Nat.lt_or_ge c 255 with hc | hc
    · rw [ofBits_exp c hc1 (by omega), EReal.coe_le_coe_iff]; exact h c hc1 (by omega)
    · obtain rfl : c = 255 := by omega
      rw [ofBits_255]
      simp only [top_le_iff, EReal.coe_ne_top, false_iff]; omega
  by_cases hs : r < (2 : ℝ) ^ (-126 : ℤ)
  · refine ⟨0, by omega, key 0 (by omega) ?_, by simpa using hs, by simp⟩
    intro c hc1 hc2
    constructor
    · intro h
      have : (2 : ℝ) ^ (-126 : ℤ) ≤ (2 : ℝ) ^ ((c : ℤ) - 127) := zpow_le_zpow_right₀ h2.le (by omega)
      linarith
    · intro h; omega
  · have hr : 0 < r := lt_of_lt_of_le (by positivity) (not_lt.1 hs)
    have hle : ∀ m : ℤ, ((2 : ℝ) ^ m ≤ r ↔ m ≤ ⌊Real.log r / Real.log 2⌋) := by
      intro m
      rw [Int.le_floor, le_div_iff₀ (Real.log_pos h2), ← Real.log_zpow, Real.log_le_log_iff (by positivity) hr]
    have f1 : -126 ≤ ⌊Real.log r / Real.log 2⌋ := (hle _).1 (not_lt.1 hs)
    have f2 : ⌊Real.log r / Real.log 2⌋ < 125 := by
      by_contra h
      have := (hle 125).2 (by omega)
      linarith
    generalize ⌊Real.log r / Real.log 2⌋ = fl at *
    refine ⟨(fl + 127).toNat, by omega, key _ (by omega) ?_, ?_, ?_⟩
    · intro c _ _
      rw [hle]; omega
    · constructor
      · intro h; omega
      · intro h; exact absurd h hs
    · intro _; omega

/-- The kernel's scale and its inverse are the reference's powers of two. -/
theorem scale_inv_eq (y : EReal) (h0 : 0 ≤ y) (hlt : y < (((2 : ℝ) ^ (125 : ℤ) : ℝ) : EReal)) :
    scale y = Ideal.pow ((2 : ℝ) : EReal) (rexp y) ∧ inv y = Ideal.pow ((2 : ℝ) : EReal) (-rexp y) ∧
      ∃ m : ℤ, scale y = (((2 : ℝ) ^ m : ℝ) : EReal) ∧ inv y = (((2 : ℝ) ^ (-m) : ℝ) : EReal) := by
  induction y using EReal.rec with
  | bot => simp at h0
  | top => simp at hlt
  | coe r =>
    have h0 : 0 ≤ r := by exact_mod_cast h0
    obtain ⟨E, hE, hc, hz, hf⟩ := exists_exp r h0 (by exact_mod_cast hlt)
    have he := eof_eq r E hc (by omega)
    have hp : ∀ m : ℤ, Ideal.pow ((2 : ℝ) : EReal) ((m : ℝ) : EReal) = (((2 : ℝ) ^ m : ℝ) : EReal) := by
      intro m
      rw [Ideal.pow_coe_coe]
      congr 1
      exact Real.rpow_intCast 2 m
    have hs : ∀ e : ℕ, 1 ≤ e → e ≤ 252 → Ideal.ofBits .f32 ((BitVec.ofNat 32 e + 1#32) <<< 23) = (((2 : ℝ) ^ ((e : ℤ) - 126) : ℝ) : EReal) := by
      intro e h1 h2
      have : BitVec.ofNat 32 e + 1#32 = BitVec.ofNat 32 (e + 1) := by rw [BitVec.ofNat_add]
      rw [this, ofBits_exp (e + 1) (by omega) (by omega)]
      congr 2; push_cast; ring
    have hi : ∀ e : ℕ, 1 ≤ e → e ≤ 252 → Ideal.ofBits .f32 ((253#32 - BitVec.ofNat 32 e) <<< 23) = (((2 : ℝ) ^ (126 - (e : ℤ)) : ℝ) : EReal) := by
      intro e h1 h2
      have : 253#32 - BitVec.ofNat 32 e = BitVec.ofNat 32 (253 - e) := by
        apply BitVec.eq_of_toNat_eq; simp; omega
      rw [this, ofBits_exp (253 - e) (by omega) (by omega)]
      congr 2; rw [Nat.cast_sub (by omega)]; push_cast; ring
    unfold scale inv
    rw [he]
    by_cases hE0 : E = 0
    · subst hE0
      have hr : rexp (r : EReal) = ((0 : ℝ) : EReal) := by
        unfold rexp; rw [if_pos (by exact_mod_cast hz.1 rfl)]; rfl
      have hsel : esel (BitVec.ofNat 32 0) = BitVec.ofNat 32 126 := rfl
      rw [hsel, hs 126 (by omega) (by omega), hi 126 (by omega) (by omega), hr]
      refine ⟨?_, ?_, 0, by norm_num, by norm_num⟩
      · have := hp 0; simpa using this.symm
      · have := hp 0; simpa using this.symm
    · have hr : rexp (r : EReal) = ((((E : ℤ) - 126 : ℤ) : ℝ) : EReal) := by
        have hpos : 0 < r := by
          have : ¬ r < (2 : ℝ) ^ (-126 : ℤ) := fun h => hE0 (hz.2 h)
          exact lt_of_lt_of_le (by positivity) (not_lt.1 this)
        unfold rexp
        rw [if_neg (by intro h; exact hE0 (hz.2 (by exact_mod_cast h))), Ideal.log_coe, if_neg (not_le.2 hpos),
          Ideal.log_coe, if_neg (by norm_num), Ideal.div_coe (Real.log_pos (by norm_num)).ne', ← EReal.coe_mul,
          mul_one_div]
        change ((⌊Real.log r / Real.log 2⌋ : ℝ) : EReal) + 1 = _
        rw [hf hE0]
        rw [show (1 : EReal) = ((1 : ℝ) : EReal) from rfl, ← EReal.coe_add]
        congr 1; push_cast; ring
      have hsel : esel (BitVec.ofNat 32 E) = BitVec.ofNat 32 E := by
        unfold esel; rw [if_neg]
        intro h; apply hE0
        have := congrArg BitVec.toNat h
        simp at this; omega
      rw [hsel, hs E (by omega) (by omega), hi E (by omega) (by omega), hr]
      refine ⟨(hp _).symm, ?_, (E : ℤ) - 126, rfl, ?_⟩
      · rw [← EReal.coe_neg, ← Int.cast_neg, hp]; congr 2; ring
      · congr 2; ring

end Cert.Pow2

end
-- ==== Proof.Ideal.QVal.lean ====
module

public import proofs.«01_k».proof.Proof.Ideal.QGen
public import proofs.«01_k».proof.Proof.Pow2
public import Idealize.ShloMosaic.Lib.Pointwise

/-! The quantiser of the kernel over the reals, element by element. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Search

variable {S : Shape}

theorem vstep_apply (y : FVec Ideal S .f32) (b : BitVec 32) (e : IVec S 32) (j : S.Idx) :
    vstep y b e j = Pow2.estep (y j) b (e j) := by
  pointwise [vstep]
  rfl

theorem vexp_apply (y : FVec Ideal S .f32) (j : S.Idx) : vexp y j = Pow2.eof (y j) := by
  unfold vexp
  simp only [vstep_apply]
  rfl

theorem vsel_apply (y : FVec Ideal S .f32) (j : S.Idx) : vsel y j = Pow2.esel (Pow2.eof (y j)) := by
  rw [← vexp_apply]
  generalize hv : vexp y = v
  unfold vsel
  rw [hv]
  pointwise [Pow2.esel]
  by_cases h : v j = 0#32
  · simp [h, IntOp.cmpi, Scalar.select]
  · have hf : (v j == 0#32) = false := by simpa using h
    simp [h, hf, IntOp.cmpi, Scalar.select]

/-- The search of the kernel finds the scale of each element, -/
theorem vscale_apply (y : FVec Ideal S .f32) (j : S.Idx) : vscale y j = Pow2.scale (y j) := by
  unfold Pow2.scale
  rw [← vsel_apply]
  pointwise [vscale]
  rfl

/-- and its inverse. -/
theorem vinv_apply (y : FVec Ideal S .f32) (j : S.Idx) : vinv y j = Pow2.inv (y j) := by
  unfold Pow2.inv
  rw [← vsel_apply]
  pointwise [vinv]
  rfl

end Search

theorem ninf32 : Ideal.ofBits .f32 0xFF800000#32 = ⊥ := by simp [Ideal.ofBits, Ideal.ieee]
theorem ninf16 : Ideal.ofBits .bf16 0xFF80#16 = ⊥ := by simp [Ideal.ofBits, Ideal.ieee]

/-- A maximum from `-∞` is a supremum. -/
theorem fold_max_bot {ι : Type} [Fintype ι] (f : ι → EReal) : Finset.fold max ⊥ f Finset.univ = ⨆ i, f i := by
  rw [← Finset.sup_univ_eq_iSup]; rfl

/-- The magnitude. -/
def eabs (x : EReal) : EReal := FloatOps.absf (F := Ideal) (φ := .f32) x

theorem qHeadMax_apply (l : Vec Ideal S1x128x128 .bf16) (g : Fin 16) (d : Fin 128) :
    qHeadMax l (ix3 0 g d) = ⨆ k : Fin 8, eabs (l (ix3 0 ⟨k * 16 + g, by omega⟩ d)) := by
  pointwise [qHeadMax]
  rw [ninf16, fold_max_bot]
  rfl

theorem qRows (f : Fin 128 → Fin 128 → EReal) :
    (⨆ d : Fin 128, ⨆ g : Fin 16, ⨆ k : Fin 8, f ⟨k * 16 + g, by omega⟩ d) = ⨆ r : Fin 128, ⨆ d : Fin 128, f r d := by
  refine le_antisymm (iSup_le fun d => iSup_le fun g => iSup_le fun k => le_iSup₂_of_le (f := fun r d => f r d) _ d le_rfl) ?_
  refine iSup_le fun r => iSup_le fun d => ?_
  refine le_iSup_of_le d (le_iSup_of_le (⟨r % 16, by omega⟩ : Fin 16) (le_iSup_of_le (⟨r / 16, by omega⟩ : Fin 8) (le_of_eq ?_)))
  congr 1
  apply Fin.ext
  simp only
  omega

/-- The largest magnitude of a head's block, over the largest code. -/
def qYs (l : Vec Ideal S1x128x128 .bf16) : EReal :=
  (⨆ r : Fin 128, ⨆ d : Fin 128, eabs (l (ix3 0 r d))) * Ideal.ofBits .f32 0x3B124925#32

theorem qY_apply (l : Fin 8 → Vec Ideal S1x128x128 .bf16) (h : Fin 8) : qY l (ix2 h 0) = qYs (l h) := by
  pointwise [qY]
  rw [ninf32]
  simp only [fold_max_bot]
  unfold qYs
  congr 1
  rw [← qRows fun r d => eabs (l h (ix3 0 r d))]
  refine iSup_congr fun d => iSup_congr fun g => ?_
  rw [← qHeadMax_apply]
  fin_cases h <;> rfl

/-- A code: the element under the inverse of the scale, clipped to the range of the codes. -/
def clip (x inv : EReal) : EReal := min (Ideal.ofBits .f32 0x43E00000#32) (max (Ideal.ofBits .f32 0xC3E00000#32) (x * inv))

theorem qCode_apply (l : Vec Ideal S1x128x128 .bf16) (inv : FVec Ideal S8x1 .f32) (h : Fin 8) (r d : Fin 128) :
    qCode l inv h (ix2 r d) = clip (l (ix3 0 r d)) (inv (ix2 h 0)) := by
  pointwise [qCode, clip]

theorem qPack_apply (l : Fin 8 → Vec Ideal S1x128x128 .bf16) (g : Fin 2) (r d : Fin 128) (h : Fin 4) :
    qPack l g (ix4 0 r h d) = clip (l ⟨4 * g + h, by omega⟩ (ix3 0 r d)) (Pow2.inv (qYs (l ⟨4 * g + h, by omega⟩))) := by
  rw [← qY_apply, ← vinv_apply, ← qCode_apply]
  pointwise [qPack]
  fin_cases h <;> rfl

theorem qsPut_apply (l : Fin 8 → Vec Ideal S1x128x128 .bf16) (b : BitVec 32) (old : Vec Ideal S1x8x32 .f32) (h : Fin 8) (n : Fin 32) :
    qsPut l b old (ix3 0 h n) = if BitVec.ofNat 32 n.val = b then Pow2.scale (qYs (l h)) else old (ix3 0 h n) := by
  rw [← qY_apply, ← vscale_apply]
  pointwise [qsPut]
  by_cases hb : BitVec.ofNat 32 n.val = b
  · simp [hb, IntOp.cmpi, Scalar.select]
  · have hf : (BitVec.ofNat 32 n.val == b) = false := by simpa using hb
    simp [hb, hf, IntOp.cmpi, Scalar.select]

end Cert.KernelIdeal.Hand

end
-- ==== Proof.Ideal.QPoint.lean ====
module

public import proofs.«01_k».proof.Proof.Ideal.QVal
public import Idealize.ShloMosaic.Lib.Pipeline.ValueKit
public import Idealize.ShloMosaic.Lib.WholeRead
public import Idealize.ShloMosaic.Lib.Writes

/-! What a point leaves of the queries' codes and scales, as functions of the block of queries it is given. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The largest magnitude of one head in one half of a point's rows, over the largest code. -/
def qYb (x2 : Vec Ideal S1x256x1024 .bf16) (rb : Fin 2) (h : Fin 8) : EReal :=
  (⨆ r : Fin 128, ⨆ d : Fin 128, eabs (x2 (ix3 0 ⟨128 * rb + r, by omega⟩ ⟨128 * h + d, by omega⟩))) * Ideal.ofBits .f32 0x3B124925#32

theorem qLoad_apply (arg2 : Memref sig .tc .vmem S1x256x1024 .bf16) (harg2 : arg2.IsWhole) (x2 : Vec Ideal S1x256x1024 .bf16) (rb : Fin 2) (h : Fin 8)
    (r d : Fin 128) : qLoad arg2 harg2 x2 rb h (ix3 0 r d) = x2 (ix3 0 ⟨128 * rb + r, by omega⟩ ⟨128 * h + d, by omega⟩) := by
  unfold qLoad
  rw [Memref.IsWhole.readAt_unread]
  congr 1
  funext a
  apply Fin.ext
  fin_cases a <;> simp [Rect.unit, Rect.toLoadRect, LoadRect.idx, ix3]

theorem qYs_qLoad (arg2 : Memref sig .tc .vmem S1x256x1024 .bf16) (harg2 : arg2.IsWhole) (x2 : Vec Ideal S1x256x1024 .bf16) (rb : Fin 2) (h : Fin 8) :
    qYs (qLoad arg2 harg2 x2 rb h) = qYb x2 rb h := by
  unfold qYs qYb
  simp only [qLoad_apply]

/-- Where an element of a stored box lands. -/
theorem unit_emb {s : Shape} (off size : Fin s.rank → ℕ) (inb : ∀ a, off a + size a ≤ s.size a) (x : (Rect.unit (s := s) off size inb).shape.Idx) (a : Fin s.rank) :
    ((Rect.unit (s := s) off size inb).emb x a).val = off a + (x a).val := by
  show off a + 1 * (x a).val = _
  rw [Nat.one_mul]

/-- The code of one element of a point's block. -/
def qGat (x2 : Vec Ideal S1x256x1024 .bf16) (R : Fin 256) (H : Fin 8) (d : Fin 128) : EReal :=
  clip (x2 (ix3 0 R ⟨128 * H + d, by omega⟩)) (Pow2.inv (qYb x2 ⟨R / 128, by omega⟩ H))

/-- The codes of a point's block. -/
def qG (x2 : Vec Ideal S1x256x1024 .bf16) : S1x256x8x128.Idx → EReal := fun y => qGat x2 (y 1) (y 2) (y 3)

theorem qEmb (rb g : Fin 2) (r : Fin 128) (h : Fin 4) (d : Fin 128) :
    (Rect.unit (s := S1x256x8x128) ![0, 128 * rb.val, 4 * g.val, 0] S1x128x4x128.size (inb_qstore rb g)).emb (ix4 0 r h d : S1x128x4x128.Idx)
      = ix4 0 ⟨128 * rb + r, by omega⟩ ⟨4 * g + h, by omega⟩ d := by
  funext a
  apply Fin.ext
  rw [unit_emb]
  fin_cases a <;> simp [ix4]

theorem qPiece_eq (arg2 : Memref sig .tc .vmem S1x256x1024 .bf16) (harg2 : arg2.IsWhole) (x2 : Vec Ideal S1x256x1024 .bf16) (rb g : Fin 2)
    (x : S1x128x4x128.Idx) :
    qPack (qLoad arg2 harg2 x2 rb) g x = qG x2 ((Rect.unit (s := S1x256x8x128) ![0, 128 * rb.val, 4 * g.val, 0] S1x128x4x128.size (inb_qstore rb g)).emb x) := by
  obtain ⟨x0, r, h, d, rfl⟩ : ∃ (a : Fin 1) (r : Fin 128) (h : Fin 4) (d : Fin 128), x = ix4 a r h d := ⟨x 0, x 1, x 2, x 3, by idx_ext⟩
  obtain rfl : x0 = 0 := by omega
  rw [qPack_apply, qLoad_apply, qYs_qLoad, qEmb]
  show _ = qGat x2 ⟨128 * rb + r, by omega⟩ ⟨4 * g + h, by omega⟩ d
  unfold qGat
  congr 3
  apply Fin.ext
  show rb.val = (128 * rb.val + r.val) / 128
  omega

/-- A point's stores of codes leave the codes of its block. -/
theorem qPieces_read (arg6 : Memref sig .tc .vmem S1x256x8x128 .fp8e4m3) (f : arg6.view.ty.Contents (Elt Ideal))
    (arg2 : Memref sig .tc .vmem S1x256x1024 .bf16) (harg2 : arg2.IsWhole) (x2 : Vec Ideal S1x256x1024 .bf16) :
    arg6.view.read (Elt Ideal) (arg6.view.writes (Elt Ideal) f
      [qPiece (qLoad arg2 harg2 x2) 1 1, qPiece (qLoad arg2 harg2 x2) 1 0, qPiece (qLoad arg2 harg2 x2) 0 1, qPiece (qLoad arg2 harg2 x2) 0 0]) = qG x2 := by
  funext y
  refine View.read_writes_apply_of_pieces arg6.view f (qG x2) _ ?_ y ?_
  · intro p hp
    simp only [List.mem_cons, List.mem_nil_iff, or_false] at hp
    rcases hp with rfl | rfl | rfl | rfl <;> exact qPiece_eq arg2 harg2 x2 _ _
  · exact View.cover_of_tiled (s := S1x256x8x128) [qPiece (qLoad arg2 harg2 x2) 1 1, qPiece (qLoad arg2 harg2 x2) 1 0, qPiece (qLoad arg2 harg2 x2) 0 1, qPiece (qLoad arg2 harg2 x2) 0 0]
      S1x128x4x128.size (by rfl) y

/-- A point's stores of scales set its two columns of the table. -/
theorem qsPieces_read (arg7 : Memref sig .tc .vmem S1x8x32 .f32) (f : arg7.view.ty.Contents (Elt Ideal)) (i : grid0.Coords)
    (arg2 : Memref sig .tc .vmem S1x256x1024 .bf16) (harg2 : arg2.IsWhole) (x2 : Vec Ideal S1x256x1024 .bf16) (old : Vec Ideal S1x8x32 .f32)
    (H : List (View.Piece (Elt Ideal) S1x8x32 .f32)) (h : Fin 8) (n : Fin 32) :
    arg7.view.read (Elt Ideal) (arg7.view.writes (Elt Ideal) f (qsPieces arg7 i (qLoad arg2 harg2 x2) old H)) (ix3 0 h n)
      = if n.val = 2 * (i 1).val + 1 then Pow2.scale (qYb x2 1 h) else if n.val = 2 * (i 1).val then Pow2.scale (qYb x2 0 h) else old (ix3 0 h n) := by
  have hemb : ∀ x : S1x8x32.Idx, (Rect.unit (s := S1x8x32) ![0, 0, 0] S1x8x32.size inb_qs).emb x = x := by
    intro x
    funext a
    apply Fin.ext
    fin_cases a <;> simp [Rect.unit, Rect.emb, Rect.toLoadRect, LoadRect.idx]
  have hi : (i 1).val < 16 := (i 1).isLt
  have hn := n.isLt
  have hb : ∀ b : ℕ, b < 2 → (BitVec.ofNat 32 n.val = qBlk i (BitVec.ofNat 32 b) ↔ n.val = 2 * (i 1).val + b) := by
    intro b hb
    unfold qBlk Scalar.addi Scalar.muli IntOp.addi IntOp.muli
    rw [← BitVec.toNat_inj]
    simp
    omega
  unfold qsPieces
  conv_lhs => rw [← hemb (ix3 0 h n)]
  rw [View.read_writes_cons_emb, qsPut_apply, View.readCov_cons_toLoadRect, qsPut_apply]
  have h1 := hb 1 (by omega)
  have h0 := hb 0 (by omega)
  simp only [Nat.add_zero] at h0
  rw [qYs_qLoad, qYs_qLoad]
  simp only [h1, h0]

end Cert.KernelIdeal.Hand

end
-- ==== Proof.Ideal.KVal.lean ====
module

public import proofs.«01_k».proof.Proof.Ideal.KGen
public import proofs.«01_k».proof.Proof.Ideal.QPoint

/-! The preparation of the keys and of the values over the reals, element by element. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! One trip. -/

/-- One of the two heads' columns. -/
def col (n : Fin 2) (d : Fin 128) : Fin 256 := ⟨128 * n + d, by omega⟩

theorem vCode_apply (inv : FVec Ideal S1x256 .bf16) (n : Fin 2) (l : Vec Ideal S1x512x128 .bf16) (r : Fin 512) (d : Fin 128) :
    vCode inv n l (ix2 r d) = clip (l (ix3 0 r d)) (inv (ix2 0 (col n d))) := by
  pointwise [vCode, clip, col]

theorem vPack_apply (inv : FVec Ideal S1x256 .bf16) (n : Fin 2) (l : Vec Ideal S1x512x128 .bf16) (r : Fin 512) (d : Fin 128) :
    vPack inv n l (ix4 0 0 r d) = clip (l (ix3 0 r d)) (inv (ix2 0 (col n d))) := by
  rw [← vCode_apply]
  pointwise [vPack]

theorem vTrans_apply (inv : FVec Ideal S1x256 .bf16) (n : Fin 2) (l : Vec Ideal S1x512x128 .bf16) (r : Fin 512) (d : Fin 128) :
    vTrans inv n l (ix3 0 d r) = clip (l (ix3 0 r d)) (inv (ix2 0 (col n d))) := by
  rw [← vCode_apply]
  pointwise [vTrans]

theorem kSub_apply (mean : FVec Ideal S1x256 .f32) (n : Fin 2) (l : Vec Ideal S1x512x128 .bf16) (r : Fin 512) (d : Fin 128) :
    kSub mean n l (ix2 r d) = l (ix3 0 r d) - mean (ix2 0 (col n d)) := by
  pointwise [kSub, col]

/-- The largest magnitude of a block of 64 rows of keys less their mean, over the largest code. -/
def kYs (mean : FVec Ideal S1x256 .f32) (n : Fin 2) (l : Vec Ideal S1x512x128 .bf16) (b : Fin 8) : EReal :=
  (⨆ r : Fin 64, ⨆ d : Fin 128, eabs (l (ix3 0 ⟨64 * b + r, by omega⟩ d) - mean (ix2 0 (col n d)))) * Ideal.ofBits .f32 0x3B124925#32

theorem kY_apply (mean : FVec Ideal S1x256 .f32) (n : Fin 2) (l : Vec Ideal S1x512x128 .bf16) (b : Fin 8) :
    kY mean n l (ix2 b 0) = kYs mean n l b := by
  unfold kYs
  rw [iSup_comm]
  pointwise [kY]
  rw [ninf32]
  simp only [fold_max_bot]
  refine congrArg (· * Ideal.ofBits .f32 0x3B124925#32) (iSup_congr fun d => iSup_congr fun r => ?_)
  rw [← kSub_apply]
  refine congrArg (fun q => eabs (kSub mean n l (ix2 q d))) (Fin.ext ?_)
  show b.val * 64 + r.val = 64 * b.val + r.val
  omega

theorem kPut_apply (mean : FVec Ideal S1x256 .f32) (n : Fin 2) (l : Vec Ideal S1x512x128 .bf16) (b : Fin 8) (d : Fin 128) :
    kPut mean n l (ix3 0 b d) = Pow2.scale (kYs mean n l b) := by
  rw [← kY_apply, ← vscale_apply]
  pointwise [kPut]

theorem kCode_apply (mean : FVec Ideal S1x256 .f32) (n : Fin 2) (l : Vec Ideal S1x512x128 .bf16) (b : Fin 8) (r : Fin 64) (d : Fin 128) :
    kCode mean n l b (ix4 0 0 r d) = clip (l (ix3 0 ⟨64 * b + r, by omega⟩ d) - mean (ix2 0 (col n d))) (Pow2.inv (kYs mean n l b)) := by
  rw [← kY_apply, ← vinv_apply, ← kSub_apply]
  generalize hk : kSub mean n l = s
  unfold kCode
  rw [hk]
  generalize vinv (kY mean n l) = w
  pointwise [clip]

theorem vsPut_apply (y : FVec Ideal S1x256 .f32) (n : Fin 2) (d : Fin 128) : vsPut y n (ix3 0 0 d) = Pow2.scale (y (ix2 0 (col n d))) := by
  rw [← vscale_apply]
  pointwise [vsPut, col]

/-- The diagonal of the square. -/
theorem kDiag_apply (l : Vec Ideal S1x64x128 .f32) (j : Fin 64) : kDiag l (ix3 0 0 j) = l (ix3 0 j ⟨j, by omega⟩) := by
  pointwise [kDiag]
  rw [Finset.sum_eq_single j]
  · simp [IntOp.cmpi, Scalar.select]
  · intro r _ hr
    have hb : (BitVec.ofNat 32 r.val == BitVec.ofNat 32 j.val) = false := by
      have h1 := r.isLt
      have h2 := j.isLt
      rw [beq_eq_false_iff_ne]
      intro h
      rw [← BitVec.toNat_inj] at h
      simp at h
      exact hr (Fin.ext (by omega))
    simp [hb, IntOp.cmpi, Scalar.select]
  · intro h
    exact absurd (Finset.mem_univ _) h

theorem pay57_apply (a : FVec Ideal S8x256 .f32) (l : Vec Ideal S1x512x256 .bf16) (g : Fin 8) (e : Fin 256) :
    k0_pay57 a l (ix2 g e) = a (ix2 g e) + ∑ i : Fin 64, l (ix3 0 ⟨i * 8 + g, by omega⟩ e) := by
  pointwise [k0_pay57]

theorem pay58_apply (a : FVec Ideal S16x256 .bf16) (l : Vec Ideal S1x512x256 .bf16) (g : Fin 16) (e : Fin 256) :
    k0_pay58 a l (ix2 g e) = max (a (ix2 g e)) (⨆ i : Fin 32, eabs (l (ix3 0 ⟨i * 16 + g, by omega⟩ e))) := by
  pointwise [k0_pay58]
  rw [ninf16, fold_max_bot]
  rfl

theorem pay59_apply (a : FVec Ideal S8x256 .f32) (e : Fin 256) :
    k0_pay59 a (ix2 0 e) = (∑ g : Fin 8, a (ix2 g e)) * Ideal.ofBits .f32 0x39800000#32 := by
  pointwise [k0_pay59]

theorem pay60_apply (a : FVec Ideal S16x256 .bf16) (e : Fin 256) :
    k0_pay60 a (ix2 0 e) = (⨆ g : Fin 16, a (ix2 g e)) * Ideal.ofBits .f32 0x3B124925#32 := by
  pointwise [k0_pay60]
  rw [ninf32, fold_max_bot]

theorem pay55_apply (g : Fin 8) (e : Fin 256) : (k0_pay55 (F := Ideal)) (ix2 g e) = 0 := by
  pointwise [k0_pay55]
theorem pay56_apply (g : Fin 16) (e : Fin 256) : (k0_pay56 (F := Ideal)) (ix2 g e) = 0 := by
  pointwise [k0_pay56]

end Cert.KernelIdeal.Hand

end
-- ==== Proof.Ideal.KPoint.lean ====
module

public import proofs.«01_k».proof.Proof.Ideal.KVal

/-! What the first point of a batch entry leaves of the keys and of the values, as functions of the blocks it is given. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem unit_emb_of {s : Shape} {off off' : Fin s.rank → ℕ} (size : Fin s.rank → ℕ) (inb : ∀ a, off a + size a ≤ s.size a)
    (x : (Rect.unit (s := s) off size inb).shape.Idx) (h : off = off') (a : Fin s.rank) : ((Rect.unit (s := s) off size inb).emb x a).val = off' a + (x a).val := by
  subst h
  exact unit_emb off size inb x a

theorem mem_unit_of {s : Shape} {off off' : Fin s.rank → ℕ} (size : Fin s.rank → ℕ) (inb : ∀ a, off a + size a ≤ s.size a) (h : off = off')
    (y : s.Idx) (hy : ∀ a, off' a ≤ (y a).val ∧ (y a).val < off' a + size a) : y ∈ (Rect.unit (s := s) off size inb).set := by
  subst h
  exact Rect.mem_set_unit.mpr hy

theorem kvLoad1_apply (arg : Memref sig .tc .vmem S1x4096x256 .bf16) (harg : arg.IsWhole) (x : Vec Ideal S1x4096x256 .bf16) (k : Fin k0_t1_loop.trips)
    (r : Fin 512) (e : Fin 256) (h : 512 * k.val + r.val < 4096) : kvLoad1 arg (harg.unread x) k (ix3 0 r e) = x (ix3 0 ⟨512 * k + r, h⟩ e) := by
  unfold kvLoad1
  rw [Memref.IsWhole.readAt_unread]
  congr 1
  have ho := off1 k
  funext a
  apply Fin.ext
  fin_cases a <;> simp [Rect.unit, Rect.toLoadRect, LoadRect.idx, ix3, ho]

theorem kvLoad_apply (arg : Memref sig .tc .vmem S1x4096x256 .bf16) (harg : arg.IsWhole) (x : Vec Ideal S1x4096x256 .bf16) (n : Fin 2) (k : Fin k0_t2_loop.trips)
    (r : Fin 512) (d : Fin 128) (h : 512 * k.val + r.val < 4096) : kvLoad arg (harg.unread x) n k (ix3 0 r d) = x (ix3 0 ⟨512 * k + r, h⟩ (col n d)) := by
  unfold kvLoad
  rw [Memref.IsWhole.readAt_unread]
  congr 1
  have ho := kvOff_eq n k
  funext a
  apply Fin.ext
  fin_cases a <;> simp [Rect.unit, Rect.toLoadRect, LoadRect.idx, ix3, ho, col]

/-! The first loop. -/

/-- A column of a block by the number of its row. -/
def rowOf (x : Vec Ideal S1x4096x256 .bf16) (e : Fin 256) (r : ℕ) : EReal := if h : r < 4096 then x (ix3 0 ⟨r, h⟩ e) else 0

theorem kvAcc_sum (arg3 arg4 : Memref sig .tc .vmem S1x4096x256 .bf16) (harg3 : arg3.IsWhole) (X4 : arg4.view.ty.Contents (Elt Ideal)) (x3 : Vec Ideal S1x4096x256 .bf16)
    (g : Fin 8) (e : Fin 256) (n : ℕ) (hn : n ≤ 8) :
    (kvAcc arg3 arg4 (harg3.unread x3) X4 n).1 (ix2 g e) = ∑ i ∈ Finset.range (64 * n), rowOf x3 e (8 * i + g) := by
  induction n with
  | zero => exact pay55_apply g e
  | succ n ih =>
    have h : n < k0_t1_loop.trips := by show n < 8; omega
    unfold kvAcc
    rw [dif_pos h]
    show k0_pay57 _ _ (ix2 g e) = _
    rw [pay57_apply, ih (by omega), Nat.mul_succ, Finset.sum_range_add, Finset.sum_range (n := 64)]
    congr 1
    refine Finset.sum_congr rfl fun i _ => ?_
    have hi := i.isLt
    have hg := g.isLt
    have hr : 512 * n + (i.val * 8 + g.val) < 4096 := by omega
    rw [kvLoad1_apply arg3 harg3 x3 ⟨n, h⟩ ⟨i.val * 8 + g.val, by omega⟩ e hr]
    have e8 : 8 * (64 * n + i.val) + g.val = 512 * n + (i.val * 8 + g.val) := by omega
    unfold rowOf
    rw [e8, dif_pos hr]

/-- The mean of a block's keys, as the kernel computes it. -/
def kMb (x3 : Vec Ideal S1x4096x256 .bf16) (e : Fin 256) : EReal := (∑ r : Fin 4096, x3 (ix3 0 r e)) * Ideal.ofBits .f32 0x39800000#32

theorem kvMean_apply (arg3 arg4 : Memref sig .tc .vmem S1x4096x256 .bf16) (harg3 : arg3.IsWhole) (X4 : arg4.view.ty.Contents (Elt Ideal)) (x3 : Vec Ideal S1x4096x256 .bf16)
    (e : Fin 256) : kvMean arg3 arg4 (harg3.unread x3) X4 (ix2 0 e) = kMb x3 e := by
  unfold kvMean kMb
  rw [pay59_apply]
  congr 1
  have e1 : ∀ r : Fin 4096, x3 (ix3 0 r e) = rowOf x3 e r.val := fun r => by unfold rowOf; rw [dif_pos r.isLt]
  simp only [e1, kvAcc_sum arg3 arg4 harg3 X4 x3 _ e 8 le_rfl]
  have e2 : ∀ g : Fin 8, ∑ i ∈ Finset.range (64 * 8), rowOf x3 e (8 * i + g) = ∑ i : Fin 512, rowOf x3 e (8 * i.val + g.val) := fun g => Finset.sum_range _
  simp only [e2]
  rw [Finset.sum_comm, ← Fintype.sum_prod_type' (fun (i : Fin 512) (g : Fin 8) => rowOf x3 e (8 * i.val + g.val))]
  refine Fintype.sum_equiv (finProdFinEquiv (m := 512) (n := 8)) _ (fun r : Fin 4096 => rowOf x3 e r.val) fun p => ?_
  show _ = rowOf x3 e (p.2.val + 8 * p.1.val)
  rw [Nat.add_comm]

theorem eabs_nonneg (x : EReal) : 0 ≤ eabs x := by
  show 0 ≤ max x (-x)
  rcases le_total 0 x with h | h
  · exact le_max_of_le_left h
  · exact le_max_of_le_right (EReal.neg_nonneg.mpr h)

theorem kvAcc_max (arg3 arg4 : Memref sig .tc .vmem S1x4096x256 .bf16) (harg4 : arg4.IsWhole) (X3 : arg3.view.ty.Contents (Elt Ideal)) (x4 : Vec Ideal S1x4096x256 .bf16)
    (g : Fin 16) (e : Fin 256) (z : EReal) (n : ℕ) (hn : n ≤ 8) :
    (kvAcc arg3 arg4 X3 (harg4.unread x4) n).2 (ix2 g e) ≤ z ↔ 0 ≤ z ∧ ∀ r : Fin 4096, r.val < 512 * n → r.val % 16 = g.val → eabs (x4 (ix3 0 r e)) ≤ z := by
  induction n with
  | zero =>
    have : (kvAcc arg3 arg4 X3 (harg4.unread x4) 0).2 (ix2 g e) = 0 := pay56_apply g e
    rw [this]
    exact ⟨fun h => ⟨h, fun r hr => absurd hr (by omega)⟩, fun h => h.1⟩
  | succ n ih =>
    have h : n < k0_t1_loop.trips := by show n < 8; omega
    unfold kvAcc
    rw [dif_pos h]
    show k0_pay58 (F := Ideal) (kvAcc arg3 arg4 X3 (harg4.unread x4) n).2 (kvLoad1 arg4 (harg4.unread x4) ⟨n, h⟩) (ix2 g e) ≤ z ↔ _
    rw [pay58_apply, max_le_iff, ih (by omega), iSup_le_iff]
    have hg := g.isLt
    constructor
    · rintro ⟨⟨h0, h1⟩, h2⟩
      refine ⟨h0, fun r hr hm => ?_⟩
      by_cases hl : r.val < 512 * n
      · exact h1 r hl hm
      · have := h2 ⟨(r.val - 512 * n) / 16, by omega⟩
        rw [kvLoad1_apply arg4 harg4 x4 ⟨n, h⟩ _ e (by simp only; omega)] at this
        refine le_trans (le_of_eq ?_) this
        refine congrArg (fun q => eabs (x4 (ix3 0 q e))) (Fin.ext ?_)
        simp only
        omega
    · rintro ⟨h0, h1⟩
      refine ⟨⟨h0, fun r hr => h1 r (by omega)⟩, fun i => ?_⟩
      have hi := i.isLt
      rw [kvLoad1_apply arg4 harg4 x4 ⟨n, h⟩ _ e (by simp only; omega)]
      exact h1 _ (by simp only; omega) (by simp only; omega)

/-- The largest magnitude of a column of a block's values, over the largest code. -/
def vYb (x4 : Vec Ideal S1x4096x256 .bf16) (e : Fin 256) : EReal := (⨆ r : Fin 4096, eabs (x4 (ix3 0 r e))) * Ideal.ofBits .f32 0x3B124925#32

theorem kvY_apply (arg3 arg4 : Memref sig .tc .vmem S1x4096x256 .bf16) (harg4 : arg4.IsWhole) (X3 : arg3.view.ty.Contents (Elt Ideal)) (x4 : Vec Ideal S1x4096x256 .bf16)
    (e : Fin 256) : kvY arg3 arg4 X3 (harg4.unread x4) (ix2 0 e) = vYb x4 e := by
  unfold kvY vYb
  rw [pay60_apply]
  congr 1
  refine eq_of_forall_ge_iff fun z => ?_
  rw [iSup_le_iff, iSup_le_iff]
  simp only [kvAcc_max arg3 arg4 harg4 X3 x4 _ e z 8 le_rfl]
  constructor
  · intro h r
    exact (h ⟨r.val % 16, by omega⟩).2 r (by omega) rfl
  · intro h g
    exact ⟨le_trans (eabs_nonneg _) (h 0), fun r _ _ => h r⟩

theorem kvInv_apply (arg3 arg4 : Memref sig .tc .vmem S1x4096x256 .bf16) (harg4 : arg4.IsWhole) (X3 : arg3.view.ty.Contents (Elt Ideal)) (x4 : Vec Ideal S1x4096x256 .bf16)
    (e : Fin 256) : kvInv arg3 arg4 X3 (harg4.unread x4) (ix2 0 e) = Pow2.inv (vYb x4 e) := by
  rw [← kvY_apply arg3 arg4 harg4 X3, ← vinv_apply]
  rfl

/-! The second loop: every piece agrees with one function, and the pieces cover. -/

/-- The code of a value. -/
def vGat (x4 : Vec Ideal S1x4096x256 .bf16) (n : Fin 2) (r : Fin 4096) (d : Fin 128) : EReal := clip (x4 (ix3 0 r (col n d))) (Pow2.inv (vYb x4 (col n d)))
/-- A key less its mean, -/
def kDb (x3 : Vec Ideal S1x4096x256 .bf16) (r : Fin 4096) (e : Fin 256) : EReal := x3 (ix3 0 r e) - kMb x3 e
/-- the largest magnitude of a block of 64 rows of these, over the largest code, -/
def kYb (x3 : Vec Ideal S1x4096x256 .bf16) (n : Fin 2) (b : Fin 64) : EReal :=
  (⨆ r : Fin 64, ⨆ d : Fin 128, eabs (kDb x3 ⟨64 * b + r, by omega⟩ (col n d))) * Ideal.ofBits .f32 0x3B124925#32
/-- and its code. -/
def kGat (x3 : Vec Ideal S1x4096x256 .bf16) (n : Fin 2) (r : Fin 4096) (d : Fin 128) : EReal :=
  clip (kDb x3 r (col n d)) (Pow2.inv (kYb x3 n ⟨r / 64, by omega⟩))

/-! The pieces a list holds. -/

theorem kcAll_mem {m : FVec Ideal S1x256 .f32} {ld : Fin 2 → Fin k0_t2_loop.trips → Vec Ideal S1x512x128 .bf16} {p : _} {n : ℕ} (hn : n ≤ 8) :
    p ∈ kcAll m ld n ↔ ∃ (k : Fin k0_t2_loop.trips) (h : Fin 2) (b : Fin 8), k.val < n ∧ p = kcPiece m (ld · k) k h b := by
  induction n with
  | zero => exact ⟨fun h => absurd h List.not_mem_nil, by rintro ⟨k, _, _, h, _⟩; omega⟩
  | succ n ih =>
    have h : n < k0_t2_loop.trips := by show n < 8; omega
    unfold kcAll
    rw [dif_pos h, List.mem_append, ih (by omega)]
    simp only [List.mem_cons, List.mem_nil_iff, or_false]
    constructor
    · rintro (hp | ⟨k, hh, b, hk, e⟩)
      · rcases hp with rfl | rfl | rfl | rfl | rfl | rfl | rfl | rfl | rfl | rfl | rfl | rfl | rfl | rfl | rfl | rfl <;> exact ⟨⟨n, h⟩, _, _, Nat.lt_succ_self n, rfl⟩
      · exact ⟨k, hh, b, by omega, e⟩
    · rintro ⟨k, hh, b, hk, rfl⟩
      by_cases hkn : k.val < n
      · exact Or.inr ⟨k, hh, b, hkn, rfl⟩
      · obtain rfl : k = ⟨n, h⟩ := Fin.ext (by simp only; omega)
        left
        fin_cases hh <;> fin_cases b <;> simp

theorem ksAll_mem {m : FVec Ideal S1x256 .f32} {ld : Fin 2 → Fin k0_t2_loop.trips → Vec Ideal S1x512x128 .bf16} {p : _} {n : ℕ} (hn : n ≤ 8) :
    p ∈ ksAll m ld n ↔ ∃ (k : Fin k0_t2_loop.trips) (h : Fin 2), k.val < n ∧ p = ksPiece m (ld · k) k h := by
  induction n with
  | zero => exact ⟨fun h => absurd h List.not_mem_nil, by rintro ⟨k, _, h, _⟩; omega⟩
  | succ n ih =>
    have h : n < k0_t2_loop.trips := by show n < 8; omega
    unfold ksAll
    rw [dif_pos h, List.mem_append, ih (by omega)]
    simp only [List.mem_cons, List.mem_nil_iff, or_false]
    constructor
    · rintro (hp | ⟨k, hh, hk, e⟩)
      · rcases hp with rfl | rfl <;> exact ⟨⟨n, h⟩, _, Nat.lt_succ_self n, rfl⟩
      · exact ⟨k, hh, by omega, e⟩
    · rintro ⟨k, hh, hk, rfl⟩
      by_cases hkn : k.val < n
      · exact Or.inr ⟨k, hh, hkn, rfl⟩
      · obtain rfl : k = ⟨n, h⟩ := Fin.ext (by simp only; omega)
        left
        fin_cases hh <;> simp

theorem vcAll_mem {m : FVec Ideal S1x256 .bf16} {ld : Fin 2 → Fin k0_t2_loop.trips → Vec Ideal S1x512x128 .bf16} {p : _} {n : ℕ} (hn : n ≤ 8) :
    p ∈ vcAll m ld n ↔ ∃ (k : Fin k0_t2_loop.trips) (h : Fin 2), k.val < n ∧ p = vcPiece m (ld · k) k h := by
  induction n with
  | zero => exact ⟨fun h => absurd h List.not_mem_nil, by rintro ⟨k, _, h, _⟩; omega⟩
  | succ n ih =>
    have h : n < k0_t2_loop.trips := by show n < 8; omega
    unfold vcAll
    rw [dif_pos h, List.mem_append, ih (by omega)]
    simp only [List.mem_cons, List.mem_nil_iff, or_false]
    constructor
    · rintro (hp | ⟨k, hh, hk, e⟩)
      · rcases hp with rfl | rfl <;> exact ⟨⟨n, h⟩, _, Nat.lt_succ_self n, rfl⟩
      · exact ⟨k, hh, by omega, e⟩
    · rintro ⟨k, hh, hk, rfl⟩
      by_cases hkn : k.val < n
      · exact Or.inr ⟨k, hh, hkn, rfl⟩
      · obtain rfl : k = ⟨n, h⟩ := Fin.ext (by simp only; omega)
        left
        fin_cases hh <;> simp

theorem vtAll_mem {m : FVec Ideal S1x256 .bf16} {ld : Fin 2 → Fin k0_t2_loop.trips → Vec Ideal S1x512x128 .bf16} {p : _} {n : ℕ} (hn : n ≤ 8) :
    p ∈ vtAll m ld n ↔ ∃ (k : Fin k0_t2_loop.trips) (h : Fin 2), k.val < n ∧ p = vtPiece m (ld · k) k h := by
  induction n with
  | zero => exact ⟨fun h => absurd h List.not_mem_nil, by rintro ⟨k, _, h, _⟩; omega⟩
  | succ n ih =>
    have h : n < k0_t2_loop.trips := by show n < 8; omega
    unfold vtAll
    rw [dif_pos h, List.mem_append, ih (by omega)]
    simp only [List.mem_cons, List.mem_nil_iff, or_false]
    constructor
    · rintro (hp | ⟨k, hh, hk, e⟩)
      · rcases hp with rfl | rfl <;> exact ⟨⟨n, h⟩, _, Nat.lt_succ_self n, rfl⟩
      · exact ⟨k, hh, by omega, e⟩
    · rintro ⟨k, hh, hk, rfl⟩
      by_cases hkn : k.val < n
      · exact Or.inr ⟨k, hh, hkn, rfl⟩
      · obtain rfl : k = ⟨n, h⟩ := Fin.ext (by simp only; omega)
        left
        fin_cases hh <;> simp

section Pieces

variable (arg3 arg4 : Memref sig .tc .vmem S1x4096x256 .bf16) (harg3 : arg3.IsWhole) (harg4 : arg4.IsWhole) (x3 x4 : Vec Ideal S1x4096x256 .bf16)

theorem trip_lt (k : Fin k0_t2_loop.trips) : k.val < 8 := k.isLt

theorem kYs_eq (n : Fin 2) (k : Fin k0_t2_loop.trips) (b : Fin 8) :
    kYs (kvMean arg3 arg4 (harg3.unread x3) (harg4.unread x4)) n (kvLoad arg3 (harg3.unread x3) n k) b
      = kYb x3 n ⟨8 * k + b, by have := trip_lt k; omega⟩ := by
  have hk := trip_lt k
  unfold kYs kYb kDb
  refine congrArg (· * Ideal.ofBits .f32 0x3B124925#32) (iSup_congr fun r => iSup_congr fun d => ?_)
  rw [kvMean_apply, kvLoad_apply arg3 harg3 x3 n k _ d (by simp only; omega)]
  refine congrArg (fun q => eabs (x3 (ix3 0 q (col n d)) - kMb x3 (col n d))) (Fin.ext ?_)
  simp only
  omega

theorem vcPiece_eq (n : Fin 2) (k : Fin k0_t2_loop.trips) (x : S1x1x512x128.Idx) :
    vPack (kvInv arg3 arg4 (harg3.unread x3) (harg4.unread x4)) n (kvLoad arg4 (harg4.unread x4) n k) x
      = (fun y : S1x2x4096x128.Idx => vGat x4 (y 1) (y 2) (y 3)) ((Rect.unit (s := S1x2x4096x128) (vcOff n k) S1x1x512x128.size (inb_vc n k)).emb x) := by
  obtain ⟨x0, x1, r, d, rfl⟩ : ∃ (a b : Fin 1) (r : Fin 512) (d : Fin 128), x = ix4 a b r d := ⟨x 0, x 1, x 2, x 3, by idx_ext⟩
  obtain rfl : x0 = 0 := by omega
  obtain rfl : x1 = 0 := by omega
  have hk := trip_lt k
  rw [vPack_apply, kvInv_apply, kvLoad_apply arg4 harg4 x4 n k r d (by omega)]
  have ho := vcOff_eq n k
  have he : (Rect.unit (s := S1x2x4096x128) (vcOff n k) S1x1x512x128.size (inb_vc n k)).emb (ix4 0 0 r d : S1x1x512x128.Idx)
      = ix4 0 n ⟨512 * k + r, by omega⟩ d := by
    funext a
    apply Fin.ext
    rw [unit_emb_of _ _ _ ho]
    fin_cases a <;> simp [ix4]
  rw [he]
  rfl

theorem vtPiece_eq (n : Fin 2) (k : Fin k0_t2_loop.trips) (x : S1x128x512.Idx) :
    vTrans (kvInv arg3 arg4 (harg3.unread x3) (harg4.unread x4)) n (kvLoad arg4 (harg4.unread x4) n k) x
      = (fun y : S2x128x4096.Idx => vGat x4 (y 0) (y 2) (y 1)) ((Rect.unit (s := S2x128x4096) (vtOff n k) S1x128x512.size (inb_vt n k)).emb x) := by
  obtain ⟨x0, d, r, rfl⟩ : ∃ (a : Fin 1) (d : Fin 128) (r : Fin 512), x = ix3 a d r := ⟨x 0, x 1, x 2, by idx_ext⟩
  obtain rfl : x0 = 0 := by omega
  have hk := trip_lt k
  rw [vTrans_apply, kvInv_apply, kvLoad_apply arg4 harg4 x4 n k r d (by omega)]
  have ho := vtOff_eq n k
  have he : (Rect.unit (s := S2x128x4096) (vtOff n k) S1x128x512.size (inb_vt n k)).emb (ix3 0 d r : S1x128x512.Idx)
      = ix3 n d ⟨512 * k + r, by omega⟩ := by
    funext a
    apply Fin.ext
    rw [unit_emb_of _ _ _ ho]
    fin_cases a <;> simp [ix3]
  rw [he]
  rfl

theorem kcPiece_eq (n : Fin 2) (k : Fin k0_t2_loop.trips) (b : Fin 8) (x : S1x1x64x128.Idx) :
    kCode (kvMean arg3 arg4 (harg3.unread x3) (harg4.unread x4)) n (kvLoad arg3 (harg3.unread x3) n k) b x
      = (fun y : S1x2x4096x128.Idx => kGat x3 (y 1) (y 2) (y 3)) ((Rect.unit (s := S1x2x4096x128) (kcOff n k b) S1x1x64x128.size (inb_kc n k b)).emb x) := by
  obtain ⟨x0, x1, r, d, rfl⟩ : ∃ (a b : Fin 1) (r : Fin 64) (d : Fin 128), x = ix4 a b r d := ⟨x 0, x 1, x 2, x 3, by idx_ext⟩
  obtain rfl : x0 = 0 := by omega
  obtain rfl : x1 = 0 := by omega
  have hk := trip_lt k
  have hb := b.isLt
  rw [kCode_apply, kvMean_apply, kYs_eq, kvLoad_apply arg3 harg3 x3 n k _ d (by simp only; omega)]
  have ho := kcOff_eq n k b
  have he : (Rect.unit (s := S1x2x4096x128) (kcOff n k b) S1x1x64x128.size (inb_kc n k b)).emb (ix4 0 0 r d : S1x1x64x128.Idx)
      = ix4 0 n ⟨512 * k + (64 * b + r), by omega⟩ d := by
    funext a
    apply Fin.ext
    rw [unit_emb_of _ _ _ ho]
    fin_cases a <;> simp [ix4] <;> omega
  rw [he]
  show _ = kGat x3 n ⟨512 * k + (64 * b + r), by omega⟩ d
  unfold kGat kDb
  refine congrArg (fun q => clip (x3 (ix3 0 _ (col n d)) - kMb x3 (col n d)) (Pow2.inv (kYb x3 n q))) (Fin.ext ?_)
  simp only
  omega

theorem ksPiece_eq (n : Fin 2) (k : Fin k0_t2_loop.trips) (x : S1x8x128.Idx) :
    kPut (kvMean arg3 arg4 (harg3.unread x3) (harg4.unread x4)) n (kvLoad arg3 (harg3.unread x3) n k) x
      = (fun y : S2x64x128.Idx => Pow2.scale (kYb x3 (y 0) (y 1))) ((Rect.unit (s := S2x64x128) (ksOff n k) S1x8x128.size (inb_ks n k)).emb x) := by
  obtain ⟨x0, b, d, rfl⟩ : ∃ (a : Fin 1) (b : Fin 8) (d : Fin 128), x = ix3 a b d := ⟨x 0, x 1, x 2, by idx_ext⟩
  obtain rfl : x0 = 0 := by omega
  have hk := trip_lt k
  rw [kPut_apply, kYs_eq]
  have ho := ksOff_eq n k
  have he : (Rect.unit (s := S2x64x128) (ksOff n k) S1x8x128.size (inb_ks n k)).emb (ix3 0 b d : S1x8x128.Idx)
      = ix3 n ⟨8 * k + b, by omega⟩ d := by
    funext a
    apply Fin.ext
    rw [unit_emb_of _ _ _ ho]
    fin_cases a <;> simp [ix3]
  rw [he]
  rfl

/-- The loop's stores of the keys' codes leave the codes of the block, -/
theorem kcAll_read (m : Memref sig .tc .vmem S1x2x4096x128 .fp8e4m3) (f : m.view.ty.Contents (Elt Ideal)) :
    m.view.read (Elt Ideal) (m.view.writes (Elt Ideal) f (kcAll (kvMean arg3 arg4 (harg3.unread x3) (harg4.unread x4)) (kvLoad arg3 (harg3.unread x3)) 8)) = fun y : S1x2x4096x128.Idx => kGat x3 (y 1) (y 2) (y 3) := by
  funext y
  refine View.read_writes_apply_of_pieces m.view f (fun y : S1x2x4096x128.Idx => kGat x3 (y 1) (y 2) (y 3)) _ ?_ y ?_
  · intro p hp
    obtain ⟨k, h, b, _, rfl⟩ := (kcAll_mem le_rfl).mp hp
    exact kcPiece_eq arg3 arg4 harg3 harg4 x3 x4 h k b
  · show ∃ p ∈ _, _
    have h0 : (y 0).val < 1 := (y 0).isLt
    have h1 : (y 1).val < 2 := (y 1).isLt
    have h2 : (y 2).val < 4096 := (y 2).isLt
    have h3 : (y 3).val < 128 := (y 3).isLt
    refine ⟨_, (kcAll_mem le_rfl).mpr ⟨⟨(y 2).val / 512, by show _ < 8; omega⟩, ⟨(y 1).val, h1⟩, ⟨(y 2).val % 512 / 64, by omega⟩, by simp only; omega, rfl⟩, ?_⟩
    refine mem_unit_of _ (inb_kc _ _ _) (kcOff_eq _ _ _) y fun a => ?_
    match a with
    | ⟨0, _⟩ => exact ⟨by show 0 ≤ (y 0).val; omega, by show (y 0).val < 0 + 1; omega⟩
    | ⟨1, _⟩ => exact ⟨by show (y 1).val ≤ (y 1).val; omega, by show (y 1).val < (y 1).val + 1; omega⟩
    | ⟨2, _⟩ => exact ⟨by show 512 * ((y 2).val / 512) + 64 * ((y 2).val % 512 / 64) ≤ (y 2).val; omega, by show (y 2).val < 512 * ((y 2).val / 512) + 64 * ((y 2).val % 512 / 64) + 64; omega⟩
    | ⟨3, _⟩ => exact ⟨by show 0 ≤ (y 3).val; omega, by show (y 3).val < 0 + 128; omega⟩

/-- those of their scales the scales, one row to a block, -/
theorem ksAll_read (m : Memref sig .tc .vmem S2x64x128 .f32) (f : m.view.ty.Contents (Elt Ideal)) :
    m.view.read (Elt Ideal) (m.view.writes (Elt Ideal) f (ksAll (kvMean arg3 arg4 (harg3.unread x3) (harg4.unread x4)) (kvLoad arg3 (harg3.unread x3)) 8)) = fun y : S2x64x128.Idx => Pow2.scale (kYb x3 (y 0) (y 1)) := by
  funext y
  refine View.read_writes_apply_of_pieces m.view f (fun y : S2x64x128.Idx => Pow2.scale (kYb x3 (y 0) (y 1))) _ ?_ y ?_
  · intro p hp
    obtain ⟨k, h, _, rfl⟩ := (ksAll_mem le_rfl).mp hp
    exact ksPiece_eq arg3 arg4 harg3 harg4 x3 x4 h k
  · show ∃ p ∈ _, _
    have h0 : (y 0).val < 2 := (y 0).isLt
    have h1 : (y 1).val < 64 := (y 1).isLt
    have h2 : (y 2).val < 128 := (y 2).isLt
    refine ⟨_, (ksAll_mem le_rfl).mpr ⟨⟨(y 1).val / 8, by show _ < 8; omega⟩, ⟨(y 0).val, h0⟩, by simp only; omega, rfl⟩, ?_⟩
    refine mem_unit_of _ (inb_ks _ _) (ksOff_eq _ _) y fun a => ?_
    match a with
    | ⟨0, _⟩ => exact ⟨by show (y 0).val ≤ (y 0).val; omega, by show (y 0).val < (y 0).val + 1; omega⟩
    | ⟨1, _⟩ => exact ⟨by show 8 * ((y 1).val / 8) ≤ (y 1).val; omega, by show (y 1).val < 8 * ((y 1).val / 8) + 8; omega⟩
    | ⟨2, _⟩ => exact ⟨by show 0 ≤ (y 2).val; omega, by show (y 2).val < 0 + 128; omega⟩

/-- those of the values' codes the codes, -/
theorem vcAll_read (m : Memref sig .tc .vmem S1x2x4096x128 .fp8e4m3) (f : m.view.ty.Contents (Elt Ideal)) :
    m.view.read (Elt Ideal) (m.view.writes (Elt Ideal) f (vcAll (kvInv arg3 arg4 (harg3.unread x3) (harg4.unread x4)) (kvLoad arg4 (harg4.unread x4)) 8)) = fun y : S1x2x4096x128.Idx => vGat x4 (y 1) (y 2) (y 3) := by
  funext y
  refine View.read_writes_apply_of_pieces m.view f (fun y : S1x2x4096x128.Idx => vGat x4 (y 1) (y 2) (y 3)) _ ?_ y ?_
  · intro p hp
    obtain ⟨k, h, _, rfl⟩ := (vcAll_mem le_rfl).mp hp
    exact vcPiece_eq arg3 arg4 harg3 harg4 x3 x4 h k
  · show ∃ p ∈ _, _
    have h0 : (y 0).val < 1 := (y 0).isLt
    have h1 : (y 1).val < 2 := (y 1).isLt
    have h2 : (y 2).val < 4096 := (y 2).isLt
    have h3 : (y 3).val < 128 := (y 3).isLt
    refine ⟨_, (vcAll_mem le_rfl).mpr ⟨⟨(y 2).val / 512, by show _ < 8; omega⟩, ⟨(y 1).val, h1⟩, by simp only; omega, rfl⟩, ?_⟩
    refine mem_unit_of _ (inb_vc _ _) (vcOff_eq _ _) y fun a => ?_
    match a with
    | ⟨0, _⟩ => exact ⟨by show 0 ≤ (y 0).val; omega, by show (y 0).val < 0 + 1; omega⟩
    | ⟨1, _⟩ => exact ⟨by show (y 1).val ≤ (y 1).val; omega, by show (y 1).val < (y 1).val + 1; omega⟩
    | ⟨2, _⟩ => exact ⟨by show 512 * ((y 2).val / 512) ≤ (y 2).val; omega, by show (y 2).val < 512 * ((y 2).val / 512) + 512; omega⟩
    | ⟨3, _⟩ => exact ⟨by show 0 ≤ (y 3).val; omega, by show (y 3).val < 0 + 128; omega⟩

/-- and those of the transposed codes the same transposed. -/
theorem vtAll_read (m : Memref sig .tc .vmem S2x128x4096 .fp8e4m3) (f : m.view.ty.Contents (Elt Ideal)) :
    m.view.read (Elt Ideal) (m.view.writes (Elt Ideal) f (vtAll (kvInv arg3 arg4 (harg3.unread x3) (harg4.unread x4)) (kvLoad arg4 (harg4.unread x4)) 8)) = fun y : S2x128x4096.Idx => vGat x4 (y 0) (y 2) (y 1) := by
  funext y
  refine View.read_writes_apply_of_pieces m.view f (fun y : S2x128x4096.Idx => vGat x4 (y 0) (y 2) (y 1)) _ ?_ y ?_
  · intro p hp
    obtain ⟨k, h, _, rfl⟩ := (vtAll_mem le_rfl).mp hp
    exact vtPiece_eq arg3 arg4 harg3 harg4 x3 x4 h k
  · show ∃ p ∈ _, _
    have h0 : (y 0).val < 2 := (y 0).isLt
    have h1 : (y 1).val < 128 := (y 1).isLt
    have h2 : (y 2).val < 4096 := (y 2).isLt
    refine ⟨_, (vtAll_mem le_rfl).mpr ⟨⟨(y 2).val / 512, by show _ < 8; omega⟩, ⟨(y 0).val, h0⟩, by simp only; omega, rfl⟩, ?_⟩
    refine mem_unit_of _ (inb_vt _ _) (vtOff_eq _ _) y fun a => ?_
    match a with
    | ⟨0, _⟩ => exact ⟨by show (y 0).val ≤ (y 0).val; omega, by show (y 0).val < (y 0).val + 1; omega⟩
    | ⟨1, _⟩ => exact ⟨by show 0 ≤ (y 1).val; omega, by show (y 1).val < 0 + 128; omega⟩
    | ⟨2, _⟩ => exact ⟨by show 512 * ((y 2).val / 512) ≤ (y 2).val; omega, by show (y 2).val < 512 * ((y 2).val / 512) + 512; omega⟩

theorem vsPiece_eq (X3 : arg3.view.ty.Contents (Elt Ideal)) (n : Fin 2) (x : S1x1x128.Idx) :
    vsPut (kvY arg3 arg4 X3 (harg4.unread x4)) n x
      = (fun y : S1x2x128.Idx => Pow2.scale (vYb x4 (col (y 1) (y 2)))) ((Rect.unit (s := S1x2x128) ![0, n.val, 0] S1x1x128.size (inb_vs n)).emb x) := by
  obtain ⟨x0, x1, d, rfl⟩ : ∃ (a b : Fin 1) (d : Fin 128), x = ix3 a b d := ⟨x 0, x 1, x 2, by idx_ext⟩
  obtain rfl : x0 = 0 := by omega
  obtain rfl : x1 = 0 := by omega
  rw [vsPut_apply, kvY_apply]
  have he : (Rect.unit (s := S1x2x128) ![0, n.val, 0] S1x1x128.size (inb_vs n)).emb (ix3 0 0 d : S1x1x128.Idx) = ix3 0 n d := by
    funext a
    apply Fin.ext
    rw [unit_emb]
    fin_cases a <;> simp [ix3]
  rw [he]
  rfl

/-- The stores of the values' scales leave the scales. -/
theorem vs_read (m : Memref sig .tc .vmem S1x2x128 .f32) (f : m.view.ty.Contents (Elt Ideal)) (X3 : arg3.view.ty.Contents (Elt Ideal)) :
    m.view.read (Elt Ideal) (m.view.writes (Elt Ideal) f [vsPiece (kvY arg3 arg4 X3 (harg4.unread x4)) 1, vsPiece (kvY arg3 arg4 X3 (harg4.unread x4)) 0])
      = fun y : S1x2x128.Idx => Pow2.scale (vYb x4 (col (y 1) (y 2))) := by
  funext y
  refine View.read_writes_apply_of_pieces m.view f (fun y : S1x2x128.Idx => Pow2.scale (vYb x4 (col (y 1) (y 2)))) _ ?_ y ?_
  · intro p hp
    simp only [List.mem_cons, List.mem_nil_iff, or_false] at hp
    rcases hp with rfl | rfl <;> exact vsPiece_eq arg3 arg4 harg4 x4 X3 _
  · exact View.cover_of_tiled (s := S1x2x128) [vsPiece (kvY arg3 arg4 X3 (harg4.unread x4)) 1, vsPiece (kvY arg3 arg4 X3 (harg4.unread x4)) 0] S1x1x128.size (by rfl) y

theorem kdPiece_eq (arg12 : Memref sig .tc .vmem S2x64x128 .f32) (X : arg12.view.ty.Contents (Elt Ideal)) (g : Fin 2 → Fin 64 → EReal)
    (hX : arg12.view.read (Elt Ideal) X = fun y : S2x64x128.Idx => g (y 0) (y 1)) (n : Fin 2) (x : S1x1x64.Idx) :
    kDiag (kdLoad arg12 X n) x = (fun y : S1x2x64.Idx => g (y 1) (y 2)) ((Rect.unit (s := S1x2x64) ![0, n.val, 0] S1x1x64.size (inb_kd n)).emb x) := by
  obtain ⟨x0, x1, j, rfl⟩ : ∃ (a b : Fin 1) (j : Fin 64), x = ix3 a b j := ⟨x 0, x 1, x 2, by idx_ext⟩
  obtain rfl : x0 = 0 := by omega
  obtain rfl : x1 = 0 := by omega
  rw [kDiag_apply]
  have he : (Rect.unit (s := S1x2x64) ![0, n.val, 0] S1x1x64.size (inb_kd n)).emb (ix3 0 0 j : S1x1x64.Idx) = ix3 0 n j := by
    funext a
    apply Fin.ext
    rw [unit_emb]
    fin_cases a <;> simp [ix3]
  rw [he]
  unfold kdLoad
  rw [View.readAt_apply, hX]
  show g _ _ = g n j
  congr 1 <;> apply Fin.ext <;> simp [Rect.unit, Rect.toLoadRect, LoadRect.idx, ix3]

/-- The stores of the keys' scales leave what the table holds. -/
theorem kd_read (m : Memref sig .tc .vmem S1x2x64 .f32) (f : m.view.ty.Contents (Elt Ideal)) (arg12 : Memref sig .tc .vmem S2x64x128 .f32)
    (X : arg12.view.ty.Contents (Elt Ideal)) (g : Fin 2 → Fin 64 → EReal) (hX : arg12.view.read (Elt Ideal) X = fun y : S2x64x128.Idx => g (y 0) (y 1)) :
    m.view.read (Elt Ideal) (m.view.writes (Elt Ideal) f [kdPiece arg12 X 1, kdPiece arg12 X 0]) = fun y : S1x2x64.Idx => g (y 1) (y 2) := by
  funext y
  refine View.read_writes_apply_of_pieces m.view f (fun y : S1x2x64.Idx => g (y 1) (y 2)) _ ?_ y ?_
  · intro p hp
    simp only [List.mem_cons, List.mem_nil_iff, or_false] at hp
    rcases hp with rfl | rfl <;> exact kdPiece_eq arg12 X g hX _
  · exact View.cover_of_tiled (s := S1x2x64) [kdPiece arg12 X 1, kdPiece arg12 X 0] S1x1x64.size (by rfl) y

end Pieces

end Cert.KernelIdeal.Hand

end
-- ==== Proof.Ideal.OGen.lean ====
module

public import proofs.«01_k».proof.Proof.Ideal.QGen

/-! The attention of one unit, a block of 128 query rows and a key head, as functions of vectors.  The unit's query rows
are taken in four tiles of 32; lane `32 g + l` of a tile is row `l` for query head `g` of the group.  The window of keys is
taken in blocks of 32 rows, and tile `i` meets the 33 blocks `i … i + 32`. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The row of each lane within its tile: the lane modulo 32. -/
def laneRow : IVec S32x128 32 :=
  select (andi (xori (cmpi .slt (remsi (iota .tc S32x128 32 [1] iota_S32x128_d1_w32) (broadcast S32x128 32#32)) (broadcast S32x128 0#32))
      (broadcastTo S32x128 (broadcast S32x128 0#1)))
      (cmpi .ne (remsi (iota .tc S32x128 32 [1] iota_S32x128_d1_w32) (broadcast S32x128 32#32)) (broadcast S32x128 0#32)))
    (addi (remsi (iota .tc S32x128 32 [1] iota_S32x128_d1_w32) (broadcast S32x128 32#32)) (broadcast S32x128 32#32))
    (remsi (iota .tc S32x128 32 [1] iota_S32x128_d1_w32) (broadcast S32x128 32#32))

/-- The row of a block of keys. -/
def keyRow : IVec S32x128 32 := iota .tc S32x128 32 [0] iota_S32x128_d0_w32

/-- Minus infinity. -/
def ninf (S : Shape) : FVec F S .f32 := broadcast S (Scalar.ofBits .f32 0xFF800000#32)

theorem sl_mm (i : Fin 4) (t : Fin 33) : S128x512.Slices ![32 * ((i.val + t.val) % 4), 128 * i.val] S32x128 :=
  ⟨rfl, fun a => by have := i.isLt; fin_cases a <;> dsimp [S128x512, S32x128] <;> omega⟩

theorem sl_mm0 (i : Fin 4) : S128x512.Slices ![32 * i.val + 24, 128 * i.val] S8x128 :=
  ⟨rfl, fun a => by have := i.isLt; fin_cases a <;> dsimp [S128x512, S8x128] <;> omega⟩

theorem sl_ct (i : Fin 4) (t : Fin 33) : S18x128.Slices ![(i.val + t.val) / 2, 0] S1x128 :=
  ⟨rfl, fun a => by have := i.isLt; have := t.isLt; fin_cases a <;> dsimp [S18x128, S1x128] <;> omega⟩

/-- The products of a chunk of 128 keys with the unit's query lanes. -/
def mmC (k : Vec F S1x1x128x128 .fp8e4m3) (q : Vec F S1x1x512x128 .fp8e4m3) : FVec F S128x512 .f32 :=
  matmul dot_S128x128_S512x128_S128x512_1_1_0_0_n_n none (shapeCast S128x128 k shapeCasts_S1x1x128x128_S128x128)
    (shapeCast S512x128 q shapeCasts_S1x1x512x128_S512x128) (constant S128x512 .f32 0x00000000#32)

/-- The scale of each block of 64 keys, for each lane. -/
def ctab (ks : Vec F S1x18x128 .f32) (qs : Vec F S1x1x1x128 .f32) : FVec F S18x128 .f32 :=
  mulf (shapeCast S18x128 ks shapeCasts_S1x18x128_S18x128)
    (broadcastTo S18x128 (shapeCast S1x128 qs shapeCasts_S1x1x1x128_S1x128) broadcasts_S1x128_S18x128)

/-- The chunk a block of keys lies in. -/
def chunk (i : Fin 4) (t : Fin 33) : Fin 9 := ⟨(i.val + t.val) / 4, by have := i.isLt; have := t.isLt; omega⟩

/-- The scores of tile `i` with the keys of its block `t`, before the mask. -/
def sProd (mm : Fin 9 → FVec F S128x512 .f32) (ct : FVec F S18x128 .f32) (i : Fin 4) (t : Fin 33) : FVec F S32x128 .f32 :=
  mulf (extractStridedSlice S32x128 ![32 * ((i.val + t.val) % 4), 128 * i.val] (mm (chunk i t)) (sl_mm i t))
    (broadcastTo S32x128 (extractStridedSlice S1x128 ![(i.val + t.val) / 2, 0] ct (sl_ct i t)) broadcasts_S1x128_S32x128)

/-- The scores of tile `i` with the last eight keys of its first block. -/
def seg0 (mm : Fin 9 → FVec F S128x512 .f32) (ct : FVec F S18x128 .f32) (i : Fin 4) : FVec F S8x128 .f32 :=
  select (extractStridedSlice S8x128 ![24, 0] (cmpi .sgt (addi keyRow (broadcast S32x128 4294967272#32)) laneRow) slices_S32x128_o24_0_S8x128)
    (mulf (extractStridedSlice S8x128 ![32 * i.val + 24, 128 * i.val] (mm 0) (sl_mm0 i))
      (broadcastTo S8x128 (extractStridedSlice S1x128 ![(i.val + (0 : Fin 33).val) / 2, 0] ct (sl_ct i 0)) broadcasts_S1x128_S8x128))
    (ninf S8x128)

/-- The scores of tile `i` with its block `t`, masked: the second block's lower edge, the last block's upper edge. -/
def seg (mm : Fin 9 → FVec F S128x512 .f32) (ct : FVec F S18x128 .f32) (i : Fin 4) : Fin 33 → FVec F S32x128 .f32
  | ⟨1, h⟩ => select (cmpi .sgt (addi keyRow (broadcast S32x128 8#32)) laneRow) (sProd mm ct i ⟨1, h⟩) (ninf S32x128)
  | ⟨32, h⟩ => select (cmpi .sle keyRow laneRow) (sProd mm ct i ⟨32, h⟩) (ninf S32x128)
  | t => sProd mm ct i t

theorem inb_blk (i : Fin 4) (t : Fin 33) : ∀ a : Fin 2, (![32 * (i.val + t.val), 128 * i.val] : Fin 2 → ℕ) a + S32x128.size a ≤ S1152x512.size a := by
  intro a; have := i.isLt; have := t.isLt; fin_cases a <;> dsimp [S1152x512, S32x128] <;> omega

theorem inb_blk0 (i : Fin 4) : ∀ a : Fin 2, (![32 * i.val + 24, 128 * i.val] : Fin 2 → ℕ) a + S8x128.size a ≤ S1152x512.size a := by
  intro a; have := i.isLt; fin_cases a <;> dsimp [S1152x512, S8x128] <;> omega

/-- The place of a block of scores. -/
def rBlk (i : Fin 4) (t : Fin 33) : Rect S1152x512 := Rect.unit (s := S1152x512) ![32 * (i.val + t.val), 128 * i.val] S32x128.size (inb_blk i t)

/-- The place of the eight scores of a first block. -/
def rBlk0 (i : Fin 4) : Rect S1152x512 := Rect.unit (s := S1152x512) ![32 * i.val + 24, 128 * i.val] S8x128.size (inb_blk0 i)

/-- A store of scores. -/
def sPiece (mm : Fin 9 → FVec F S128x512 .f32) (ct : FVec F S18x128 .f32) : Fin 4 × Fin 33 → View.Piece (Elt F) S1152x512 .f32
  | (i, ⟨0, _⟩) => ⟨rBlk0 i, shapeCast S8x128 (seg0 mm ct i) shapeCasts_S8x128_S8x128⟩
  | (i, t) => ⟨rBlk i t, shapeCast S32x128 (seg mm ct i t) shapeCasts_S32x128_S32x128⟩

/-- The order of the stores of scores: chunk after chunk, within a chunk tile after tile. -/
def sOrd : List (Fin 4 × Fin 33) :=
  [(0, 0), (0, 1), (0, 2), (0, 3), (1, 0), (1, 1), (1, 2), (2, 0), (2, 1), (3, 0), (0, 4), (0, 5),
  (0, 6), (0, 7), (1, 3), (1, 4), (1, 5), (1, 6), (2, 2), (2, 3), (2, 4), (2, 5), (3, 1), (3, 2),
  (3, 3), (3, 4), (0, 8), (0, 9), (0, 10), (0, 11), (1, 7), (1, 8), (1, 9), (1, 10), (2, 6), (2, 7),
  (2, 8), (2, 9), (3, 5), (3, 6), (3, 7), (3, 8), (0, 12), (0, 13), (0, 14), (0, 15), (1, 11), (1, 12),
  (1, 13), (1, 14), (2, 10), (2, 11), (2, 12), (2, 13), (3, 9), (3, 10), (3, 11), (3, 12), (0, 16), (0, 17),
  (0, 18), (0, 19), (1, 15), (1, 16), (1, 17), (1, 18), (2, 14), (2, 15), (2, 16), (2, 17), (3, 13), (3, 14),
  (3, 15), (3, 16), (0, 20), (0, 21), (0, 22), (0, 23), (1, 19), (1, 20), (1, 21), (1, 22), (2, 18), (2, 19),
  (2, 20), (2, 21), (3, 17), (3, 18), (3, 19), (3, 20), (0, 24), (0, 25), (0, 26), (0, 27), (1, 23), (1, 24),
  (1, 25), (1, 26), (2, 22), (2, 23), (2, 24), (2, 25), (3, 21), (3, 22), (3, 23), (3, 24), (0, 28), (0, 29),
  (0, 30), (0, 31), (1, 27), (1, 28), (1, 29), (1, 30), (2, 26), (2, 27), (2, 28), (2, 29), (3, 25), (3, 26),
  (3, 27), (3, 28), (0, 32), (1, 31), (1, 32), (2, 30), (2, 31), (2, 32), (3, 29), (3, 30), (3, 31), (3, 32)]

/-- The order of the stores of probabilities: tile after tile. -/
def pOrd : List (Fin 4 × Fin 33) :=
  [(0, 0), (0, 1), (0, 2), (0, 3), (0, 4), (0, 5), (0, 6), (0, 7), (0, 8), (0, 9), (0, 10), (0, 11),
  (0, 12), (0, 13), (0, 14), (0, 15), (0, 16), (0, 17), (0, 18), (0, 19), (0, 20), (0, 21), (0, 22), (0, 23),
  (0, 24), (0, 25), (0, 26), (0, 27), (0, 28), (0, 29), (0, 30), (0, 31), (0, 32), (1, 0), (1, 1), (1, 2),
  (1, 3), (1, 4), (1, 5), (1, 6), (1, 7), (1, 8), (1, 9), (1, 10), (1, 11), (1, 12), (1, 13), (1, 14),
  (1, 15), (1, 16), (1, 17), (1, 18), (1, 19), (1, 20), (1, 21), (1, 22), (1, 23), (1, 24), (1, 25), (1, 26),
  (1, 27), (1, 28), (1, 29), (1, 30), (1, 31), (1, 32), (2, 0), (2, 1), (2, 2), (2, 3), (2, 4), (2, 5),
  (2, 6), (2, 7), (2, 8), (2, 9), (2, 10), (2, 11), (2, 12), (2, 13), (2, 14), (2, 15), (2, 16), (2, 17),
  (2, 18), (2, 19), (2, 20), (2, 21), (2, 22), (2, 23), (2, 24), (2, 25), (2, 26), (2, 27), (2, 28), (2, 29),
  (2, 30), (2, 31), (2, 32), (3, 0), (3, 1), (3, 2), (3, 3), (3, 4), (3, 5), (3, 6), (3, 7), (3, 8),
  (3, 9), (3, 10), (3, 11), (3, 12), (3, 13), (3, 14), (3, 15), (3, 16), (3, 17), (3, 18), (3, 19), (3, 20),
  (3, 21), (3, 22), (3, 23), (3, 24), (3, 25), (3, 26), (3, 27), (3, 28), (3, 29), (3, 30), (3, 31), (3, 32)]

/-- The stores of one unit's scores, last first, before those already made. -/
def sPieces (mm : Fin 9 → FVec F S128x512 .f32) (ct : FVec F S18x128 .f32) (H : List (View.Piece (Elt F) S1152x512 .f32)) :
    List (View.Piece (Elt F) S1152x512 .f32) :=
  sOrd.foldl (fun H x => sPiece mm ct x :: H) H

/-- The maxima of a block over groups of four rows. -/
def rowMax (x : FVec F S32x128 .f32) : FVec F S8x128 .f32 :=
  multiReduction .maximumf [0] S8x128 (shapeCast S4x8x128 x shapeCasts_S32x128_S4x8x128) 0xFF800000#32 reduces_S4x8x128_S8x128 (.inl rfl) rfl

/-- The maxima of eight rows, each alone. -/
def rowMax0 (x : FVec F S8x128 .f32) : FVec F S8x128 .f32 :=
  multiReduction .maximumf [0] S8x128 (shapeCast S1x8x128 x shapeCasts_S8x128_S1x8x128) 0xFF800000#32 reduces_S1x8x128_S8x128 (.inl rfl) rfl

/-- The maximum of eight rows. -/
def colMax (x : FVec F S8x128 .f32) : FVec F S1x128 .f32 :=
  shapeCast S1x128 (multiReduction .maximumf [0] S128 x 0xFF800000#32 reduces_S8x128_S128 (.inl rfl) rfl) shapeCasts_S128_S1x128

/-- The sums of a block over groups of four rows. -/
def rowSum (x : FVec F S32x128 .f32) : FVec F S8x128 .f32 :=
  multiReduction .add [0] S8x128 (shapeCast S4x8x128 x shapeCasts_S32x128_S4x8x128) 0x00000000#32 reduces_S4x8x128_S8x128 (.inl rfl) rfl

/-- The sums of eight rows, each alone. -/
def rowSum0 (x : FVec F S8x128 .f32) : FVec F S8x128 .f32 :=
  multiReduction .add [0] S8x128 (shapeCast S1x8x128 x shapeCasts_S8x128_S1x8x128) 0x00000000#32 reduces_S1x8x128_S8x128 (.inl rfl) rfl

/-- The sum of eight rows. -/
def colSum (x : FVec F S8x128 .f32) : FVec F S1x128 .f32 :=
  shapeCast S1x128 (multiReduction .add [0] S128 x 0x00000000#32 reduces_S8x128_S128 (.inl rfl) rfl) shapeCasts_S128_S1x128

/-- The maxima of the first `t + 1` blocks of a tile. -/
def mAcc (mm : Fin 9 → FVec F S128x512 .f32) (ct : FVec F S18x128 .f32) (i : Fin 4) : (t : ℕ) → t < 33 → FVec F S8x128 .f32
  | 0, _ => maximumf (ninf S8x128) (rowMax0 (seg0 mm ct i))
  | t + 1, h => maximumf (mAcc mm ct i t (by omega)) (rowMax (seg mm ct i ⟨t + 1, h⟩))

/-- The maximum of each lane's scores, less eight. -/
def mLane (mm : Fin 9 → FVec F S128x512 .f32) (ct : FVec F S18x128 .f32) (i : Fin 4) : FVec F S1x128 .f32 :=
  subf (colMax (mAcc mm ct i 32 (by omega)))
    (broadcast S1x128 (Scalar.ofBits .f32 0x41000000#32))

/-- The stored scores of a block, read back. -/
def sRd (arg16 : Memref sig .tc .vmem S1152x512 .f32) (S : List (View.Piece (Elt F) S1152x512 .f32)) (i : Fin 4) (t : Fin 33) : FVec F S32x128 .f32 :=
  arg16.view.readCov S (rBlk i t).toLoadRect

/-- The stored scores of a first block, read back. -/
def sRd0 (arg16 : Memref sig .tc .vmem S1152x512 .f32) (S : List (View.Piece (Elt F) S1152x512 .f32)) (i : Fin 4) : FVec F S8x128 .f32 :=
  arg16.view.readCov S (rBlk0 i).toLoadRect

/-- The exponentials of a block. -/
def pBlk (s : FVec F S32x128 .f32) (m : FVec F S1x128 .f32) : FVec F S32x128 .f32 := exp2 (subf s (broadcastTo S32x128 m broadcasts_S1x128_S32x128))

/-- The exponentials of a first block. -/
def pBlk0 (s : FVec F S8x128 .f32) (m : FVec F S1x128 .f32) : FVec F S8x128 .f32 := exp2 (subf s (broadcastTo S8x128 m broadcasts_S1x128_S8x128))

/-- A store of probabilities. -/
def pPiece (s0 : Fin 4 → FVec F S8x128 .f32) (s : Fin 4 → Fin 33 → FVec F S32x128 .f32) (m : Fin 4 → FVec F S1x128 .f32) :
    Fin 4 × Fin 33 → View.Piece (Elt F) S1152x512 .fp8e4m3
  | (i, ⟨0, h⟩) => ⟨rBlk i ⟨0, h⟩, shapeCast S32x128 (truncf .fp8e4m3 (concatenate S32x128 0 [⟨S24x128, broadcast S24x128 (Scalar.ofBits .f32 0x00000000#32)⟩,
      ⟨S8x128, minimumf (broadcast S8x128 (Scalar.ofBits .f32 0x43E00000#32)) (maximumf (broadcast S8x128 (Scalar.ofBits .f32 0xC3E00000#32)) (pBlk0 (s0 i) (m i)))⟩]
      concatenates_S24x128_S8x128_S32x128_d0) bitsLt_fp8e4m3_f32) shapeCasts_S32x128_S32x128⟩
  | (i, t) => ⟨rBlk i t, shapeCast S32x128 (truncf .fp8e4m3 (minimumf (broadcast S32x128 (Scalar.ofBits .f32 0x43E00000#32))
      (maximumf (broadcast S32x128 (Scalar.ofBits .f32 0xC3E00000#32)) (pBlk (s i t) (m i)))) bitsLt_fp8e4m3_f32) shapeCasts_S32x128_S32x128⟩

/-- The stores of one unit's probabilities, last first, before those already made. -/
def pPieces (s0 : Fin 4 → FVec F S8x128 .f32) (s : Fin 4 → Fin 33 → FVec F S32x128 .f32) (m : Fin 4 → FVec F S1x128 .f32)
    (H : List (View.Piece (Elt F) S1152x512 .fp8e4m3)) : List (View.Piece (Elt F) S1152x512 .fp8e4m3) :=
  pOrd.foldl (fun H x => pPiece s0 s m x :: H) H

/-- The sums of the first `t + 1` blocks of a tile, over groups of four rows. -/
def lAcc (s0 : FVec F S8x128 .f32) (s : Fin 33 → FVec F S32x128 .f32) (m : FVec F S1x128 .f32) : (t : ℕ) → t < 33 → FVec F S8x128 .f32
  | 0, _ => addf (broadcast S8x128 (Scalar.ofBits .f32 0x00000000#32)) (rowSum0 (pBlk0 s0 m))
  | t + 1, h => addf (lAcc s0 s m t (by omega)) (rowSum (pBlk (s ⟨t + 1, h⟩) m))

/-- The inverse of the sum of each lane's exponentials. -/
def recip (s0 : FVec F S8x128 .f32) (s : Fin 33 → FVec F S32x128 .f32) (m : FVec F S1x128 .f32) : FVec F S1x128 .f32 :=
  divf (broadcast S1x128 (Scalar.ofBits .f32 0x3F800000#32))
    (colSum (lAcc s0 s m 32 (by omega)))

/-- The products of the unit's values with the probabilities. -/
def oMat (v : Vec F S1x128x1152 .fp8e4m3) (p : Vec F S1152x512 .fp8e4m3) : FVec F S128x512 .f32 :=
  matmul dot_S128x1152_S1152x512_S128x512_1_0_0_1_n_n none (shapeCast S128x1152 v shapeCasts_S1x128x1152_S128x1152) p (constant S128x512 .f32 0x00000000#32)

theorem sl_o (i : Fin 4) : S128x512.Slices ![0, 128 * i.val] S128x128 :=
  ⟨rfl, fun a => by have := i.isLt; fin_cases a <;> dsimp [S128x512, S128x128] <;> omega⟩

theorem sl_og (g : Fin 4) : S128x128.Slices ![32 * g.val, 0] S32x128 :=
  ⟨rfl, fun a => by have := g.isLt; fin_cases a <;> dsimp [S32x128, S128x128] <;> omega⟩

/-- A tile's result, a row for each lane. -/
def oTile (o : FVec F S128x512 .f32) (r : FVec F S1x128 .f32) (vs : Vec F S1x1x128 .f32) (i : Fin 4) : FVec F S128x128 .bf16 :=
  truncf .bf16 (mulf (transpose S128x128 [1, 0] (mulf (extractStridedSlice S128x128 ![0, 128 * i.val] o (sl_o i)) (broadcastTo S128x128 r broadcasts_S1x128_S128x128))
      transposes_S128x128_p1_0_S128x128)
    (broadcastTo S128x128 (shapeCast S1x128 vs shapeCasts_S1x1x128_S1x128) broadcasts_S1x128_S128x128)) bitsLt_bf16_f32

theorem inb_o (rb n : Fin 2) (i g : Fin 4) : ∀ a : Fin 3, (![0, 128 * rb.val + 32 * i.val, 512 * n.val + 128 * g.val] : Fin 3 → ℕ) a + S1x32x128.size a ≤ S1x256x1024.size a := by
  intro a; have := rb.isLt; have := n.isLt; have := i.isLt; have := g.isLt; fin_cases a <;> dsimp [S1x32x128, S1x256x1024] <;> omega

/-- A store of a tile's rows for one query head. -/
def oPiece (rb n : Fin 2) (tile : Fin 4 → FVec F S128x128 .bf16) (x : Fin 4 × Fin 4) : View.Piece (Elt F) S1x256x1024 .bf16 :=
  ⟨Rect.unit (s := S1x256x1024) ![0, 128 * rb.val + 32 * x.1.val, 512 * n.val + 128 * x.2.val] S1x32x128.size (inb_o rb n x.1 x.2),
    shapeCast S1x32x128 (extractStridedSlice S32x128 ![32 * x.2.val, 0] (tile x.1) (sl_og x.2)) shapeCasts_S32x128_S1x32x128⟩

/-- The order of the stores of a unit's results. -/
def oOrd : List (Fin 4 × Fin 4) :=
  [(0, 0), (0, 1), (0, 2), (0, 3), (1, 0), (1, 1), (1, 2), (1, 3), (2, 0), (2, 1), (2, 2), (2, 3), (3, 0), (3, 1), (3, 2), (3, 3)]

/-- The query head of each lane within its group: the lane over 32. -/
def laneHead : IVec S1x128 32 :=
  select (andi (cmpi .ne (subi (extui 32 (cmpi .sgt (iota .tc S1x128 32 [1] iota_S1x128_d1_w32) (broadcast S1x128 0#32)) natLt_1_32)
        (extui 32 (cmpi .slt (iota .tc S1x128 32 [1] iota_S1x128_d1_w32) (broadcast S1x128 0#32)) natLt_1_32)) (broadcast S1x128 1#32))
      (cmpi .ne (remsi (iota .tc S1x128 32 [1] iota_S1x128_d1_w32) (broadcast S1x128 32#32)) (broadcast S1x128 0#32)))
    (subi (divsi (iota .tc S1x128 32 [1] iota_S1x128_d1_w32) (broadcast S1x128 32#32)) (broadcast S1x128 1#32))
    (divsi (iota .tc S1x128 32 [1] iota_S1x128_d1_w32) (broadcast S1x128 32#32))

/-- The scale of one head on its lanes, over `x` on the others. -/
def qsPick (sc : FVec F S8x1 .f32) (h : Fin 8) (k : BitVec 32) (x : FVec F S1x128 .f32) : FVec F S1x128 .f32 :=
  select (cmpi .eq laneHead (broadcast S1x128 k))
    (broadcastTo S1x128 (shapeCast S1x1 (extractStridedSlice S1x1 ![h.val, 0] sc (slices_S8x1 h)) shapeCasts_S1x1_S1x1) broadcasts_S1x1_S1x128) x

/-- The scales of a group's four heads, each on its lanes. -/
def qsLane (sc : FVec F S8x1 .f32) (n : Fin 2) : FVec F S1x128 .f32 :=
  qsPick sc ⟨4 * n.val + 3, by omega⟩ 3#32 (qsPick sc ⟨4 * n.val + 2, by omega⟩ 2#32 (qsPick sc ⟨4 * n.val + 1, by omega⟩ 1#32
    (qsPick sc ⟨4 * n.val, by omega⟩ 0#32 (broadcast S1x128 (Scalar.ofBits .f32 0x00000000#32)))))

theorem inb_q15s (rb n : Fin 2) : ∀ a : Fin 4, (![rb.val, n.val, 0, 0] : Fin 4 → ℕ) a + S1x1x8x128.size a ≤ S2x2x8x128.size a := by
  intro a; have := rb.isLt; have := n.isLt; fin_cases a <;> dsimp [S1x1x8x128, S2x2x8x128] <;> omega

/-- The store of a unit's scales of the queries. -/
def qsPiece (rb n : Fin 2) (sc : FVec F S8x1 .f32) : View.Piece (Elt F) S2x2x8x128 .f32 :=
  ⟨Rect.unit (s := S2x2x8x128) ![rb.val, n.val, 0, 0] S1x1x8x128.size (inb_q15s rb n),
    shapeCast S1x1x8x128 (broadcastTo S8x128 (shapeCast S1x128 (mulf (qsLane sc n)
      (broadcast S1x128 (Named.named κ "score_scale" 0x3E0293EE#32))) shapeCasts_S1x128_S1x128) broadcasts_S1x128_S8x128) shapeCasts_S8x128_S1x1x8x128⟩

theorem inb_q14s (rb n : Fin 2) (i g : Fin 4) : ∀ a : Fin 4, (![rb.val, n.val, 32 * (4 * i.val + g.val), 0] : Fin 4 → ℕ) a + S1x1x32x128.size a ≤ S2x2x512x128.size a := by
  intro a; have := rb.isLt; have := n.isLt; have := i.isLt; have := g.isLt; fin_cases a <;> dsimp [S1x1x32x128, S2x2x512x128] <;> omega

/-- The store of a tile's rows of one head's codes. -/
def qRowPiece (l : Fin 8 → Vec F S1x128x128 .bf16) (rb n : Fin 2) (x : Fin 4 × Fin 4) : View.Piece (Elt F) S2x2x512x128 .fp8e4m3 :=
  ⟨Rect.unit (s := S2x2x512x128) ![rb.val, n.val, 32 * (4 * x.2.val + x.1.val), 0] S1x1x32x128.size (inb_q14s rb n x.2 x.1),
    shapeCast S1x1x32x128 (extractStridedSlice S32x128 ![32 * x.2.val, 0]
      (qCode (l ⟨4 * n.val + x.1.val, by omega⟩) (vinv (qY l)) ⟨4 * n.val + x.1.val, by omega⟩) (sl_og x.2)) shapeCasts_S32x128_S1x1x32x128⟩

/-- The stores of a unit's codes of the queries, head after head. -/
def qRowPieces (l : Fin 8 → Vec F S1x128x128 .bf16) (rb n : Fin 2) (H : List (View.Piece (Elt F) S2x2x512x128 .fp8e4m3)) : List (View.Piece (Elt F) S2x2x512x128 .fp8e4m3) :=
  oOrd.foldl (fun H x => qRowPiece l rb n x :: H) H

/-- The stores of one unit's results, last first, before those already made. -/
def oPieces (rb n : Fin 2) (tile : Fin 4 → FVec F S128x128 .bf16) (H : List (View.Piece (Elt F) S1x256x1024 .bf16)) :
    List (View.Piece (Elt F) S1x256x1024 .bf16) :=
  oOrd.foldl (fun H x => oPiece rb n tile x :: H) H

end Cert.KernelIdeal.Hand

end
-- ==== Proof.Ideal.OVal.lean ====
module

public import proofs.«01_k».proof.Proof.Ideal.QPoint
public import proofs.«01_k».proof.Proof.Ideal.OGen

/-! The elements of one unit's attention. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem laneRow_apply (r : Fin 32) (L : Fin 128) : laneRow (ix2 r L) = BitVec.ofNat 32 (L.val % 32) := by
  pointwise [laneRow]
  revert L; decide +kernel

theorem keyRow_apply (r : Fin 32) (L : Fin 128) : keyRow (ix2 r L) = BitVec.ofNat 32 r.val := by
  pointwise [keyRow]

theorem laneHead_apply (L : Fin 128) : laneHead (ix2 0 L) = BitVec.ofNat 32 (L.val / 32) := by
  pointwise [laneHead]
  revert L; decide +kernel

theorem mmC_apply (k : Vec Ideal S1x1x128x128 .fp8e4m3) (q : Vec Ideal S1x1x512x128 .fp8e4m3) (r : Fin 128) (L : Fin 512) :
    mmC k q (ix2 r L) = ∑ d : Fin 128, k (ix4 0 0 r d) * q (ix4 0 0 L d) := by
  pointwise [mmC]

theorem ctab_apply (ks : Vec Ideal S1x18x128 .f32) (qs : Vec Ideal S1x1x1x128 .f32) (b : Fin 18) (L : Fin 128) :
    ctab ks qs (ix2 b L) = ks (ix3 0 b L) * qs (ix4 0 0 0 L) := by
  pointwise [ctab]

theorem sel_iff {α : Type} (b : BitVec 1) (p : Prop) [Decidable p] (h : b = 1#1 ↔ p) (x y : α) : Scalar.select b x y = if p then x else y := by
  by_cases hp : p
  · rw [h.mpr hp, if_pos hp]; rfl
  · rw [if_neg hp]
    have : b = 0#1 := by
      rcases (show ∀ b : BitVec 1, b = 0#1 ∨ b = 1#1 by decide) b with h0 | h1
      · exact h0
      · exact absurd (h.mp h1) hp
    rw [this]; rfl

theorem eq_iff (a b : BitVec 32) : IntOp.cmpi .eq a b = 1#1 ↔ a = b := by
  by_cases h : a = b
  · simp [IntOp.cmpi, h]
  · have hb : (a == b) = false := by simpa using h
    simp only [IntOp.cmpi, hb, h, iff_false]
    decide

theorem qsPick_apply (sc : FVec Ideal S8x1 .f32) (h : Fin 8) (k : BitVec 32) (x : FVec Ideal S1x128 .f32) (L : Fin 128) :
    qsPick sc h k x (ix2 0 L) = if BitVec.ofNat 32 (L.val / 32) = k then sc (ix2 h 0) else x (ix2 0 L) := by
  pointwise [qsPick]
  rw [laneHead_apply]
  exact sel_iff _ _ (eq_iff _ _) _ _

theorem qsLane_apply (sc : FVec Ideal S8x1 .f32) (n : Fin 2) (g : Fin 4) (l : Fin 32) :
    qsLane sc n (ix2 0 ⟨32 * g.val + l.val, by omega⟩) = sc (ix2 ⟨4 * n.val + g.val, by omega⟩ 0) := by
  unfold qsLane
  simp only [qsPick_apply]
  have h : (32 * g.val + l.val) / 32 = g.val := by omega
  simp only [h]
  fin_cases g <;> rfl

theorem sProd_apply (mm : Fin 9 → FVec Ideal S128x512 .f32) (ct : FVec Ideal S18x128 .f32) (i : Fin 4) (t : Fin 33) (r : Fin 32) (L : Fin 128) :
    sProd mm ct i t (ix2 r L) = mm (chunk i t) (ix2 ⟨32 * ((i.val + t.val) % 4) + r.val, by omega⟩ ⟨128 * i.val + L.val, by omega⟩)
      * ct (ix2 ⟨(i.val + t.val) / 2, by omega⟩ L) := by
  pointwise [sProd]

theorem rowMax_apply (x : FVec Ideal S32x128 .f32) (s : Fin 8) (L : Fin 128) :
    rowMax x (ix2 s L) = ⨆ k : Fin 4, x (ix2 ⟨k * 8 + s, by omega⟩ L) := by
  pointwise [rowMax]
  rw [ninf32, fold_max_bot]

theorem rowMax0_apply (x : FVec Ideal S8x128 .f32) (s : Fin 8) (L : Fin 128) : rowMax0 x (ix2 s L) = x (ix2 s L) := by
  pointwise [rowMax0]
  rw [ninf32]
  simp

theorem colMax_apply (x : FVec Ideal S8x128 .f32) (L : Fin 128) : colMax x (ix2 0 L) = ⨆ s : Fin 8, x (ix2 s L) := by
  pointwise [colMax]
  rw [ninf32, fold_max_bot]

theorem rowSum_apply (x : FVec Ideal S32x128 .f32) (s : Fin 8) (L : Fin 128) :
    rowSum x (ix2 s L) = ∑ k : Fin 4, x (ix2 ⟨k * 8 + s, by omega⟩ L) := by
  pointwise [rowSum]

theorem rowSum0_apply (x : FVec Ideal S8x128 .f32) (s : Fin 8) (L : Fin 128) : rowSum0 x (ix2 s L) = x (ix2 s L) := by
  pointwise [rowSum0]
  simp

theorem colSum_apply (x : FVec Ideal S8x128 .f32) (L : Fin 128) : colSum x (ix2 0 L) = ∑ s : Fin 8, x (ix2 s L) := by
  pointwise [colSum]

/-- The score of window row `R` on a lane of tile `i`. -/
def SW (mm : Fin 9 → FVec Ideal S128x512 .f32) (ct : FVec Ideal S18x128 .f32) (i : Fin 4) (R : Fin 1152) (L : Fin 128) : EReal :=
  mm ⟨R.val / 128, by omega⟩ (ix2 ⟨R.val % 128, by omega⟩ ⟨128 * i.val + L.val, by omega⟩) * ct (ix2 ⟨R.val / 64, by omega⟩ L)

/-- The window rows a lane of tile `i` sees. -/
abbrev Valid (i : Fin 4) (R : ℕ) (L : Fin 128) : Prop := 32 * i.val + 24 + L.val % 32 < R ∧ R ≤ 32 * i.val + 1024 + L.val % 32

/-- The masked score. -/
def SS (mm : Fin 9 → FVec Ideal S128x512 .f32) (ct : FVec Ideal S18x128 .f32) (i : Fin 4) (R : Fin 1152) (L : Fin 128) : EReal :=
  if 32 * i.val + 24 + L.val % 32 < R.val ∧ R.val ≤ 32 * i.val + 1024 + L.val % 32 then SW mm ct i R L else ⊥

theorem m0 (s : Fin 8) (L : Fin 128) : IntOp.cmpi .sgt (IntOp.addi (BitVec.ofNat 32 (24 + s.val)) 4294967272#32) (BitVec.ofNat 32 (L.val % 32)) = 1#1 ↔ L.val % 32 < s.val := by
  revert s L; decide +kernel

theorem m1 (s : Fin 32) (L : Fin 128) : IntOp.cmpi .sgt (IntOp.addi (BitVec.ofNat 32 s.val) 8#32) (BitVec.ofNat 32 (L.val % 32)) = 1#1 ↔ L.val % 32 < s.val + 8 := by
  revert s L; decide +kernel

theorem m32 (s : Fin 32) (L : Fin 128) : IntOp.cmpi .sle (BitVec.ofNat 32 s.val) (BitVec.ofNat 32 (L.val % 32)) = 1#1 ↔ s.val ≤ L.val % 32 := by
  revert s L; decide +kernel

theorem ninf_apply (S : Shape) (j : S.Idx) : ninf (F := Ideal) S j = ⊥ := by
  pointwise [ninf]
  exact ninf32

theorem SW_of (mm : Fin 9 → FVec Ideal S128x512 .f32) (ct : FVec Ideal S18x128 .f32) (i : Fin 4) (t : Fin 33) (r : Fin 32) (L : Fin 128) :
    sProd mm ct i t (ix2 r L) = SW mm ct i ⟨32 * (i.val + t.val) + r.val, by omega⟩ L := by
  rw [sProd_apply]
  unfold SW chunk
  have h1 : (32 * (i.val + t.val) + r.val) / 128 = (i.val + t.val) / 4 := by omega
  have h2 : (32 * (i.val + t.val) + r.val) % 128 = 32 * ((i.val + t.val) % 4) + r.val := by omega
  have h3 : (32 * (i.val + t.val) + r.val) / 64 = (i.val + t.val) / 2 := by omega
  simp only [h1, h2, h3]

theorem seg0_apply (mm : Fin 9 → FVec Ideal S128x512 .f32) (ct : FVec Ideal S18x128 .f32) (i : Fin 4) (s : Fin 8) (L : Fin 128) :
    seg0 mm ct i (ix2 s L) = SS mm ct i ⟨32 * i.val + 24 + s.val, by omega⟩ L := by
  have h : seg0 mm ct i (ix2 s L) = Scalar.select (IntOp.cmpi .sgt (IntOp.addi (keyRow (ix2 ⟨24 + s.val, by omega⟩ L)) 4294967272#32) (laneRow (ix2 ⟨24 + s.val, by omega⟩ L)))
      (mm 0 (ix2 ⟨32 * i.val + 24 + s.val, by omega⟩ ⟨128 * i.val + L.val, by omega⟩) * ct (ix2 ⟨(i.val + 0) / 2, by omega⟩ L)) (ninf (F := Ideal) S8x128 (ix2 s L)) := by
    pointwise [seg0]
  rw [h, keyRow_apply, laneRow_apply, ninf_apply, sel_iff _ _ (m0 s L)]
  unfold SS SW
  have h1 : (32 * i.val + 24 + s.val) / 128 = 0 := by omega
  have h2 : (32 * i.val + 24 + s.val) % 128 = 32 * i.val + 24 + s.val := by omega
  have h3 : (32 * i.val + 24 + s.val) / 64 = (i.val + 0) / 2 := by omega
  simp only [h1, h2, h3]
  exact if_congr (by omega) rfl rfl

theorem seg_apply (mm : Fin 9 → FVec Ideal S128x512 .f32) (ct : FVec Ideal S18x128 .f32) (i : Fin 4) (t : Fin 33) (ht : t.val ≠ 0) (r : Fin 32) (L : Fin 128) :
    seg mm ct i t (ix2 r L) = SS mm ct i ⟨32 * (i.val + t.val) + r.val, by omega⟩ L := by
  unfold SS
  dsimp only
  have hr := r.isLt
  have hl := t.isLt
  by_cases h1 : t.val = 1
  · obtain rfl : t = 1 := Fin.ext h1
    have h : seg mm ct i 1 (ix2 r L) = Scalar.select (IntOp.cmpi .sgt (IntOp.addi (keyRow (ix2 r L)) 8#32) (laneRow (ix2 r L)))
        (sProd mm ct i 1 (ix2 r L)) (ninf (F := Ideal) S32x128 (ix2 r L)) := rfl
    rw [h, keyRow_apply, laneRow_apply, ninf_apply, sel_iff _ _ (m1 r L), SW_of]
    exact if_congr (by show L.val % 32 < r.val + 8 ↔ 32 * i.val + 24 + L.val % 32 < 32 * (i.val + 1) + r.val ∧ 32 * (i.val + 1) + r.val ≤ _; omega) rfl rfl
  by_cases h2 : t.val = 32
  · obtain rfl : t = 32 := Fin.ext h2
    have h : seg mm ct i 32 (ix2 r L) = Scalar.select (IntOp.cmpi .sle (keyRow (ix2 r L)) (laneRow (ix2 r L)))
        (sProd mm ct i 32 (ix2 r L)) (ninf (F := Ideal) S32x128 (ix2 r L)) := rfl
    rw [h, keyRow_apply, laneRow_apply, ninf_apply, sel_iff _ _ (m32 r L), SW_of]
    exact if_congr (by show r.val ≤ L.val % 32 ↔ _ < 32 * (i.val + 32) + r.val ∧ 32 * (i.val + 32) + r.val ≤ 32 * i.val + 1024 + L.val % 32; omega) rfl rfl
  have h : seg mm ct i t = sProd mm ct i t := by
    obtain ⟨t, _⟩ := t
    unfold seg
    split
    · rename_i heq; exact absurd (congrArg Fin.val heq) h1
    · rename_i heq; exact absurd (congrArg Fin.val heq) h2
    · rfl
  rw [h, SW_of]
  exact (if_pos (by omega)).symm

theorem maxf_apply (a b : FVec Ideal S8x128 .f32) (j : S8x128.Idx) : maximumf a b j = max (a j) (b j) := rfl

theorem mAcc_succ (mm : Fin 9 → FVec Ideal S128x512 .f32) (ct : FVec Ideal S18x128 .f32) (i : Fin 4) (t : ℕ) (h : t + 1 < 33) :
    mAcc mm ct i (t + 1) h = maximumf (mAcc mm ct i t (by omega)) (rowMax (seg mm ct i ⟨t + 1, h⟩)) := by rw [mAcc]

theorem mAcc_zero (mm : Fin 9 → FVec Ideal S128x512 .f32) (ct : FVec Ideal S18x128 .f32) (i : Fin 4) (h : 0 < 33) (s : Fin 8) (L : Fin 128) :
    mAcc mm ct i 0 h (ix2 s L) = seg0 mm ct i (ix2 s L) := by
  have h0 : mAcc mm ct i 0 h = maximumf (ninf S8x128) (rowMax0 (seg0 mm ct i)) := by rw [mAcc]
  rw [h0, maxf_apply, ninf_apply, max_eq_right bot_le, rowMax0_apply]

/-- The maxima so far bound the scores so far. -/
theorem mAcc_le (mm : Fin 9 → FVec Ideal S128x512 .f32) (ct : FVec Ideal S18x128 .f32) (i : Fin 4) (s : Fin 8) (L : Fin 128) (B : EReal) :
    ∀ (t : ℕ) (h : t < 33), mAcc mm ct i t h (ix2 s L) ≤ B ↔
      ∀ R : Fin 1152, R.val % 8 = s.val → 32 * i.val + 24 ≤ R.val → R.val < 32 * (i.val + t + 1) → SS mm ct i R L ≤ B := by
  intro t
  induction t with
  | zero =>
    intro h
    rw [mAcc_zero, seg0_apply]
    constructor
    · intro hB R h8 h1 h2
      have hR : R = ⟨32 * i.val + 24 + s.val, by omega⟩ := Fin.ext (by show R.val = 32 * i.val + 24 + s.val; omega)
      rw [hR]
      exact hB
    · intro hB
      exact hB _ (by show (32 * i.val + 24 + s.val) % 8 = s.val; omega) (by show 32 * i.val + 24 ≤ 32 * i.val + 24 + s.val; omega) (by show 32 * i.val + 24 + s.val < _; omega)
  | succ t ih =>
    intro h
    rw [mAcc_succ, maxf_apply, max_le_iff, ih, rowMax_apply, iSup_le_iff]
    simp only [seg_apply mm ct i ⟨t + 1, h⟩ (Nat.succ_ne_zero t)]
    constructor
    · rintro ⟨hA, hB⟩ R h8 h1 h2
      by_cases hR : R.val < 32 * (i.val + t + 1)
      · exact hA R h8 h1 hR
      · have := hB ⟨(R.val - 32 * (i.val + t + 1)) / 8, by omega⟩
        convert this using 2
        apply Fin.ext
        show R.val = 32 * (i.val + (t + 1)) + ((R.val - 32 * (i.val + t + 1)) / 8 * 8 + s.val)
        omega
    · intro hA
      refine ⟨fun R h8 h1 h2 => hA R h8 h1 (by omega), fun k => hA _ ?_ ?_ ?_⟩
      · show (32 * (i.val + (t + 1)) + (k.val * 8 + s.val)) % 8 = s.val
        omega
      · show 32 * i.val + 24 ≤ (32 * (i.val + (t + 1)) + (k.val * 8 + s.val))
        omega
      · show (32 * (i.val + (t + 1)) + (k.val * 8 + s.val)) < _
        omega

/-- The largest score of a lane. -/
def MM (mm : Fin 9 → FVec Ideal S128x512 .f32) (ct : FVec Ideal S18x128 .f32) (i : Fin 4) (L : Fin 128) : EReal := ⨆ R : Fin 1152, SS mm ct i R L

theorem mLane_apply (mm : Fin 9 → FVec Ideal S128x512 .f32) (ct : FVec Ideal S18x128 .f32) (i : Fin 4) (L : Fin 128) :
    mLane mm ct i (ix2 0 L) = MM mm ct i L - 8 := by
  have h : mLane mm ct i (ix2 0 L) = colMax (mAcc mm ct i 32 (by omega)) (ix2 0 L) - Ideal.ofBits .f32 0x41000000#32 := by
    unfold mLane
    generalize colMax (mAcc mm ct i 32 _) = x
    pointwise []
  rw [h, colMax_apply]
  have h8 : Ideal.ofBits .f32 0x41000000#32 = (8 : EReal) := by
    simp [Ideal.ofBits, Ideal.ieee]
    rw [← EReal.coe_mul]
    show ((_ : ℝ) : EReal) = ((8 : ℝ) : EReal)
    congr 1
    norm_num
  rw [h8]
  congr 1
  refine eq_of_forall_ge_iff fun B => ?_
  unfold MM
  rw [iSup_le_iff, iSup_le_iff]
  simp only [mAcc_le]
  constructor
  · intro hB R
    by_cases hv : Valid i R.val L
    · have hv' := hv
      unfold Valid at hv'
      have := L.isLt
      exact hB ⟨R.val % 8, by omega⟩ R rfl (by omega) (by omega)
    · unfold SS
      rw [if_neg hv]
      exact bot_le
  · intro hB s R _ _ _
    exact hB R

theorem pBlk_apply (s : FVec Ideal S32x128 .f32) (m : FVec Ideal S1x128 .f32) (r : Fin 32) (L : Fin 128) :
    pBlk s m (ix2 r L) = Ideal.exp2 (s (ix2 r L) - m (ix2 0 L)) := by
  pointwise [pBlk]
  rfl

theorem pBlk0_apply (s : FVec Ideal S8x128 .f32) (m : FVec Ideal S1x128 .f32) (r : Fin 8) (L : Fin 128) :
    pBlk0 s m (ix2 r L) = Ideal.exp2 (s (ix2 r L) - m (ix2 0 L)) := by
  pointwise [pBlk0]
  rfl

/-- A function of window rows at any number. -/
def ext (f : Fin 1152 → EReal) (n : ℕ) : EReal := if h : n < 1152 then f ⟨n, h⟩ else 0

theorem ext_of (f : Fin 1152 → EReal) (R : Fin 1152) : ext f R.val = f R := dif_pos R.isLt

theorem addf_apply (a b : FVec Ideal S8x128 .f32) (j : S8x128.Idx) : addf a b j = a j + b j := rfl

theorem sum_block (g : ℕ → EReal) (a : ℕ) : ∑ s : Fin 8, ∑ k : Fin 4, g (a + (k.val * 8 + s.val)) = ∑ R ∈ Finset.Ico a (a + 32), g R := by
  rw [Finset.sum_comm, Finset.sum_Ico_eq_sum_range, Nat.add_sub_cancel_left]
  simp only [Fin.sum_univ_eq_sum_range (fun s => ∑ s : Fin 8, g (a + (_ * 8 + s.val))), Fin.sum_univ_four, Fin.sum_univ_eight, Finset.sum_range_succ, Finset.sum_range_zero]
  simp [add_assoc]

section Sums

variable (i : Fin 4) (s0 : FVec Ideal S8x128 .f32) (s : Fin 33 → FVec Ideal S32x128 .f32) (m : FVec Ideal S1x128 .f32) (L : Fin 128) (S : Fin 1152 → EReal)
  (h0 : ∀ k : Fin 8, s0 (ix2 k L) = S ⟨32 * i.val + 24 + k.val, by omega⟩)
  (hs : ∀ (t : Fin 33), t.val ≠ 0 → ∀ r : Fin 32, s t (ix2 r L) = S ⟨32 * (i.val + t.val) + r.val, by omega⟩)

include h0 hs in
theorem lAcc_sum : ∀ (t : ℕ) (h : t < 33), ∑ k : Fin 8, lAcc s0 s m t h (ix2 k L)
      = ∑ R ∈ Finset.Ico (32 * i.val + 24) (32 * (i.val + t + 1)), ext (fun R => Ideal.exp2 (S R - m (ix2 0 L))) R := by
  intro t
  induction t with
  | zero =>
    intro h
    have e : lAcc s0 s m 0 h = addf (broadcast S8x128 (Scalar.ofBits .f32 0x00000000#32)) (rowSum0 (pBlk0 s0 m)) := by rw [lAcc]
    have z : ∀ k : Fin 8, (broadcast S8x128 (Scalar.ofBits (F := Ideal) .f32 0x00000000#32)) (ix2 k L) = (0 : EReal) := by
      intro k
      pointwise []
    rw [e]
    simp only [addf_apply, rowSum0_apply, pBlk0_apply, z, zero_add, h0]
    rw [Finset.sum_Ico_eq_sum_range, show 32 * (i.val + 0 + 1) - (32 * i.val + 24) = 8 by omega, ← Fin.sum_univ_eq_sum_range (fun k => ext _ (32 * i.val + 24 + k))]
    refine Finset.sum_congr rfl fun k _ => ?_
    exact (ext_of (fun R => Ideal.exp2 (S R - m (ix2 0 L))) ⟨32 * i.val + 24 + k.val, by omega⟩).symm
  | succ t ih =>
    intro h
    have e : lAcc s0 s m (t + 1) h = addf (lAcc s0 s m t (by omega)) (rowSum (pBlk (s ⟨t + 1, h⟩) m)) := by rw [lAcc]
    rw [e]
    simp only [addf_apply, rowSum_apply, pBlk_apply, hs ⟨t + 1, h⟩ (Nat.succ_ne_zero t)]
    rw [Finset.sum_add_distrib, ih, show 32 * (i.val + (t + 1) + 1) = 32 * (i.val + t + 1) + 32 by omega,
      ← Finset.sum_Ico_consecutive _ (show 32 * i.val + 24 ≤ 32 * (i.val + t + 1) by omega) (show 32 * (i.val + t + 1) ≤ 32 * (i.val + t + 1) + 32 by omega), ← sum_block]
    congr 1
    refine Finset.sum_congr rfl fun k _ => Finset.sum_congr rfl fun r _ => ?_
    exact (ext_of (fun R => Ideal.exp2 (S R - m (ix2 0 L))) ⟨32 * (i.val + (t + 1)) + (r.val * 8 + k.val), by omega⟩).symm

include h0 hs in
theorem recip_apply (hS : ∀ R : Fin 1152, R.val < 32 * i.val + 24 ∨ 32 * i.val + 1056 ≤ R.val → S R = ⊥) :
    recip s0 s m (ix2 0 L) = Ideal.div 1 (∑ R : Fin 1152, Ideal.exp2 (S R - m (ix2 0 L))) := by
  have h : recip s0 s m (ix2 0 L) = Ideal.div (Ideal.ofBits .f32 0x3F800000#32) (colSum (lAcc s0 s m 32 (by omega)) (ix2 0 L)) := by
    unfold recip
    generalize colSum (lAcc s0 s m 32 _) = x
    pointwise []
  have h1 : Ideal.ofBits .f32 0x3F800000#32 = (1 : EReal) := by
    simp [Ideal.ofBits, Ideal.ieee]
    rw [← EReal.coe_mul]
    show ((_ : ℝ) : EReal) = ((1 : ℝ) : EReal)
    congr 1
    norm_num
  rw [h, h1, colSum_apply, lAcc_sum i s0 s m L S h0 hs]
  congr 1
  have hx : ∀ R : Fin 1152, Ideal.exp2 (S R - m (ix2 0 L)) = ext (fun R => Ideal.exp2 (S R - m (ix2 0 L))) R.val := fun R => (ext_of (fun R => Ideal.exp2 (S R - m (ix2 0 L))) R).symm
  rw [Finset.sum_congr rfl (fun R _ => hx R), Fin.sum_univ_eq_sum_range (fun n => ext (fun R => Ideal.exp2 (S R - m (ix2 0 L))) n)]
  refine Finset.sum_subset (fun R hR => ?_) (fun R hR hn => ?_)
  · rw [Finset.mem_Ico] at hR
    rw [Finset.mem_range]
    omega
  · rw [Finset.mem_range] at hR
    rw [Finset.mem_Ico] at hn
    rw [show R = (⟨R, hR⟩ : Fin 1152).val from rfl, ext_of, hS ⟨R, hR⟩ (by show R < _ ∨ _ ≤ R; omega), sub_eq_add_neg, EReal.bot_add, Ideal.exp2_bot]

end Sums

end Cert.KernelIdeal.Hand

end
-- ==== Proof.Ideal.ORead.lean ====
module

public import proofs.«01_k».proof.Proof.Ideal.OVal
public import proofs.«01_k».proof.Proof.Ideal.QPoint

/-! What is read back of a unit's stores. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Fold

variable {sp : Space} {s : Shape} {e : EltTy} {ι : Type} (v : View sig .tc sp s e) (piece : ι → View.Piece (Elt Ideal) s e)

theorem writes_foldl (f : v.ty.Contents (Elt Ideal)) : ∀ (l : List ι) (H : List (View.Piece (Elt Ideal) s e)),
    v.writes (Elt Ideal) f (l.foldl (fun H x => piece x :: H) H) = v.writes (Elt Ideal) (v.writes (Elt Ideal) f H) (l.foldl (fun H x => piece x :: H) []) := by
  intro l
  induction l using List.reverseRecOn with
  | nil => intro H; rfl
  | append_singleton l x ih =>
    intro H
    rw [List.foldl_append, List.foldl_append]
    show (v.slice (piece x).1).write _ (v.writes _ f (l.foldl _ H)) _ _ = (v.slice (piece x).1).write _ (v.writes _ _ (l.foldl _ [])) _ _
    rw [ih]

theorem mem_foldl : ∀ (l : List ι) (p : View.Piece (Elt Ideal) s e), p ∈ l.foldl (fun H x => piece x :: H) [] ↔ ∃ x ∈ l, piece x = p := by
  intro l
  induction l using List.reverseRecOn with
  | nil => intro p; simp
  | append_singleton l x ih =>
    intro p
    rw [List.foldl_append]
    show p ∈ piece x :: l.foldl _ [] ↔ _
    rw [List.mem_cons, ih]
    constructor
    · rintro (rfl | ⟨y, hy, rfl⟩)
      · exact ⟨x, by simp, rfl⟩
      · exact ⟨y, by simp [hy], rfl⟩
    · rintro ⟨y, hy, rfl⟩
      rcases List.mem_append.mp hy with h | h
      · exact .inr ⟨y, h, rfl⟩
      · rw [List.mem_singleton] at h
        exact .inl (by rw [h])

/-- Stores that agree with `G` leave `G` where one of them falls. -/
theorem read_foldl (f : v.ty.Contents (Elt Ideal)) (l : List ι) (H : List (View.Piece (Elt Ideal) s e)) (G : s.Idx → Elt Ideal e)
    (hG : ∀ x ∈ l, ∀ z, (piece x).2 z = G ((piece x).1.emb z)) (y : s.Idx) (hy : ∃ x ∈ l, y ∈ (piece x).1.set) :
    v.read (Elt Ideal) (v.writes (Elt Ideal) f (l.foldl (fun H x => piece x :: H) H)) y = G y := by
  rw [writes_foldl]
  refine View.read_writes_apply_of_pieces v _ G _ ?_ y ?_
  · intro p hp
    obtain ⟨x, hx, rfl⟩ := (mem_foldl piece l p).mp hp
    exact hG x hx
  · obtain ⟨x, hx, h⟩ := hy
    exact ⟨piece x, (mem_foldl piece l _).mpr ⟨x, hx, rfl⟩, h⟩

/-- Elsewhere they leave what was there. -/
theorem read_foldl_of_not_mem (f : v.ty.Contents (Elt Ideal)) (y : s.Idx) (H : List (View.Piece (Elt Ideal) s e)) : ∀ (l : List ι), (∀ x ∈ l, y ∉ (piece x).1.set) →
    v.read (Elt Ideal) (v.writes (Elt Ideal) f (l.foldl (fun H x => piece x :: H) H)) y = v.read (Elt Ideal) (v.writes (Elt Ideal) f H) y := by
  intro l
  induction l using List.reverseRecOn with
  | nil => intro _; rfl
  | append_singleton l x ih =>
    intro h
    rw [List.foldl_append]
    show v.read _ ((v.slice (piece x).1).write _ (v.writes _ f (l.foldl _ H)) _ _) y = _
    rw [View.read_slice_write_of_not_mem, ih (fun z hz => h z (by simp [hz]))]
    rw [Rect.map_emb_univ]
    exact h x (by simp)

end Fold

theorem mem_sOrd (i : Fin 4) (t : Fin 33) : (i, t) ∈ sOrd := by
  revert i t; decide +kernel

theorem mem_pOrd (i : Fin 4) (t : Fin 33) : (i, t) ∈ pOrd := by
  revert i t; decide +kernel

theorem mem_oOrd (i g : Fin 4) : (i, g) ∈ oOrd := by
  revert i g; decide

theorem rBlk_emb (i : Fin 4) (t : Fin 33) (r : Fin 32) (L : Fin 128) :
    (rBlk i t).emb (ix2 r L : S32x128.Idx) = ix2 ⟨32 * (i.val + t.val) + r.val, by omega⟩ ⟨128 * i.val + L.val, by omega⟩ := by
  funext a
  apply Fin.ext
  unfold rBlk
  rw [unit_emb]
  fin_cases a <;> rfl

theorem rBlk0_emb (i : Fin 4) (r : Fin 8) (L : Fin 128) :
    (rBlk0 i).emb (ix2 r L : S8x128.Idx) = ix2 ⟨32 * i.val + 24 + r.val, by omega⟩ ⟨128 * i.val + L.val, by omega⟩ := by
  funext a
  apply Fin.ext
  unfold rBlk0
  rw [unit_emb]
  fin_cases a <;> rfl

section Scores

variable (mm : Fin 9 → FVec Ideal S128x512 .f32) (ct : FVec Ideal S18x128 .f32)

/-- The scores as one table. -/
def GS : S1152x512.Idx → EReal := fun y => SS mm ct ⟨(y 1).val / 128, by have : (y 1).val < 512 := (y 1).isLt; omega⟩ (y 0) ⟨(y 1).val % 128, by omega⟩

theorem GS_of (i : Fin 4) (R : Fin 1152) (L : Fin 128) : GS mm ct (ix2 R ⟨128 * i.val + L.val, by omega⟩) = SS mm ct i R L := by
  show SS mm ct ⟨(128 * i.val + L.val) / 128, _⟩ R ⟨(128 * i.val + L.val) % 128, _⟩ = _
  congr 1
  · apply Fin.ext
    show (128 * i.val + L.val) / 128 = i.val
    omega
  · apply Fin.ext
    show (128 * i.val + L.val) % 128 = L.val
    omega

theorem cast8 (x : FVec Ideal S8x128 .f32) (r : Fin 8) (L : Fin 128) : shapeCast S8x128 x shapeCasts_S8x128_S8x128 (ix2 r L) = x (ix2 r L) := by
  pointwise []

theorem sPiece_zero (i : Fin 4) (h : 0 < 33) : sPiece mm ct (i, ⟨0, h⟩) = ⟨rBlk0 i, shapeCast S8x128 (seg0 mm ct i) shapeCasts_S8x128_S8x128⟩ := by
  unfold sPiece
  rfl

theorem piece_eq_of {s : Shape} {e : EltTy} (G : s.Idx → Elt Ideal e) (p q : View.Piece (Elt Ideal) s e) (h : p = q) (hq : ∀ z, q.2 z = G (q.1.emb z)) :
    ∀ z, p.2 z = G (p.1.emb z) := by
  subst h
  exact hq

theorem sPiece_eq (x : Fin 4 × Fin 33) : ∀ (z : (sPiece mm ct x).1.shape.Idx), (sPiece mm ct x).2 z = GS mm ct ((sPiece mm ct x).1.emb z) := by
  obtain ⟨i, ⟨t, ht⟩⟩ := x
  cases t with
  | zero =>
    refine piece_eq_of (GS mm ct) _ _ (sPiece_zero mm ct i ht) ?_
    intro (z : S8x128.Idx)
    obtain ⟨r, L, rfl⟩ : ∃ (r : Fin 8) (L : Fin 128), z = ix2 r L := ⟨z 0, z 1, by idx_ext⟩
    show _ = GS mm ct ((rBlk0 i).emb (ix2 r L : S8x128.Idx))
    rw [rBlk0_emb, GS_of, ← seg0_apply]
    dsimp only
    exact cast8 _ r L
  | succ t =>
    have hp : sPiece mm ct (i, ⟨t + 1, ht⟩) = ⟨rBlk i ⟨t + 1, ht⟩, shapeCast S32x128 (seg mm ct i ⟨t + 1, ht⟩) shapeCasts_S32x128_S32x128⟩ := rfl
    refine piece_eq_of (GS mm ct) _ _ hp ?_
    intro (z : S32x128.Idx)
    obtain ⟨r, L, rfl⟩ : ∃ (r : Fin 32) (L : Fin 128), z = ix2 r L := ⟨z 0, z 1, by idx_ext⟩
    show _ = GS mm ct ((rBlk i ⟨t + 1, ht⟩).emb (ix2 r L : S32x128.Idx))
    rw [rBlk_emb, GS_of, ← seg_apply mm ct i ⟨t + 1, ht⟩ (Nat.succ_ne_zero t)]
    show shapeCast S32x128 (seg mm ct i ⟨t + 1, ht⟩) shapeCasts_S32x128_S32x128 (ix2 r L) = _
    generalize seg mm ct i ⟨t + 1, ht⟩ = x
    pointwise []

theorem sRd_apply (arg16 : Memref sig .tc .vmem S1152x512 .f32) (H : List (View.Piece (Elt Ideal) S1152x512 .f32)) (i : Fin 4) (t : Fin 33) (ht : t.val ≠ 0)
    (r : Fin 32) (L : Fin 128) : sRd arg16 (sPieces mm ct H) i t (ix2 r L) = SS mm ct i ⟨32 * (i.val + t.val) + r.val, by omega⟩ L := by
  rw [← GS_of, ← rBlk_emb]
  refine read_foldl arg16.view (sPiece mm ct) _ sOrd H (GS mm ct) (fun x _ z => sPiece_eq mm ct x z) _ ⟨(i, t), mem_sOrd i t, ?_⟩
  have hp : (sPiece mm ct (i, t)).1 = rBlk i t := by
    unfold sPiece
    split
    · rename_i heq; exact absurd (congrArg (fun x => x.2.val) heq) ht
    · rename_i heq; cases heq; rfl
  rw [hp]
  exact (rBlk i t).toLoadRect.idx_mem _

theorem sRd0_apply (arg16 : Memref sig .tc .vmem S1152x512 .f32) (H : List (View.Piece (Elt Ideal) S1152x512 .f32)) (i : Fin 4)
    (r : Fin 8) (L : Fin 128) : sRd0 arg16 (sPieces mm ct H) i (ix2 r L) = SS mm ct i ⟨32 * i.val + 24 + r.val, by omega⟩ L := by
  rw [← GS_of, ← rBlk0_emb]
  refine read_foldl arg16.view (sPiece mm ct) _ sOrd H (GS mm ct) (fun x _ z => sPiece_eq mm ct x z) _ ⟨(i, 0), mem_sOrd i 0, ?_⟩
  exact (rBlk0 i).toLoadRect.idx_mem _

end Scores

section Probs

variable (s0 : Fin 4 → FVec Ideal S8x128 .f32) (s : Fin 4 → Fin 33 → FVec Ideal S32x128 .f32) (m : Fin 4 → FVec Ideal S1x128 .f32)
  (S : Fin 4 → Fin 1152 → Fin 128 → EReal)

/-- A probability as stored. -/
def pClip (x : EReal) : EReal := min (Ideal.ofBits .f32 0x43E00000#32) (max (Ideal.ofBits .f32 0xC3E00000#32) x)

theorem pClip_zero : pClip 0 = 0 := by
  unfold pClip
  have h1 : (0 : EReal) ≤ Ideal.ofBits .f32 0x43E00000#32 := by
    simp [Ideal.ofBits, Ideal.ieee]
    rw [← EReal.coe_mul]
    exact EReal.coe_nonneg.mpr (by positivity)
  have h2 : Ideal.ofBits .f32 0xC3E00000#32 ≤ (0 : EReal) := by
    simp [Ideal.ofBits, Ideal.ieee]
    positivity
  rw [max_eq_right h2, min_eq_right h1]

/-- The probabilities as one table. -/
def GP : S1152x512.Idx → EReal := fun y =>
  pClip (Ideal.exp2 (S ⟨(y 1).val / 128, by have : (y 1).val < 512 := (y 1).isLt; omega⟩ (y 0) ⟨(y 1).val % 128, by omega⟩
    - m ⟨(y 1).val / 128, by have : (y 1).val < 512 := (y 1).isLt; omega⟩ (ix2 0 ⟨(y 1).val % 128, by omega⟩)))

theorem GP_of (i : Fin 4) (R : Fin 1152) (L : Fin 128) :
    GP m S (ix2 R ⟨128 * i.val + L.val, by omega⟩) = pClip (Ideal.exp2 (S i R L - m i (ix2 0 L))) := by
  have h1 : (⟨(128 * i.val + L.val) / 128, by omega⟩ : Fin 4) = i := Fin.ext (by show (128 * i.val + L.val) / 128 = i.val; omega)
  have h2 : (⟨(128 * i.val + L.val) % 128, by omega⟩ : Fin 128) = L := Fin.ext (by show (128 * i.val + L.val) % 128 = L.val; omega)
  show pClip (Ideal.exp2 (S ⟨(128 * i.val + L.val) / 128, _⟩ R ⟨(128 * i.val + L.val) % 128, _⟩ - m ⟨(128 * i.val + L.val) / 128, _⟩ (ix2 0 ⟨(128 * i.val + L.val) % 128, _⟩))) = _
  rw [h1, h2]

theorem pFull_apply (x : FVec Ideal S32x128 .f32) (j : S32x128.Idx) :
    shapeCast S32x128 (truncf .fp8e4m3 (minimumf (broadcast S32x128 (Scalar.ofBits .f32 0x43E00000#32))
      (maximumf (broadcast S32x128 (Scalar.ofBits .f32 0xC3E00000#32)) x)) bitsLt_fp8e4m3_f32) shapeCasts_S32x128_S32x128 j = pClip (x j) := by
  obtain ⟨r, L, rfl⟩ : ∃ (r : Fin 32) (L : Fin 128), j = ix2 r L := ⟨j 0, j 1, by idx_ext⟩
  pointwise [pClip]

theorem pFirst_apply (x : FVec Ideal S8x128 .f32) (r : Fin 32) (L : Fin 128) :
    shapeCast S32x128 (truncf .fp8e4m3 (concatenate S32x128 0 [⟨S24x128, broadcast S24x128 (Scalar.ofBits .f32 0x00000000#32)⟩,
      ⟨S8x128, minimumf (broadcast S8x128 (Scalar.ofBits .f32 0x43E00000#32)) (maximumf (broadcast S8x128 (Scalar.ofBits .f32 0xC3E00000#32)) x)⟩]
      concatenates_S24x128_S8x128_S32x128_d0) bitsLt_fp8e4m3_f32) shapeCasts_S32x128_S32x128 (ix2 r L)
      = if h : r.val < 24 then 0 else pClip (x (ix2 ⟨r.val - 24, by omega⟩ L)) := by
  pointwise [pClip]

end Probs

end Cert.KernelIdeal.Hand

end
-- ==== Proof.Ideal.RunC.lean ====
module

public import proofs.«01_k».proof.Proof.Gen.KernelIdeal.Loops
public import proofs.«01_k».proof.Proof.Gen.KernelIdeal.Frame

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 400000000 in
/-- A step whose window is full: it quantises its two query blocks and computes the attention of the four (block, key head) units.
    The lists are the stores it makes, last first, buffer by buffer; the run is proved beside them. -/
@[irreducible] def runC (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : ¬ k0_cond2 i = 1#1) (hc2 : k0_cond3 i = 1#1)
    (x2 : Vec F S1x256x1024 .bf16) (x7 : Vec F S1x8x32 .f32) (x8 : Vec F S1x2x4096x128 .fp8e4m3) (x11 : Vec F S1x2x128 .f32) (x12 : Vec F S2x64x128 .f32) (x13 : Vec F S2x128x4096 .fp8e4m3) (x17 : Vec F S1152x512 .fp8e4m3) :
      Σ' (L5 : List (View.Piece (Elt F) S1x256x1024 .bf16)) (L6 : List (View.Piece (Elt F) S1x256x8x128 .fp8e4m3)) (L7 : List (View.Piece (Elt F) S1x8x32 .f32)), { L17 : List (View.Piece (Elt F) S1152x512 .fp8e4m3) // ∀ (E : Set ℕ) (K : PUnit → sProp 𝕄),
        iprop(owns (c : Thread nD τ) arg2 fullShare x2 ∗ (∃ d, owns (c : Thread nD τ) arg5 fullShare d) ∗ (∃ d, owns (c : Thread nD τ) arg6 fullShare d) ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x17
            ∗ (iprop(owns (c : Thread nD τ) arg2 fullShare x2 ∗ (∃ f, (arg5.view.loc (c : Thread nD τ) ↦[arg5.view.set]{fullShare} (arg5.view.writes (Elt F) f L5))) ∗ (∃ f, (arg6.view.loc (c : Thread nD τ) ↦[arg6.view.set]{fullShare} (arg6.view.writes (Elt F) f L6))) ∗ (arg7.view.loc (c : Thread nD τ) ↦[arg7.view.set]{fullShare} (arg7.view.writes (Elt F) (harg7.unread x7) L7)) ∗ owns (c : Thread nD τ) arg8 fullShare x8 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (arg17.view.loc (c : Thread nD τ) ↦[arg17.view.set]{fullShare} (arg17.view.writes (Elt F) (harg17.unread x17) L17))) -∗ K ⟨⟩))
          ⊢ wp frame (wpE (defs₀ (F := F)) Variants.none c none) E (cc0_sage_fp8_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    unfold cc0_sage_fp8_window_attention
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton]
    unfold owns
    iintro ⟨⟨%f2, %hf2, H2⟩, ⟨%d5, %f5, -, H5⟩, ⟨%d6, %f6, -, H6⟩, ⟨%f7, %hf7, H7⟩, ⟨%f8, %hf8, H8⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, Hk⟩
    obtain rfl := harg2.eq_unread hf2; obtain rfl := harg7.eq_unread hf7; obtain rfl := harg8.eq_unread hf8; obtain rfl := harg11.eq_unread hf11; obtain rfl := harg12.eq_unread hf12; obtain rfl := harg13.eq_unread hf13; obtain rfl := harg17.eq_unread hf17
    sl_exec (disch := first | sl_exact hc0 | sl_exact hc1 | sl_exact hc2)
    sl_step
    iapply Hk
    isplitl [H2]
    · iexists _; isplitr; swap; · iexact H2
      ipureintro; exact harg2.read_unread _
    isplitl [H5]
    · iexists _; iexact H5
    isplitl [H6]
    · iexists _; iexact H6
    isplitl [H7]
    · iexact H7
    isplitl [H8]
    · iexists _; isplitr; swap; · iexact H8
      ipureintro; exact harg8.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexact H17

end Cert.KernelIdeal.Hand

end
-- ==== Proof.Ideal.ORun.lean ====
module

public import proofs.«01_k».proof.Proof.Ideal.RunC
public import proofs.«01_k».proof.Proof.Ideal.OGen

/-! What a point of kind C stores of its scores, probabilities and results. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]
set_option maxHeartbeats 4000000

/-- Where a chunk of the window's codes begins. -/
def kOff (i : grid0.Coords) (rb : Fin 2) : Fin 2 → Fin 9 → Fin 4 → ℕ
  | ⟨0, _⟩, c => k0_off13 i (BitVec.ofNat 32 rb.val) (BitVec.ofNat 32 (128 * c.val))
  | ⟨1, _⟩, c => k0_off16 i (BitVec.ofNat 32 rb.val) (BitVec.ofNat 32 (128 * c.val))

theorem kOff_inb (i : grid0.Coords) (h : k0_cond3 i = 1#1) (rb : Fin 2) : ∀ (n : Fin 2) (c : Fin 9) (a : Fin 4), kOff i rb n c a + S1x1x128x128.size a ≤ S1x2x4096x128.size a
  | ⟨0, _⟩, c => k0_off13_inb i h rb c
  | ⟨1, _⟩, c => k0_off16_inb i h rb c

/-- Where the window's scales begin. -/
def wsOff (i : grid0.Coords) (rb : Fin 2) : Fin 2 → Fin 3 → ℕ
  | ⟨0, _⟩ => k0_off12 i (BitVec.ofNat 32 rb.val)
  | ⟨1, _⟩ => k0_off15 i (BitVec.ofNat 32 rb.val)

theorem wsOff_inb (i : grid0.Coords) (h : k0_cond3 i = 1#1) (rb : Fin 2) : ∀ (n : Fin 2) (a : Fin 3), wsOff i rb n a + S1x18x128.size a ≤ S2x64x128.size a
  | ⟨0, _⟩ => k0_off12_inb i h rb
  | ⟨1, _⟩ => k0_off15_inb i h rb

/-- Where the window's values begin. -/
def vOff (i : grid0.Coords) (rb : Fin 2) : Fin 2 → Fin 3 → ℕ
  | ⟨0, _⟩ => k0_off14 i (BitVec.ofNat 32 rb.val)
  | ⟨1, _⟩ => k0_off17 i (BitVec.ofNat 32 rb.val)

theorem vOff_inb (i : grid0.Coords) (h : k0_cond3 i = 1#1) (rb : Fin 2) : ∀ (n : Fin 2) (a : Fin 3), vOff i rb n a + S1x128x1152.size a ≤ S2x128x4096.size a
  | ⟨0, _⟩ => k0_off14_inb i h rb
  | ⟨1, _⟩ => k0_off17_inb i h rb

/-- A chunk of the window's codes. -/
def kLd (arg8 : Memref sig .tc .vmem S1x2x4096x128 .fp8e4m3) (harg8 : arg8.IsWhole) (x8 : Vec F S1x2x4096x128 .fp8e4m3) (i : grid0.Coords)
    (h : k0_cond3 i = 1#1) (rb n : Fin 2) (c : Fin 9) : Vec F S1x1x128x128 .fp8e4m3 :=
  View.readAt (Elt F) arg8.view (Rect.unit (s := S1x2x4096x128) (kOff i rb n c) S1x1x128x128.size (kOff_inb i h rb n c)).toLoadRect (harg8.unread x8)

/-- The window's scales. -/
def ksLd (arg12 : Memref sig .tc .vmem S2x64x128 .f32) (harg12 : arg12.IsWhole) (x12 : Vec F S2x64x128 .f32) (i : grid0.Coords)
    (h : k0_cond3 i = 1#1) (rb n : Fin 2) : Vec F S1x18x128 .f32 :=
  View.readAt (Elt F) arg12.view (Rect.unit (s := S2x64x128) (wsOff i rb n) S1x18x128.size (wsOff_inb i h rb n)).toLoadRect (harg12.unread x12)

/-- The window's values. -/
def vLd (arg13 : Memref sig .tc .vmem S2x128x4096 .fp8e4m3) (harg13 : arg13.IsWhole) (x13 : Vec F S2x128x4096 .fp8e4m3) (i : grid0.Coords)
    (h : k0_cond3 i = 1#1) (rb n : Fin 2) : Vec F S1x128x1152 .fp8e4m3 :=
  View.readAt (Elt F) arg13.view (Rect.unit (s := S2x128x4096) (vOff i rb n) S1x128x1152.size (vOff_inb i h rb n)).toLoadRect (harg13.unread x13)

theorem inb_q14 (rb n : Fin 2) : ∀ a : Fin 4, (![rb.val, n.val, 0, 0] : Fin 4 → ℕ) a + S1x1x512x128.size a ≤ S2x2x512x128.size a := by
  intro a; have := rb.isLt; have := n.isLt; fin_cases a <;> dsimp [S1x1x512x128, S2x2x512x128] <;> omega

theorem inb_q15 (rb n : Fin 2) : ∀ a : Fin 4, (![rb.val, n.val, 0, 0] : Fin 4 → ℕ) a + S1x1x1x128.size a ≤ S2x2x8x128.size a := by
  intro a; have := rb.isLt; have := n.isLt; fin_cases a <;> dsimp [S1x1x1x128, S2x2x8x128] <;> omega

theorem inb_vsl (n : Fin 2) : ∀ a : Fin 3, (![0, n.val, 0] : Fin 3 → ℕ) a + S1x1x128.size a ≤ S1x2x128.size a := by
  intro a; have := n.isLt; fin_cases a <;> dsimp [S1x1x128, S1x2x128] <;> omega

/-- The unit's codes of the queries, read back. -/
def qRd (arg14 : Memref sig .tc .vmem S2x2x512x128 .fp8e4m3) (Q : List (View.Piece (Elt F) S2x2x512x128 .fp8e4m3)) (rb n : Fin 2) : Vec F S1x1x512x128 .fp8e4m3 :=
  arg14.view.readCov Q (Rect.unit (s := S2x2x512x128) ![rb.val, n.val, 0, 0] S1x1x512x128.size (inb_q14 rb n)).toLoadRect

/-- The unit's scales of the queries, read back. -/
def qsRd (arg15 : Memref sig .tc .vmem S2x2x8x128 .f32) (Q : List (View.Piece (Elt F) S2x2x8x128 .f32)) (rb n : Fin 2) : Vec F S1x1x1x128 .f32 :=
  arg15.view.readCov Q (Rect.unit (s := S2x2x8x128) ![rb.val, n.val, 0, 0] S1x1x1x128.size (inb_q15 rb n)).toLoadRect

theorem inb_p : ∀ a : Fin 2, (![0, 0] : Fin 2 → ℕ) a + S1152x512.size a ≤ S1152x512.size a := by decide

/-- The scales of the values. -/
def vsLd (arg11 : Memref sig .tc .vmem S1x2x128 .f32) (harg11 : arg11.IsWhole) (x11 : Vec F S1x2x128 .f32) (n : Fin 2) : Vec F S1x1x128 .f32 :=
  View.readAt (Elt F) arg11.view (Rect.unit (s := S1x2x128) ![0, n.val, 0] S1x1x128.size (inb_vsl n)).toLoadRect (harg11.unread x11)

/-- The products of each chunk of the window with the unit's query lanes, at a point of kind C. -/
def mmU (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec F S1x256x1024 .bf16) (x8 : Vec F S1x2x4096x128 .fp8e4m3) (x12 : Vec F S2x64x128 .f32) (rb n : Fin 2) (k : Fin 9) : FVec F S128x512 .f32 :=
  mmC (kLd arg8 harg8 x8 i hc2 rb n k) (qRd arg14 (match rb with | ⟨0, _⟩ => runC.sl.H14_32 c arg2 harg2 x2 | ⟨1, _⟩ => runC.sl.H14_64 c arg2 harg2 x2) rb n)

/-- The scales of the window's blocks for the unit's lanes, at a point of kind C. -/
def ctU (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec F S1x256x1024 .bf16) (x8 : Vec F S1x2x4096x128 .fp8e4m3) (x12 : Vec F S2x64x128 .f32) (rb n : Fin 2) : FVec F S18x128 .f32 :=
  ctab (ksLd arg12 harg12 x12 i hc2 rb n) (qsRd arg15 (match rb with | ⟨0, _⟩ => runC.sl.H15_2 c arg2 harg2 x2 | ⟨1, _⟩ => runC.sl.H15_4 c arg2 harg2 x2) rb n)

/-- The stores of scores, as far as unit (0, 0). -/
theorem h16_0 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec F S1x256x1024 .bf16) (x8 : Vec F S1x2x4096x128 .fp8e4m3) (x12 : Vec F S2x64x128 .f32) :
    runC.sl.H16_132 c i arg2 harg2 arg8 harg8 arg12 harg12 arg14 arg15 hc2 x2 x8 x12 = sPieces (mmU c i arg2 harg2 arg8 harg8 arg12 harg12 arg14 arg15 hc2 x2 x8 x12 0 0) (ctU c i arg2 harg2 arg8 harg8 arg12 harg12 arg14 arg15 hc2 x2 x8 x12 0 0) [] := by
  rfl

/-- The stores of probabilities, as far as unit (0, 0). -/
theorem h17_0 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (arg16 : Memref sig .tc .vmem S1152x512 .f32) (hc2 : k0_cond3 i = 1#1) (x2 : Vec F S1x256x1024 .bf16) (x8 : Vec F S1x2x4096x128 .fp8e4m3) (x12 : Vec F S2x64x128 .f32) :
    runC.sl.H17_132 c i arg2 harg2 arg8 harg8 arg12 harg12 arg14 arg15 arg16 hc2 x2 x8 x12 = pPieces (sRd0 arg16 (runC.sl.H16_132 c i arg2 harg2 arg8 harg8 arg12 harg12 arg14 arg15 hc2 x2 x8 x12)) (sRd arg16 (runC.sl.H16_132 c i arg2 harg2 arg8 harg8 arg12 harg12 arg14 arg15 hc2 x2 x8 x12))
      (mLane (mmU c i arg2 harg2 arg8 harg8 arg12 harg12 arg14 arg15 hc2 x2 x8 x12 0 0) (ctU c i arg2 harg2 arg8 harg8 arg12 harg12 arg14 arg15 hc2 x2 x8 x12 0 0)) [] := by
  rfl

/-- The stores of scores, as far as unit (0, 1). -/
theorem h16_1 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec F S1x256x1024 .bf16) (x8 : Vec F S1x2x4096x128 .fp8e4m3) (x12 : Vec F S2x64x128 .f32) :
    runC.sl.H16_264 c i arg2 harg2 arg8 harg8 arg12 harg12 arg14 arg15 hc2 x2 x8 x12 = sPieces (mmU c i arg2 harg2 arg8 harg8 arg12 harg12 arg14 arg15 hc2 x2 x8 x12 0 1) (ctU c i arg2 harg2 arg8 harg8 arg12 harg12 arg14 arg15 hc2 x2 x8 x12 0 1) (runC.sl.H16_132 c i arg2 harg2 arg8 harg8 arg12 harg12 arg14 arg15 hc2 x2 x8 x12) := by
  rfl

/-- The stores of probabilities, as far as unit (0, 1). -/
theorem h17_1 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (arg16 : Memref sig .tc .vmem S1152x512 .f32) (hc2 : k0_cond3 i = 1#1) (x2 : Vec F S1x256x1024 .bf16) (x8 : Vec F S1x2x4096x128 .fp8e4m3) (x12 : Vec F S2x64x128 .f32) :
    runC.sl.H17_264 c i arg2 harg2 arg8 harg8 arg12 harg12 arg14 arg15 arg16 hc2 x2 x8 x12 = pPieces (sRd0 arg16 (runC.sl.H16_264 c i arg2 harg2 arg8 harg8 arg12 harg12 arg14 arg15 hc2 x2 x8 x12)) (sRd arg16 (runC.sl.H16_264 c i arg2 harg2 arg8 harg8 arg12 harg12 arg14 arg15 hc2 x2 x8 x12))
      (mLane (mmU c i arg2 harg2 arg8 harg8 arg12 harg12 arg14 arg15 hc2 x2 x8 x12 0 1) (ctU c i arg2 harg2 arg8 harg8 arg12 harg12 arg14 arg15 hc2 x2 x8 x12 0 1)) (runC.sl.H17_132 c i arg2 harg2 arg8 harg8 arg12 harg12 arg14 arg15 arg16 hc2 x2 x8 x12) := by
  rfl

/-- The stores of scores, as far as unit (1, 0). -/
theorem h16_2 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec F S1x256x1024 .bf16) (x8 : Vec F S1x2x4096x128 .fp8e4m3) (x12 : Vec F S2x64x128 .f32) :
    runC.sl.H16_396 c i arg2 harg2 arg8 harg8 arg12 harg12 arg14 arg15 hc2 x2 x8 x12 = sPieces (mmU c i arg2 harg2 arg8 harg8 arg12 harg12 arg14 arg15 hc2 x2 x8 x12 1 0) (ctU c i arg2 harg2 arg8 harg8 arg12 harg12 arg14 arg15 hc2 x2 x8 x12 1 0) (runC.sl.H16_264 c i arg2 harg2 arg8 harg8 arg12 harg12 arg14 arg15 hc2 x2 x8 x12) := by
  rfl

/-- The stores of probabilities, as far as unit (1, 0). -/
theorem h17_2 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (arg16 : Memref sig .tc .vmem S1152x512 .f32) (hc2 : k0_cond3 i = 1#1) (x2 : Vec F S1x256x1024 .bf16) (x8 : Vec F S1x2x4096x128 .fp8e4m3) (x12 : Vec F S2x64x128 .f32) :
    runC.sl.H17_396 c i arg2 harg2 arg8 harg8 arg12 harg12 arg14 arg15 arg16 hc2 x2 x8 x12 = pPieces (sRd0 arg16 (runC.sl.H16_396 c i arg2 harg2 arg8 harg8 arg12 harg12 arg14 arg15 hc2 x2 x8 x12)) (sRd arg16 (runC.sl.H16_396 c i arg2 harg2 arg8 harg8 arg12 harg12 arg14 arg15 hc2 x2 x8 x12))
      (mLane (mmU c i arg2 harg2 arg8 harg8 arg12 harg12 arg14 arg15 hc2 x2 x8 x12 1 0) (ctU c i arg2 harg2 arg8 harg8 arg12 harg12 arg14 arg15 hc2 x2 x8 x12 1 0)) (runC.sl.H17_264 c i arg2 harg2 arg8 harg8 arg12 harg12 arg14 arg15 arg16 hc2 x2 x8 x12) := by
  rfl

/-- The stores of scores, as far as unit (1, 1). -/
theorem h16_3 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec F S1x256x1024 .bf16) (x8 : Vec F S1x2x4096x128 .fp8e4m3) (x12 : Vec F S2x64x128 .f32) :
    runC.sl.H16_528 c i arg2 harg2 arg8 harg8 arg12 harg12 arg14 arg15 hc2 x2 x8 x12 = sPieces (mmU c i arg2 harg2 arg8 harg8 arg12 harg12 arg14 arg15 hc2 x2 x8 x12 1 1) (ctU c i arg2 harg2 arg8 harg8 arg12 harg12 arg14 arg15 hc2 x2 x8 x12 1 1) (runC.sl.H16_396 c i arg2 harg2 arg8 harg8 arg12 harg12 arg14 arg15 hc2 x2 x8 x12) := by
  rfl

/-- The stores of probabilities, as far as unit (1, 1). -/
theorem h17_3 (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (arg16 : Memref sig .tc .vmem S1152x512 .f32) (hc2 : k0_cond3 i = 1#1) (x2 : Vec F S1x256x1024 .bf16) (x8 : Vec F S1x2x4096x128 .fp8e4m3) (x12 : Vec F S2x64x128 .f32) :
    runC.sl.H17_528 c i arg2 harg2 arg8 harg8 arg12 harg12 arg14 arg15 arg16 hc2 x2 x8 x12 = pPieces (sRd0 arg16 (runC.sl.H16_528 c i arg2 harg2 arg8 harg8 arg12 harg12 arg14 arg15 hc2 x2 x8 x12)) (sRd arg16 (runC.sl.H16_528 c i arg2 harg2 arg8 harg8 arg12 harg12 arg14 arg15 hc2 x2 x8 x12))
      (mLane (mmU c i arg2 harg2 arg8 harg8 arg12 harg12 arg14 arg15 hc2 x2 x8 x12 1 1) (ctU c i arg2 harg2 arg8 harg8 arg12 harg12 arg14 arg15 hc2 x2 x8 x12 1 1)) (runC.sl.H17_396 c i arg2 harg2 arg8 harg8 arg12 harg12 arg14 arg15 arg16 hc2 x2 x8 x12) := by
  rfl

/-- The stores of scores as far as a unit. -/
def h16U (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec F S1x256x1024 .bf16) (x8 : Vec F S1x2x4096x128 .fp8e4m3) (x12 : Vec F S2x64x128 .f32) (rb n : Fin 2) : List (View.Piece (Elt F) S1152x512 .f32) :=
  match rb, n with
  | ⟨0, _⟩, ⟨0, _⟩ => runC.sl.H16_132 c i arg2 harg2 arg8 harg8 arg12 harg12 arg14 arg15 hc2 x2 x8 x12
  | ⟨0, _⟩, ⟨1, _⟩ => runC.sl.H16_264 c i arg2 harg2 arg8 harg8 arg12 harg12 arg14 arg15 hc2 x2 x8 x12
  | ⟨1, _⟩, ⟨0, _⟩ => runC.sl.H16_396 c i arg2 harg2 arg8 harg8 arg12 harg12 arg14 arg15 hc2 x2 x8 x12
  | ⟨1, _⟩, ⟨1, _⟩ => runC.sl.H16_528 c i arg2 harg2 arg8 harg8 arg12 harg12 arg14 arg15 hc2 x2 x8 x12

/-- The stores of probabilities as far as a unit. -/
def h17U (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (arg16 : Memref sig .tc .vmem S1152x512 .f32) (hc2 : k0_cond3 i = 1#1) (x2 : Vec F S1x256x1024 .bf16) (x8 : Vec F S1x2x4096x128 .fp8e4m3) (x12 : Vec F S2x64x128 .f32) (rb n : Fin 2) : List (View.Piece (Elt F) S1152x512 .fp8e4m3) :=
  match rb, n with
  | ⟨0, _⟩, ⟨0, _⟩ => runC.sl.H17_132 c i arg2 harg2 arg8 harg8 arg12 harg12 arg14 arg15 arg16 hc2 x2 x8 x12
  | ⟨0, _⟩, ⟨1, _⟩ => runC.sl.H17_264 c i arg2 harg2 arg8 harg8 arg12 harg12 arg14 arg15 arg16 hc2 x2 x8 x12
  | ⟨1, _⟩, ⟨0, _⟩ => runC.sl.H17_396 c i arg2 harg2 arg8 harg8 arg12 harg12 arg14 arg15 arg16 hc2 x2 x8 x12
  | ⟨1, _⟩, ⟨1, _⟩ => runC.sl.H17_528 c i arg2 harg2 arg8 harg8 arg12 harg12 arg14 arg15 arg16 hc2 x2 x8 x12

/-- A tile's result at a point of kind C. -/
def tileU (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (arg11 : Memref sig .tc .vmem S1x2x128 .f32) (harg11 : arg11.IsWhole) (arg13 : Memref sig .tc .vmem S2x128x4096 .fp8e4m3) (harg13 : arg13.IsWhole) (arg16 : Memref sig .tc .vmem S1152x512 .f32) (arg17 : Memref sig .tc .vmem S1152x512 .fp8e4m3) (harg17 : arg17.IsWhole) (hc2 : k0_cond3 i = 1#1) (x2 : Vec F S1x256x1024 .bf16) (x8 : Vec F S1x2x4096x128 .fp8e4m3) (x12 : Vec F S2x64x128 .f32) (x11 : Vec F S1x2x128 .f32) (x13 : Vec F S2x128x4096 .fp8e4m3) (x17 : Vec F S1152x512 .fp8e4m3) (rb n : Fin 2) (t : Fin 4) : FVec F S128x128 .bf16 :=
  oTile (oMat (vLd arg13 harg13 x13 i hc2 rb n)
      (View.readAt (Elt F) arg17.view (Rect.unit (s := S1152x512) ![0, 0] S1152x512.size inb_p).toLoadRect
        (arg17.view.writes (Elt F) (harg17.unread x17) (h17U c i arg2 harg2 arg8 harg8 arg12 harg12 arg14 arg15 arg16 hc2 x2 x8 x12 rb n))))
    (recip (sRd0 arg16 (h16U c i arg2 harg2 arg8 harg8 arg12 harg12 arg14 arg15 hc2 x2 x8 x12 rb n) t) (sRd arg16 (h16U c i arg2 harg2 arg8 harg8 arg12 harg12 arg14 arg15 hc2 x2 x8 x12 rb n) t)
      (mLane (mmU c i arg2 harg2 arg8 harg8 arg12 harg12 arg14 arg15 hc2 x2 x8 x12 rb n) (ctU c i arg2 harg2 arg8 harg8 arg12 harg12 arg14 arg15 hc2 x2 x8 x12 rb n) t))
    (vsLd arg11 harg11 x11 n) t

/-- The results stored at a point of kind C. -/
theorem runC_out  (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : ¬ k0_cond2 i = 1#1) (hc2 : k0_cond3 i = 1#1)
    (x2 : Vec F S1x256x1024 .bf16) (x7 : Vec F S1x8x32 .f32) (x8 : Vec F S1x2x4096x128 .fp8e4m3) (x11 : Vec F S1x2x128 .f32) (x12 : Vec F S2x64x128 .f32) (x13 : Vec F S2x128x4096 .fp8e4m3) (x17 : Vec F S1152x512 .fp8e4m3) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x7 x8 x11 x12 x13 x17).1 =
      oPieces 1 1 (tileU c i arg2 harg2 arg8 harg8 arg12 harg12 arg14 arg15 arg11 harg11 arg13 harg13 arg16 arg17 harg17 hc2 x2 x8 x12 x11 x13 x17 1 1) (oPieces 1 0 (tileU c i arg2 harg2 arg8 harg8 arg12 harg12 arg14 arg15 arg11 harg11 arg13 harg13 arg16 arg17 harg17 hc2 x2 x8 x12 x11 x13 x17 1 0) (oPieces 0 1 (tileU c i arg2 harg2 arg8 harg8 arg12 harg12 arg14 arg15 arg11 harg11 arg13 harg13 arg16 arg17 harg17 hc2 x2 x8 x12 x11 x13 x17 0 1) (oPieces 0 0 (tileU c i arg2 harg2 arg8 harg8 arg12 harg12 arg14 arg15 arg11 harg11 arg13 harg13 arg16 arg17 harg17 hc2 x2 x8 x12 x11 x13 x17 0 0) []))) := by
  unfold runC
  rfl

/-- The probabilities stored at a point of kind C. -/
theorem runC_p  (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : ¬ k0_cond2 i = 1#1) (hc2 : k0_cond3 i = 1#1)
    (x2 : Vec F S1x256x1024 .bf16) (x7 : Vec F S1x8x32 .f32) (x8 : Vec F S1x2x4096x128 .fp8e4m3) (x11 : Vec F S1x2x128 .f32) (x12 : Vec F S2x64x128 .f32) (x13 : Vec F S2x128x4096 .fp8e4m3) (x17 : Vec F S1152x512 .fp8e4m3) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x7 x8 x11 x12 x13 x17).2.2.2.val = h17U c i arg2 harg2 arg8 harg8 arg12 harg12 arg14 arg15 arg16 hc2 x2 x8 x12 1 1 := by
  unfold runC
  rfl

/-- The stores of the queries' codes, as far as block 0. -/
theorem h14_0 (c : Dev nD) (arg2 : Memref sig .tc .vmem S1x256x1024 .bf16) (harg2 : arg2.IsWhole) (x2 : Vec F S1x256x1024 .bf16) :
    runC.sl.H14_32 c arg2 harg2 x2 = qRowPieces (qLoad arg2 harg2 x2 0) 0 1 (qRowPieces (qLoad arg2 harg2 x2 0) 0 0 []) := by
  rfl

/-- The stores of the queries' scales, as far as block 0. -/
theorem h15_0 (c : Dev nD) (arg2 : Memref sig .tc .vmem S1x256x1024 .bf16) (harg2 : arg2.IsWhole) (x2 : Vec F S1x256x1024 .bf16) :
    runC.sl.H15_2 c arg2 harg2 x2 = qsPiece 0 1 (vscale (qY (qLoad arg2 harg2 x2 0))) :: qsPiece 0 0 (vscale (qY (qLoad arg2 harg2 x2 0))) :: [] := by
  rfl

/-- The stores of the queries' codes, as far as block 1. -/
theorem h14_1 (c : Dev nD) (arg2 : Memref sig .tc .vmem S1x256x1024 .bf16) (harg2 : arg2.IsWhole) (x2 : Vec F S1x256x1024 .bf16) :
    runC.sl.H14_64 c arg2 harg2 x2 = qRowPieces (qLoad arg2 harg2 x2 1) 1 1 (qRowPieces (qLoad arg2 harg2 x2 1) 1 0 (runC.sl.H14_32 c arg2 harg2 x2)) := by
  rfl

/-- The stores of the queries' scales, as far as block 1. -/
theorem h15_1 (c : Dev nD) (arg2 : Memref sig .tc .vmem S1x256x1024 .bf16) (harg2 : arg2.IsWhole) (x2 : Vec F S1x256x1024 .bf16) :
    runC.sl.H15_4 c arg2 harg2 x2 = qsPiece 1 1 (vscale (qY (qLoad arg2 harg2 x2 1))) :: qsPiece 1 0 (vscale (qY (qLoad arg2 harg2 x2 1))) :: runC.sl.H15_2 c arg2 harg2 x2 := by
  rfl

end Cert.KernelIdeal.Hand

end
-- ==== Proof.Ideal.OQry.lean ====
module

public import proofs.«01_k».proof.Proof.Ideal.ORead
public import proofs.«01_k».proof.Proof.Ideal.ORun

/-! The queries of a unit, read back: the codes and the scales of each lane. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The codes of a block's queries as one table. -/
def GQ (l : Fin 8 → Vec Ideal S1x128x128 .bf16) : S2x2x512x128.Idx → EReal := fun y =>
  have h1 : (y 1).val < 2 := (y 1).isLt
  have h2 : (y 2).val < 512 := (y 2).isLt
  clip (l ⟨4 * (y 1).val + (y 2).val / 32 % 4, by omega⟩ (ix3 0 ⟨32 * ((y 2).val / 128) + (y 2).val % 32, by omega⟩ (y 3)))
    (Pow2.inv (qYs (l ⟨4 * (y 1).val + (y 2).val / 32 % 4, by omega⟩)))

theorem GQ_of (l : Fin 8 → Vec Ideal S1x128x128 .bf16) (a : Fin 2) (n : Fin 2) (i g : Fin 4) (r : Fin 32) (d : Fin 128) :
    GQ l (ix4 a n ⟨32 * (4 * i.val + g.val) + r.val, by omega⟩ d) = clip (l ⟨4 * n.val + g.val, by omega⟩ (ix3 0 ⟨32 * i.val + r.val, by omega⟩ d))
      (Pow2.inv (qYs (l ⟨4 * n.val + g.val, by omega⟩))) := by
  have e1 : (32 * (4 * i.val + g.val) + r.val) / 32 % 4 = g.val := by omega
  have e2 : 32 * ((32 * (4 * i.val + g.val) + r.val) / 128) + (32 * (4 * i.val + g.val) + r.val) % 32 = 32 * i.val + r.val := by omega
  unfold GQ
  have e3 : (⟨4 * n.val + (32 * (4 * i.val + g.val) + r.val) / 32 % 4, by omega⟩ : Fin 8) = ⟨4 * n.val + g.val, by omega⟩ := Fin.ext (congrArg (4 * n.val + ·) e1)
  have e4 : (⟨32 * ((32 * (4 * i.val + g.val) + r.val) / 128) + (32 * (4 * i.val + g.val) + r.val) % 32, by omega⟩ : Fin 128) = ⟨32 * i.val + r.val, by omega⟩ := Fin.ext e2
  exact (congrArg (fun z : Fin 8 => clip (l z (ix3 0 ⟨32 * ((32 * (4 * i.val + g.val) + r.val) / 128) + (32 * (4 * i.val + g.val) + r.val) % 32, by omega⟩ d)) (Pow2.inv (qYs (l z)))) e3).trans
    (congrArg (fun z : Fin 128 => clip (l ⟨4 * n.val + g.val, by omega⟩ (ix3 0 z d)) (Pow2.inv (qYs (l ⟨4 * n.val + g.val, by omega⟩)))) e4)

theorem qRowPiece_eq (l : Fin 8 → Vec Ideal S1x128x128 .bf16) (rb n : Fin 2) (x : Fin 4 × Fin 4) : ∀ z, (qRowPiece l rb n x).2 z = GQ l ((qRowPiece l rb n x).1.emb z) := by
  obtain ⟨g, i⟩ := x
  intro (z : S1x1x32x128.Idx)
  obtain ⟨r, d, rfl⟩ : ∃ (r : Fin 32) (d : Fin 128), z = ix4 0 0 r d := ⟨z 2, z 3, by idx_ext⟩
  have he : (qRowPiece l rb n (g, i)).1.emb (ix4 0 0 r d : S1x1x32x128.Idx) = ix4 rb n ⟨32 * (4 * i.val + g.val) + r.val, by omega⟩ d := by
    funext a
    apply Fin.ext
    unfold qRowPiece
    rw [unit_emb]
    fin_cases a <;> first | rfl | (show _ + 0 = _; omega) | (show 0 + d.val = d.val; omega)
  refine Eq.trans ?_ ((congrArg (GQ l) he).trans (GQ_of l rb n i g r d)).symm
  show shapeCast S1x1x32x128 (extractStridedSlice S32x128 ![32 * i.val, 0]
      (qCode (l ⟨4 * n.val + g.val, by omega⟩) (vinv (qY l)) ⟨4 * n.val + g.val, by omega⟩) (sl_og i)) shapeCasts_S32x128_S1x1x32x128 (ix4 0 0 r d) = _
  have hq := qCode_apply (l ⟨4 * n.val + g.val, by omega⟩) (vinv (qY l)) ⟨4 * n.val + g.val, by omega⟩ ⟨32 * i.val + r.val, by omega⟩ d
  rw [vinv_apply, qY_apply] at hq
  rw [← hq]
  generalize qCode (l ⟨4 * n.val + g.val, by omega⟩) (vinv (qY l)) ⟨4 * n.val + g.val, by omega⟩ = y
  pointwise []

/-- The order of the stores of a block's codes. -/
def qAll : List (Fin 2 × Fin 4 × Fin 4) := oOrd.map (fun x => (0, x)) ++ oOrd.map (fun x => (1, x))

theorem mem_qAll (n : Fin 2) (g i : Fin 4) : (n, g, i) ∈ qAll := by
  revert n g i; decide

theorem qRow_all (l : Fin 8 → Vec Ideal S1x128x128 .bf16) (rb : Fin 2) (H : List (View.Piece (Elt Ideal) S2x2x512x128 .fp8e4m3)) :
    qRowPieces l rb 1 (qRowPieces l rb 0 H) = qAll.foldl (fun H x => qRowPiece l rb x.1 x.2 :: H) H := rfl

theorem qRd_all (arg14 : Memref sig .tc .vmem S2x2x512x128 .fp8e4m3) (l : Fin 8 → Vec Ideal S1x128x128 .bf16) (rb n : Fin 2) (H : List (View.Piece (Elt Ideal) S2x2x512x128 .fp8e4m3))
    (i g : Fin 4) (r : Fin 32) (d : Fin 128) :
    qRd arg14 (qRowPieces l rb 1 (qRowPieces l rb 0 H)) rb n (ix4 0 0 ⟨128 * i.val + (32 * g.val + r.val), by omega⟩ d)
      = clip (l ⟨4 * n.val + g.val, by omega⟩ (ix3 0 ⟨32 * i.val + r.val, by omega⟩ d)) (Pow2.inv (qYs (l ⟨4 * n.val + g.val, by omega⟩))) := by
  rw [qRow_all, ← GQ_of l rb n i g r d]
  have he : (Rect.unit (s := S2x2x512x128) ![rb.val, n.val, 0, 0] S1x1x512x128.size (inb_q14 rb n)).emb (ix4 0 0 ⟨128 * i.val + (32 * g.val + r.val), by omega⟩ d : S1x1x512x128.Idx)
      = ix4 rb n ⟨32 * (4 * i.val + g.val) + r.val, by omega⟩ d := by
    funext a
    apply Fin.ext
    rw [unit_emb]
    match a with
    | ⟨0, _⟩ => rfl
    | ⟨1, _⟩ => rfl
    | ⟨2, _⟩ => show 0 + (128 * i.val + (32 * g.val + r.val)) = 32 * (4 * i.val + g.val) + r.val; omega
    | ⟨3, _⟩ => show 0 + d.val = d.val; omega
  rw [← he]
  refine read_foldl arg14.view (fun x : Fin 2 × Fin 4 × Fin 4 => qRowPiece l rb x.1 x.2) _ qAll H (GQ l) (fun x _ z => qRowPiece_eq l rb x.1 x.2 z) _ ⟨(n, g, i), mem_qAll n g i, ?_⟩
  refine (congrArg (fun y => y ∈ (qRowPiece l rb n (g, i)).1.set) he).mpr ?_
  refine (Rect.mem_set_unit (inb := inb_q14s rb n i g)).mpr fun a => ?_
  match a with
  | ⟨0, _⟩ => show rb.val ≤ rb.val ∧ rb.val < rb.val + 1; omega
  | ⟨1, _⟩ => show n.val ≤ n.val ∧ n.val < n.val + 1; omega
  | ⟨2, _⟩ => show 32 * (4 * i.val + g.val) ≤ 32 * (4 * i.val + g.val) + r.val ∧ 32 * (4 * i.val + g.val) + r.val < 32 * (4 * i.val + g.val) + 32; have := r.isLt; omega
  | ⟨3, _⟩ => show 0 ≤ d.val ∧ d.val < 0 + 128; have := d.isLt; omega

/-- The factor of the scores. -/
def kap : EReal := Named.named (F := Ideal) κ "score_scale" (φ := .f32) 0x3E0293EE#32

/-- The scales of a block's queries as one table. -/
def GT (sc : FVec Ideal S8x1 .f32) : S2x2x8x128.Idx → EReal := fun y =>
  have h1 : (y 1).val < 2 := (y 1).isLt
  have h3 : (y 3).val < 128 := (y 3).isLt
  sc (ix2 ⟨4 * (y 1).val + (y 3).val / 32, by omega⟩ 0) * kap

theorem GT_of (sc : FVec Ideal S8x1 .f32) (a n : Fin 2) (e : Fin 8) (g : Fin 4) (r : Fin 32) :
    GT sc (ix4 a n e ⟨32 * g.val + r.val, by omega⟩) = sc (ix2 ⟨4 * n.val + g.val, by omega⟩ 0) * kap := by
  have e1 : (32 * g.val + r.val) / 32 = g.val := by omega
  unfold GT
  dsimp only [ix4]
  congr 3
  exact Fin.ext (congrArg (4 * n.val + ·) e1)

theorem qsPiece_eq (rb n : Fin 2) (sc : FVec Ideal S8x1 .f32) : ∀ z, (qsPiece rb n sc).2 z = GT sc ((qsPiece rb n sc).1.emb z) := by
  intro (z : S1x1x8x128.Idx)
  obtain ⟨e, g, r, rfl⟩ : ∃ (e : Fin 8) (g : Fin 4) (r : Fin 32), z = ix4 0 0 e ⟨32 * g.val + r.val, by omega⟩ := by
    have h : (z 3).val < 128 := (z 3).isLt
    refine ⟨z 2, ⟨(z 3).val / 32, by omega⟩, ⟨(z 3).val % 32, by omega⟩, ?_⟩
    have e3 : (⟨32 * ((z 3).val / 32) + (z 3).val % 32, by omega⟩ : Fin 128) = z 3 := Fin.ext (by show 32 * ((z 3).val / 32) + (z 3).val % 32 = (z 3).val; omega)
    show z = ix4 0 0 (z 2) (⟨32 * ((z 3).val / 32) + (z 3).val % 32, by omega⟩ : Fin 128)
    rw [e3]
    idx_ext
  have he : (qsPiece rb n sc).1.emb (ix4 0 0 e ⟨32 * g.val + r.val, by omega⟩ : S1x1x8x128.Idx) = ix4 rb n e ⟨32 * g.val + r.val, by omega⟩ := by
    funext a
    apply Fin.ext
    unfold qsPiece
    rw [unit_emb]
    match a with
    | ⟨0, _⟩ => rfl
    | ⟨1, _⟩ => rfl
    | ⟨2, _⟩ => show 0 + e.val = e.val; omega
    | ⟨3, _⟩ => show 0 + (32 * g.val + r.val) = 32 * g.val + r.val; omega
  refine Eq.trans ?_ ((congrArg (GT sc) he).trans (GT_of sc rb n e g r)).symm
  rw [← qsLane_apply sc n g r]
  unfold qsPiece kap
  generalize qsLane sc n = y
  pointwise []

theorem qsRd_all (arg15 : Memref sig .tc .vmem S2x2x8x128 .f32) (sc : FVec Ideal S8x1 .f32) (rb n : Fin 2) (H : List (View.Piece (Elt Ideal) S2x2x8x128 .f32)) (g : Fin 4) (r : Fin 32) :
    qsRd arg15 (qsPiece rb 1 sc :: qsPiece rb 0 sc :: H) rb n (ix4 0 0 0 ⟨32 * g.val + r.val, by omega⟩) = sc (ix2 ⟨4 * n.val + g.val, by omega⟩ 0) * kap := by
  rw [← GT_of sc rb n 0 g r]
  have he : (Rect.unit (s := S2x2x8x128) ![rb.val, n.val, 0, 0] S1x1x1x128.size (inb_q15 rb n)).emb (ix4 0 0 0 ⟨32 * g.val + r.val, by omega⟩ : S1x1x1x128.Idx)
      = ix4 rb n 0 ⟨32 * g.val + r.val, by omega⟩ := by
    funext a
    apply Fin.ext
    rw [unit_emb]
    match a with
    | ⟨0, _⟩ => rfl
    | ⟨1, _⟩ => rfl
    | ⟨2, _⟩ => rfl
    | ⟨3, _⟩ => show 0 + (32 * g.val + r.val) = 32 * g.val + r.val; omega
  rw [← he]
  refine read_foldl arg15.view (fun n : Fin 2 => qsPiece rb n sc) _ [0, 1] H (GT sc) (fun x _ z => qsPiece_eq rb x sc z) _ ⟨n, by fin_cases n <;> simp, ?_⟩
  refine (congrArg (fun y => y ∈ (qsPiece rb n sc).1.set) he).mpr ?_
  refine (Rect.mem_set_unit (inb := inb_q15s rb n)).mpr fun a => ?_
  match a with
  | ⟨0, _⟩ => show rb.val ≤ rb.val ∧ rb.val < rb.val + 1; omega
  | ⟨1, _⟩ => show n.val ≤ n.val ∧ n.val < n.val + 1; omega
  | ⟨2, _⟩ => show 0 ≤ 0 ∧ 0 < 0 + 8; omega
  | ⟨3, _⟩ => show 0 ≤ 32 * g.val + r.val ∧ 32 * g.val + r.val < 0 + 128; have := r.isLt; omega

end Cert.KernelIdeal.Hand

end
-- ==== Proof.Ideal.OUnit.lean ====
module

public import proofs.«01_k».proof.Proof.Ideal.OQry
public import proofs.«01_k».proof.Proof.Ideal.KPoint

/-! The window of keys and values a row block sees, and its scores. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The first row of the window of a row block. -/
def kb (i : grid0.Coords) (rb : Fin 2) : ℕ := 256 * (i 1).val + 128 * rb.val - 1024

theorem i1_lt (i : grid0.Coords) : (i 1).val < 16 := (i 1).isLt

/-- The row of the keys a row of the window is. -/
def eR (i : grid0.Coords) (rb : Fin 2) (R : Fin 1152) : Fin 4096 := ⟨kb i rb + R.val, by have := i1_lt i; unfold kb; omega⟩

/-- The block of keys a row of the window lies in. -/
def eB (i : grid0.Coords) (rb : Fin 2) (R : Fin 1152) : Fin 64 := ⟨(kb i rb + R.val) / 64, by have := i1_lt i; unfold kb; omega⟩

theorem kOff_eq0 : ∀ i : grid0.Coords, k0_cond3 i = 1#1 → ∀ (rb : Fin 2) (c : Fin 9),
    k0_off13 i (BitVec.ofNat 32 rb.val) (BitVec.ofNat 32 (128 * c.val)) = ![0, 0, kb i rb + 128 * c.val, 0] := by decide +kernel
theorem kOff_eq1 : ∀ i : grid0.Coords, k0_cond3 i = 1#1 → ∀ (rb : Fin 2) (c : Fin 9),
    k0_off16 i (BitVec.ofNat 32 rb.val) (BitVec.ofNat 32 (128 * c.val)) = ![0, 1, kb i rb + 128 * c.val, 0] := by decide +kernel
theorem ksOff_eq0 : ∀ i : grid0.Coords, k0_cond3 i = 1#1 → ∀ rb : Fin 2, k0_off12 i (BitVec.ofNat 32 rb.val) = ![0, kb i rb / 64, 0] := by decide +kernel
theorem ksOff_eq1 : ∀ i : grid0.Coords, k0_cond3 i = 1#1 → ∀ rb : Fin 2, k0_off15 i (BitVec.ofNat 32 rb.val) = ![1, kb i rb / 64, 0] := by decide +kernel
theorem vOff_eq0 : ∀ i : grid0.Coords, k0_cond3 i = 1#1 → ∀ rb : Fin 2, k0_off14 i (BitVec.ofNat 32 rb.val) = ![0, 0, kb i rb] := by decide +kernel
theorem vOff_eq1 : ∀ i : grid0.Coords, k0_cond3 i = 1#1 → ∀ rb : Fin 2, k0_off17 i (BitVec.ofNat 32 rb.val) = ![1, 0, kb i rb] := by decide +kernel

theorem kOff_eq (i : grid0.Coords) (h : k0_cond3 i = 1#1) (rb : Fin 2) : ∀ (n : Fin 2) (c : Fin 9), kOff i rb n c = ![0, n.val, kb i rb + 128 * c.val, 0]
  | ⟨0, _⟩, c => kOff_eq0 i h rb c
  | ⟨1, _⟩, c => kOff_eq1 i h rb c
theorem wsOff_eq (i : grid0.Coords) (h : k0_cond3 i = 1#1) (rb : Fin 2) : ∀ n : Fin 2, wsOff i rb n = ![n.val, kb i rb / 64, 0]
  | ⟨0, _⟩ => ksOff_eq0 i h rb
  | ⟨1, _⟩ => ksOff_eq1 i h rb
theorem vOff_eq (i : grid0.Coords) (h : k0_cond3 i = 1#1) (rb : Fin 2) : ∀ n : Fin 2, vOff i rb n = ![n.val, 0, kb i rb]
  | ⟨0, _⟩ => vOff_eq0 i h rb
  | ⟨1, _⟩ => vOff_eq1 i h rb

theorem kLd_apply (arg8 : Memref sig .tc .vmem S1x2x4096x128 .fp8e4m3) (harg8 : arg8.IsWhole) (x8 : Vec Ideal S1x2x4096x128 .fp8e4m3) (i : grid0.Coords)
    (h : k0_cond3 i = 1#1) (rb n : Fin 2) (R : Fin 1152) (d : Fin 128) :
    kLd arg8 harg8 x8 i h rb n ⟨R.val / 128, by omega⟩ (ix4 0 0 ⟨R.val % 128, by omega⟩ d) = x8 (ix4 0 n (eR i rb R) d) := by
  unfold kLd
  rw [Memref.IsWhole.readAt_unread]
  refine congrArg x8 ?_
  funext a
  apply Fin.ext
  refine (unit_emb_of _ _ _ (kOff_eq i h rb n ⟨R.val / 128, by omega⟩) a).trans ?_
  match a with
  | ⟨0, _⟩ => rfl
  | ⟨1, _⟩ => rfl
  | ⟨2, _⟩ => show kb i rb + 128 * (R.val / 128) + R.val % 128 = kb i rb + R.val; omega
  | ⟨3, _⟩ => show 0 + d.val = d.val; omega

theorem ksLd_apply (arg12 : Memref sig .tc .vmem S2x64x128 .f32) (harg12 : arg12.IsWhole) (x12 : Vec Ideal S2x64x128 .f32) (i : grid0.Coords)
    (h : k0_cond3 i = 1#1) (rb n : Fin 2) (R : Fin 1152) (L : Fin 128) :
    ksLd arg12 harg12 x12 i h rb n (ix3 0 ⟨R.val / 64, by omega⟩ L) = x12 (ix3 n (eB i rb R) L) := by
  unfold ksLd
  rw [Memref.IsWhole.readAt_unread]
  refine congrArg x12 ?_
  funext a
  apply Fin.ext
  refine (unit_emb_of _ _ _ (wsOff_eq i h rb n) a).trans ?_
  match a with
  | ⟨0, _⟩ => rfl
  | ⟨1, _⟩ => show kb i rb / 64 + R.val / 64 = (kb i rb + R.val) / 64; unfold kb; omega
  | ⟨2, _⟩ => show 0 + L.val = L.val; omega

theorem vLd_apply (arg13 : Memref sig .tc .vmem S2x128x4096 .fp8e4m3) (harg13 : arg13.IsWhole) (x13 : Vec Ideal S2x128x4096 .fp8e4m3) (i : grid0.Coords)
    (h : k0_cond3 i = 1#1) (rb n : Fin 2) (d : Fin 128) (R : Fin 1152) :
    vLd arg13 harg13 x13 i h rb n (ix3 0 d R) = x13 (ix3 n d (eR i rb R)) := by
  unfold vLd
  rw [Memref.IsWhole.readAt_unread]
  refine congrArg x13 ?_
  funext a
  apply Fin.ext
  refine (unit_emb_of _ _ _ (vOff_eq i h rb n) a).trans ?_
  match a with
  | ⟨0, _⟩ => rfl
  | ⟨1, _⟩ => show 0 + d.val = d.val; omega
  | ⟨2, _⟩ => rfl

theorem vsLd_apply (arg11 : Memref sig .tc .vmem S1x2x128 .f32) (harg11 : arg11.IsWhole) (x11 : Vec Ideal S1x2x128 .f32) (n : Fin 2) (d : Fin 128) :
    vsLd arg11 harg11 x11 n (ix3 0 0 d) = x11 (ix3 0 n d) := by
  unfold vsLd
  rw [Memref.IsWhole.readAt_unread]
  refine congrArg x11 ?_
  funext a
  apply Fin.ext
  refine (unit_emb _ _ _ _ a).trans ?_
  match a with
  | ⟨0, _⟩ => rfl
  | ⟨1, _⟩ => rfl
  | ⟨2, _⟩ => show 0 + d.val = d.val; omega

/-- The row of the point's block a lane of a tile holds. -/
def qR (rb : Fin 2) (t : Fin 4) (L : Fin 128) : Fin 256 := ⟨128 * rb.val + (32 * t.val + L.val % 32), by omega⟩

/-- The query head of a lane. -/
def qH (n : Fin 2) (L : Fin 128) : Fin 8 := ⟨4 * n.val + L.val / 32, by omega⟩

theorem qGat_row (arg2 : Memref sig .tc .vmem S1x256x1024 .bf16) (harg2 : arg2.IsWhole) (x2 : Vec Ideal S1x256x1024 .bf16) (rb : Fin 2) (h : Fin 8) (t : Fin 4) (L d : Fin 128) :
    clip (qLoad arg2 harg2 x2 rb h (ix3 0 ⟨32 * t.val + L.val % 32, by omega⟩ d)) (Pow2.inv (qYs (qLoad arg2 harg2 x2 rb h))) = qGat x2 (qR rb t L) h d := by
  rw [qLoad_apply, qYs_qLoad]
  have e : (⟨(128 * rb.val + (32 * t.val + L.val % 32)) / 128, by omega⟩ : Fin 2) = rb := Fin.ext (by show (128 * rb.val + (32 * t.val + L.val % 32)) / 128 = rb.val; omega)
  unfold qGat qR
  exact congrArg (fun z : Fin 2 => clip (x2 (ix3 0 ⟨128 * rb.val + (32 * t.val + L.val % 32), by omega⟩ ⟨128 * h.val + d.val, by omega⟩)) (Pow2.inv (qYb x2 z h))) e.symm

theorem lane_eq (L : Fin 128) : 32 * (L.val / 32) + L.val % 32 = L.val := by omega

theorem qRdU (c : Dev nD) (arg2 : Memref sig .tc .vmem S1x256x1024 .bf16) (harg2 : arg2.IsWhole) (arg14 : Memref sig .tc .vmem S2x2x512x128 .fp8e4m3) (x2 : Vec Ideal S1x256x1024 .bf16)
    (n : Fin 2) (t : Fin 4) (L d : Fin 128) : ∀ rb : Fin 2,
    qRd arg14 (match rb with | ⟨0, _⟩ => runC.sl.H14_32 (F := Ideal) c arg2 harg2 x2 | ⟨1, _⟩ => runC.sl.H14_64 (F := Ideal) c arg2 harg2 x2) rb n (ix4 0 0 ⟨128 * t.val + L.val, by omega⟩ d)
      = qGat x2 (qR rb t L) (qH n L) d := by
  have el : (⟨128 * t.val + L.val, by omega⟩ : Fin 512) = ⟨128 * t.val + (32 * (⟨L.val / 32, by omega⟩ : Fin 4).val + (⟨L.val % 32, by omega⟩ : Fin 32).val), by dsimp only; omega⟩ :=
    Fin.ext (congrArg (128 * t.val + ·) (lane_eq L).symm)
  rw [el]
  intro rb
  match rb with
  | ⟨0, _⟩ =>
    refine (congrArg (fun Q => qRd arg14 Q 0 n _) (h14_0 (F := Ideal) c arg2 harg2 x2)).trans ?_
    exact (qRd_all arg14 (qLoad arg2 harg2 x2 0) 0 n [] t ⟨L.val / 32, by omega⟩ ⟨L.val % 32, by omega⟩ d).trans (qGat_row arg2 harg2 x2 0 (qH n L) t L d)
  | ⟨1, _⟩ =>
    refine (congrArg (fun Q => qRd arg14 Q 1 n _) (h14_1 (F := Ideal) c arg2 harg2 x2)).trans ?_
    exact (qRd_all arg14 (qLoad arg2 harg2 x2 1) 1 n _ t ⟨L.val / 32, by omega⟩ ⟨L.val % 32, by omega⟩ d).trans (qGat_row arg2 harg2 x2 1 (qH n L) t L d)

theorem sc_row (arg2 : Memref sig .tc .vmem S1x256x1024 .bf16) (harg2 : arg2.IsWhole) (x2 : Vec Ideal S1x256x1024 .bf16) (rb : Fin 2) (h : Fin 8) :
    vscale (qY (qLoad arg2 harg2 x2 rb)) (ix2 h 0) * kap = Pow2.scale (qYb x2 rb h) * kap := by
  rw [vscale_apply, qY_apply, qYs_qLoad]

theorem qsRdU (c : Dev nD) (arg2 : Memref sig .tc .vmem S1x256x1024 .bf16) (harg2 : arg2.IsWhole) (arg15 : Memref sig .tc .vmem S2x2x8x128 .f32) (x2 : Vec Ideal S1x256x1024 .bf16)
    (n : Fin 2) (L : Fin 128) : ∀ rb : Fin 2,
    qsRd arg15 (match rb with | ⟨0, _⟩ => runC.sl.H15_2 (F := Ideal) c arg2 harg2 x2 | ⟨1, _⟩ => runC.sl.H15_4 (F := Ideal) c arg2 harg2 x2) rb n (ix4 0 0 0 L)
      = Pow2.scale (qYb x2 rb (qH n L)) * kap := by
  have el : L = ⟨32 * (⟨L.val / 32, by omega⟩ : Fin 4).val + (⟨L.val % 32, by omega⟩ : Fin 32).val, by dsimp only; omega⟩ := Fin.ext (lane_eq L).symm
  intro rb
  refine (congrArg (fun z => qsRd arg15 _ rb n (ix4 0 0 0 z)) el).trans ?_
  match rb with
  | ⟨0, _⟩ =>
    refine (congrArg (fun Q => qsRd arg15 Q 0 n _) (h15_0 (F := Ideal) c arg2 harg2 x2)).trans ?_
    exact (qsRd_all arg15 _ 0 n [] ⟨L.val / 32, by omega⟩ ⟨L.val % 32, by omega⟩).trans (sc_row arg2 harg2 x2 0 (qH n L))
  | ⟨1, _⟩ =>
    refine (congrArg (fun Q => qsRd arg15 Q 1 n _) (h15_1 (F := Ideal) c arg2 harg2 x2)).trans ?_
    exact (qsRd_all arg15 _ 1 n _ ⟨L.val / 32, by omega⟩ ⟨L.val % 32, by omega⟩).trans (sc_row arg2 harg2 x2 1 (qH n L))

/-- The masked score of a window row on a lane, in the units of the base-two logarithm. -/
def uS (x2 : Vec Ideal S1x256x1024 .bf16) (x8 : Vec Ideal S1x2x4096x128 .fp8e4m3) (x12 : Vec Ideal S2x64x128 .f32) (i : grid0.Coords) (rb n : Fin 2) (t : Fin 4) (R : Fin 1152) (L : Fin 128) : EReal :=
  if 32 * t.val + 24 + L.val % 32 < R.val ∧ R.val ≤ 32 * t.val + 1024 + L.val % 32 then
    (∑ d : Fin 128, x8 (ix4 0 n (eR i rb R) d) * qGat x2 (qR rb t L) (qH n L) d) * (x12 (ix3 n (eB i rb R) L) * (Pow2.scale (qYb x2 rb (qH n L)) * kap))
  else ⊥

theorem SS_unit (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (hc2 : k0_cond3 i = 1#1) (x2 : Vec Ideal S1x256x1024 .bf16) (x8 : Vec Ideal S1x2x4096x128 .fp8e4m3) (x12 : Vec Ideal S2x64x128 .f32) (rb n : Fin 2) (t : Fin 4) (R : Fin 1152) (L : Fin 128) :
    SS (mmU c i arg2 harg2 arg8 harg8 arg12 harg12 arg14 arg15 hc2 x2 x8 x12 rb n) (ctU c i arg2 harg2 arg8 harg8 arg12 harg12 arg14 arg15 hc2 x2 x8 x12 rb n) t R L
      = uS x2 x8 x12 i rb n t R L := by
  unfold SS uS
  refine if_congr Iff.rfl ?_ rfl
  unfold SW mmU ctU
  rw [mmC_apply, ctab_apply]
  exact congrArg₂ (· * ·) (Finset.sum_congr rfl fun d _ => congrArg₂ (· * ·) (kLd_apply arg8 harg8 x8 i hc2 rb n R d) (qRdU c arg2 harg2 arg14 x2 n t L d rb))
    (congrArg₂ (· * ·) (ksLd_apply arg12 harg12 x12 i hc2 rb n R L) (qsRdU c arg2 harg2 arg15 x2 n L rb))

end Cert.KernelIdeal.Hand

end
-- ==== Proof.Ideal.OProb.lean ====
module

public import proofs.«01_k».proof.Proof.Ideal.ORead

/-! The probabilities of a unit, read back over the window. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (s0 : Fin 4 → FVec Ideal S8x128 .f32) (s : Fin 4 → Fin 33 → FVec Ideal S32x128 .f32) (m : Fin 4 → FVec Ideal S1x128 .f32)
  (S : Fin 4 → Fin 1152 → Fin 128 → EReal)

theorem pPiece_rect (x : Fin 4 × Fin 33) : (pPiece s0 s m x).1 = rBlk x.1 x.2 := by
  obtain ⟨i, ⟨t, ht⟩⟩ := x
  cases t with
  | zero => rfl
  | succ t => rfl

theorem pPiece_zero (i : Fin 4) (h : 0 < 33) : pPiece s0 s m (i, ⟨0, h⟩) = ⟨rBlk i ⟨0, h⟩, shapeCast S32x128 (truncf .fp8e4m3 (concatenate S32x128 0 [⟨S24x128, broadcast S24x128 (Scalar.ofBits .f32 0x00000000#32)⟩,
      ⟨S8x128, minimumf (broadcast S8x128 (Scalar.ofBits .f32 0x43E00000#32)) (maximumf (broadcast S8x128 (Scalar.ofBits .f32 0xC3E00000#32)) (pBlk0 (s0 i) (m i)))⟩]
      concatenates_S24x128_S8x128_S32x128_d0) bitsLt_fp8e4m3_f32) shapeCasts_S32x128_S32x128⟩ := by
  unfold pPiece
  rfl

theorem pPiece_succ (i : Fin 4) (t : ℕ) (h : t + 1 < 33) : pPiece s0 s m (i, ⟨t + 1, h⟩) = ⟨rBlk i ⟨t + 1, h⟩, shapeCast S32x128 (truncf .fp8e4m3 (minimumf (broadcast S32x128 (Scalar.ofBits .f32 0x43E00000#32))
      (maximumf (broadcast S32x128 (Scalar.ofBits .f32 0xC3E00000#32)) (pBlk (s i ⟨t + 1, h⟩) (m i)))) bitsLt_fp8e4m3_f32) shapeCasts_S32x128_S32x128⟩ := by
  rfl

theorem bot_prob (x : EReal) : pClip (Ideal.exp2 (⊥ - x)) = 0 := by
  rw [sub_eq_add_neg, EReal.bot_add, Ideal.exp2_bot, pClip_zero]

theorem row0_lt (i : Fin 4) (r : Fin 8) : 32 * i.val + 24 + r.val < 1152 := by omega

theorem row_lt (i : Fin 4) (t : Fin 33) (r : Fin 32) : 32 * (i.val + t.val) + r.val < 1152 := by omega

variable (hs0 : ∀ (i : Fin 4) (r : Fin 8) (L : Fin 128), s0 i (ix2 r L) = S i ⟨32 * i.val + 24 + r.val, row0_lt i r⟩ L)
  (hs : ∀ (i : Fin 4) (t : Fin 33), t.val ≠ 0 → ∀ (r : Fin 32) (L : Fin 128), s i t (ix2 r L) = S i ⟨32 * (i.val + t.val) + r.val, row_lt i t r⟩ L)
  (hS : ∀ (i : Fin 4) (R : Fin 1152) (L : Fin 128), R.val < 32 * i.val + 24 ∨ 32 * i.val + 1056 ≤ R.val → S i R L = ⊥)

include hs0 hs hS

theorem pPiece_eq (x : Fin 4 × Fin 33) : ∀ z, (pPiece s0 s m x).2 z = GP m S ((pPiece s0 s m x).1.emb z) := by
  obtain ⟨i, ⟨t, ht⟩⟩ := x
  cases t with
  | zero =>
    refine piece_eq_of (GP m S) _ _ (pPiece_zero s0 s m i ht) ?_
    intro (z : S32x128.Idx)
    obtain ⟨r, L, rfl⟩ : ∃ (r : Fin 32) (L : Fin 128), z = ix2 r L := ⟨z 0, z 1, by idx_ext⟩
    show _ = GP m S ((rBlk i ⟨0, ht⟩).emb (ix2 r L : S32x128.Idx))
    rw [rBlk_emb, GP_of]
    dsimp only
    refine (pFirst_apply (pBlk0 (s0 i) (m i)) r L).trans ?_
    split
    · rename_i h
      rw [hS i _ L (.inl (by show 32 * (i.val + 0) + r.val < _; omega)), bot_prob]
    · rename_i h
      rw [pBlk0_apply, hs0]
      congr 4
      apply Fin.ext
      show 32 * i.val + 24 + (r.val - 24) = 32 * (i.val + 0) + r.val
      omega
  | succ t =>
    refine piece_eq_of (GP m S) _ _ (pPiece_succ s0 s m i t ht) ?_
    intro (z : S32x128.Idx)
    obtain ⟨r, L, rfl⟩ : ∃ (r : Fin 32) (L : Fin 128), z = ix2 r L := ⟨z 0, z 1, by idx_ext⟩
    show _ = GP m S ((rBlk i ⟨t + 1, ht⟩).emb (ix2 r L : S32x128.Idx))
    rw [rBlk_emb, GP_of]
    dsimp only
    refine (pFull_apply (pBlk (s i ⟨t + 1, ht⟩) (m i)) (ix2 r L)).trans ?_
    rw [pBlk_apply, hs i ⟨t + 1, ht⟩ (Nat.succ_ne_zero t)]

omit hs0 hs hS in
theorem p_out (v : View sig .tc .vmem S1152x512 .fp8e4m3) (f : v.ty.Contents (Elt Ideal)) (H : List (View.Piece (Elt Ideal) S1152x512 .fp8e4m3))
    (i : Fin 4) (R : Fin 1152) (L : Fin 128) (h : R.val < 32 * i.val ∨ 32 * i.val + 1056 ≤ R.val) :
    v.read (Elt Ideal) (v.writes (Elt Ideal) f (pPieces s0 s m H)) (ix2 R ⟨128 * i.val + L.val, by omega⟩)
      = v.read (Elt Ideal) (v.writes (Elt Ideal) f H) (ix2 R ⟨128 * i.val + L.val, by omega⟩) := by
  refine read_foldl_of_not_mem v (pPiece s0 s m) f _ H pOrd fun x hx => ?_
  rw [pPiece_rect]
  intro hm
  have h2 := Rect.mem_set_unit.mp hm
  have e1 : 128 * x.1.val ≤ 128 * i.val + L.val ∧ 128 * i.val + L.val < 128 * x.1.val + 128 := h2 1
  have e0 : 32 * (x.1.val + x.2.val) ≤ R.val ∧ R.val < 32 * (x.1.val + x.2.val) + 32 := h2 0
  have := x.2.isLt
  have ei : x.1.val = i.val := by omega
  omega

theorem p_read (v : View sig .tc .vmem S1152x512 .fp8e4m3) (f : v.ty.Contents (Elt Ideal)) (H : List (View.Piece (Elt Ideal) S1152x512 .fp8e4m3))
    (i : Fin 4) (R : Fin 1152) (L : Fin 128)
    (h0 : R.val < 32 * i.val ∨ 32 * i.val + 1056 ≤ R.val → v.read (Elt Ideal) (v.writes (Elt Ideal) f H) (ix2 R ⟨128 * i.val + L.val, by omega⟩) = (0 : EReal)) :
    v.read (Elt Ideal) (v.writes (Elt Ideal) f (pPieces s0 s m H)) (ix2 R ⟨128 * i.val + L.val, by omega⟩) = pClip (Ideal.exp2 (S i R L - m i (ix2 0 L))) := by
  by_cases h : R.val < 32 * i.val ∨ 32 * i.val + 1056 ≤ R.val
  · rw [p_out s0 s m v f H i R L h, hS i R L (by omega), bot_prob]
    exact h0 h
  · rw [← GP_of]
    have ht : R.val / 32 - i.val < 33 := by omega
    refine read_foldl v (pPiece s0 s m) f pOrd H (GP m S) (fun x _ z => pPiece_eq s0 s m S hs0 hs hS x z) _ ⟨(i, ⟨R.val / 32 - i.val, ht⟩), mem_pOrd _ _, ?_⟩
    rw [pPiece_rect]
    refine Rect.mem_set_unit.mpr fun a => ?_
    match a with
    | ⟨0, _⟩ =>
      show 32 * (i.val + (R.val / 32 - i.val)) ≤ R.val ∧ R.val < 32 * (i.val + (R.val / 32 - i.val)) + 32
      omega
    | ⟨1, _⟩ =>
      show 128 * i.val ≤ 128 * i.val + L.val ∧ 128 * i.val + L.val < 128 * i.val + 128
      have := L.isLt
      omega

end Cert.KernelIdeal.Hand

end
-- ==== Proof.Ideal.OTile.lean ====
module

public import proofs.«01_k».proof.Proof.Ideal.OUnit
public import proofs.«01_k».proof.Proof.Ideal.OProb

/-! A tile's result, and what the probabilities' store holds outside the tiles' rows. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem oTile_apply (v : Vec Ideal S1x128x1152 .fp8e4m3) (p : Vec Ideal S1152x512 .fp8e4m3) (r : FVec Ideal S1x128 .f32) (vs : Vec Ideal S1x1x128 .f32) (t : Fin 4) (L d : Fin 128) :
    oTile (oMat v p) r vs t (ix2 L d) = (∑ R : Fin 1152, v (ix3 0 d R) * p (ix2 R ⟨128 * t.val + L.val, by omega⟩)) * r (ix2 0 L) * vs (ix3 0 0 d) := by
  have h : oMat v p (ix2 d ⟨128 * t.val + L.val, by omega⟩) = ∑ R : Fin 1152, v (ix3 0 d R) * p (ix2 R ⟨128 * t.val + L.val, by omega⟩) := by
    pointwise [oMat]
  rw [← h]
  generalize oMat v p = o
  pointwise [oTile]

section Unit

variable (mm : Fin 9 → FVec Ideal S128x512 .f32) (ct : FVec Ideal S18x128 .f32)
  (arg16 : Memref sig .tc .vmem S1152x512 .f32) (H16' : List (View.Piece (Elt Ideal) S1152x512 .f32))

theorem SS_bot (t : Fin 4) (R : Fin 1152) (L : Fin 128) (h : R.val < 32 * t.val + 24 ∨ 32 * t.val + 1056 ≤ R.val) : SS mm ct t R L = ⊥ := by
  unfold SS
  exact if_neg (by omega)

theorem unit_p (v : View sig .tc .vmem S1152x512 .fp8e4m3) (f : v.ty.Contents (Elt Ideal)) (H : List (View.Piece (Elt Ideal) S1152x512 .fp8e4m3))
    (t : Fin 4) (R : Fin 1152) (L : Fin 128)
    (h0 : R.val < 32 * t.val ∨ 32 * t.val + 1056 ≤ R.val → v.read (Elt Ideal) (v.writes (Elt Ideal) f H) (ix2 R ⟨128 * t.val + L.val, by omega⟩) = (0 : EReal)) :
    v.read (Elt Ideal) (v.writes (Elt Ideal) f (pPieces (sRd0 arg16 (sPieces mm ct H16')) (sRd arg16 (sPieces mm ct H16')) (mLane mm ct) H)) (ix2 R ⟨128 * t.val + L.val, by omega⟩)
      = pClip (Ideal.exp2 (SS mm ct t R L - ((⨆ R, SS mm ct t R L) - 8))) := by
  have h := p_read (sRd0 arg16 (sPieces mm ct H16')) (sRd arg16 (sPieces mm ct H16')) (mLane mm ct) (SS mm ct) (sRd0_apply mm ct arg16 H16') (sRd_apply mm ct arg16 H16')
    (SS_bot mm ct) v f H t R L h0
  rw [mLane_apply] at h
  exact h

theorem unit_r (t : Fin 4) (L : Fin 128) :
    recip (sRd0 arg16 (sPieces mm ct H16') t) (sRd arg16 (sPieces mm ct H16') t) (mLane mm ct t) (ix2 0 L)
      = Ideal.div 1 (∑ R : Fin 1152, Ideal.exp2 (SS mm ct t R L - ((⨆ R, SS mm ct t R L) - 8))) := by
  have h := recip_apply t (sRd0 arg16 (sPieces mm ct H16') t) (sRd arg16 (sPieces mm ct H16') t) (mLane mm ct t) L (fun R => SS mm ct t R L)
    (fun k => sRd0_apply mm ct arg16 H16' t k L) (fun s hs r => sRd_apply mm ct arg16 H16' t s hs r L) (fun R hR => SS_bot mm ct t R L hR)
  rw [mLane_apply] at h
  exact h

end Unit

/-- The rows of the probabilities' store outside the tiles' rows are as they were. -/
def Outside (v : View sig .tc .vmem S1152x512 .fp8e4m3) (f : v.ty.Contents (Elt Ideal)) (H : List (View.Piece (Elt Ideal) S1152x512 .fp8e4m3)) : Prop :=
  ∀ (t : Fin 4) (R : Fin 1152) (L : Fin 128), R.val < 32 * t.val ∨ 32 * t.val + 1056 ≤ R.val →
    v.read (Elt Ideal) (v.writes (Elt Ideal) f H) (ix2 R ⟨128 * t.val + L.val, by omega⟩) = v.read (Elt Ideal) f (ix2 R ⟨128 * t.val + L.val, by omega⟩)

theorem outside_unit (mm : Fin 9 → FVec Ideal S128x512 .f32) (ct : FVec Ideal S18x128 .f32) (arg16 : Memref sig .tc .vmem S1152x512 .f32)
    (H16 H16' : List (View.Piece (Elt Ideal) S1152x512 .f32)) (h16 : H16 = sPieces mm ct H16')
    (v : View sig .tc .vmem S1152x512 .fp8e4m3) (f : v.ty.Contents (Elt Ideal)) (H17 H17' : List (View.Piece (Elt Ideal) S1152x512 .fp8e4m3))
    (h17 : H17 = pPieces (sRd0 arg16 H16) (sRd arg16 H16) (mLane mm ct) H17') (h : Outside v f H17') : Outside v f H17 := by
  subst h17
  intro t R L hR
  exact (p_out (sRd0 arg16 H16) (sRd arg16 H16) (mLane mm ct) v f H17' t R L hR).trans (h t R L hR)

variable (c : Dev nD) (i : grid0.Coords) (arg2 : Memref sig .tc .vmem S1x256x1024 .bf16) (harg2 : arg2.IsWhole) (arg8 : Memref sig .tc .vmem S1x2x4096x128 .fp8e4m3) (harg8 : arg8.IsWhole) (arg12 : Memref sig .tc .vmem S2x64x128 .f32) (harg12 : arg12.IsWhole) (arg14 : Memref sig .tc .vmem S2x2x512x128 .fp8e4m3) (arg15 : Memref sig .tc .vmem S2x2x8x128 .f32) (arg16 : Memref sig .tc .vmem S1152x512 .f32) (hc2 : k0_cond3 i = 1#1) (x2 : Vec Ideal S1x256x1024 .bf16) (x8 : Vec Ideal S1x2x4096x128 .fp8e4m3) (x12 : Vec Ideal S2x64x128 .f32)
  (v : View sig .tc .vmem S1152x512 .fp8e4m3) (f : v.ty.Contents (Elt Ideal))

theorem out_0 : Outside v f (runC.sl.H17_132 (F := Ideal) c i arg2 harg2 arg8 harg8 arg12 harg12 arg14 arg15 arg16 hc2 x2 x8 x12) :=
  outside_unit _ _ arg16 _ _ (h16_0 c i arg2 harg2 arg8 harg8 arg12 harg12 arg14 arg15 hc2 x2 x8 x12) v f _ [] (h17_0 c i arg2 harg2 arg8 harg8 arg12 harg12 arg14 arg15 arg16 hc2 x2 x8 x12) fun _ _ _ _ => rfl
theorem out_1 : Outside v f (runC.sl.H17_264 (F := Ideal) c i arg2 harg2 arg8 harg8 arg12 harg12 arg14 arg15 arg16 hc2 x2 x8 x12) :=
  outside_unit _ _ arg16 _ _ (h16_1 c i arg2 harg2 arg8 harg8 arg12 harg12 arg14 arg15 hc2 x2 x8 x12) v f _ _ (h17_1 c i arg2 harg2 arg8 harg8 arg12 harg12 arg14 arg15 arg16 hc2 x2 x8 x12)
    (out_0 c i arg2 harg2 arg8 harg8 arg12 harg12 arg14 arg15 arg16 hc2 x2 x8 x12 v f)
theorem out_2 : Outside v f (runC.sl.H17_396 (F := Ideal) c i arg2 harg2 arg8 harg8 arg12 harg12 arg14 arg15 arg16 hc2 x2 x8 x12) :=
  outside_unit _ _ arg16 _ _ (h16_2 c i arg2 harg2 arg8 harg8 arg12 harg12 arg14 arg15 hc2 x2 x8 x12) v f _ _ (h17_2 c i arg2 harg2 arg8 harg8 arg12 harg12 arg14 arg15 arg16 hc2 x2 x8 x12)
    (out_1 c i arg2 harg2 arg8 harg8 arg12 harg12 arg14 arg15 arg16 hc2 x2 x8 x12 v f)
theorem out_3 : Outside v f (runC.sl.H17_528 (F := Ideal) c i arg2 harg2 arg8 harg8 arg12 harg12 arg14 arg15 arg16 hc2 x2 x8 x12) :=
  outside_unit _ _ arg16 _ _ (h16_3 c i arg2 harg2 arg8 harg8 arg12 harg12 arg14 arg15 hc2 x2 x8 x12) v f _ _ (h17_3 c i arg2 harg2 arg8 harg8 arg12 harg12 arg14 arg15 arg16 hc2 x2 x8 x12)
    (out_2 c i arg2 harg2 arg8 harg8 arg12 harg12 arg14 arg15 arg16 hc2 x2 x8 x12 v f)

/-- What each unit's stores add to those before it. -/
theorem unit_hist : ∀ rb n : Fin 2, ∃ H16' H17',
    h16U (F := Ideal) c i arg2 harg2 arg8 harg8 arg12 harg12 arg14 arg15 hc2 x2 x8 x12 rb n
      = sPieces (mmU c i arg2 harg2 arg8 harg8 arg12 harg12 arg14 arg15 hc2 x2 x8 x12 rb n) (ctU c i arg2 harg2 arg8 harg8 arg12 harg12 arg14 arg15 hc2 x2 x8 x12 rb n) H16'
    ∧ h17U (F := Ideal) c i arg2 harg2 arg8 harg8 arg12 harg12 arg14 arg15 arg16 hc2 x2 x8 x12 rb n
      = pPieces (sRd0 arg16 (h16U (F := Ideal) c i arg2 harg2 arg8 harg8 arg12 harg12 arg14 arg15 hc2 x2 x8 x12 rb n)) (sRd arg16 (h16U (F := Ideal) c i arg2 harg2 arg8 harg8 arg12 harg12 arg14 arg15 hc2 x2 x8 x12 rb n))
          (mLane (mmU c i arg2 harg2 arg8 harg8 arg12 harg12 arg14 arg15 hc2 x2 x8 x12 rb n) (ctU c i arg2 harg2 arg8 harg8 arg12 harg12 arg14 arg15 hc2 x2 x8 x12 rb n)) H17'
    ∧ Outside v f H17'
  | ⟨0, _⟩, ⟨0, _⟩ => ⟨_, _, h16_0 c i arg2 harg2 arg8 harg8 arg12 harg12 arg14 arg15 hc2 x2 x8 x12, h17_0 c i arg2 harg2 arg8 harg8 arg12 harg12 arg14 arg15 arg16 hc2 x2 x8 x12, fun _ _ _ _ => rfl⟩
  | ⟨0, _⟩, ⟨1, _⟩ => ⟨_, _, h16_1 c i arg2 harg2 arg8 harg8 arg12 harg12 arg14 arg15 hc2 x2 x8 x12, h17_1 c i arg2 harg2 arg8 harg8 arg12 harg12 arg14 arg15 arg16 hc2 x2 x8 x12,
      out_0 c i arg2 harg2 arg8 harg8 arg12 harg12 arg14 arg15 arg16 hc2 x2 x8 x12 v f⟩
  | ⟨1, _⟩, ⟨0, _⟩ => ⟨_, _, h16_2 c i arg2 harg2 arg8 harg8 arg12 harg12 arg14 arg15 hc2 x2 x8 x12, h17_2 c i arg2 harg2 arg8 harg8 arg12 harg12 arg14 arg15 arg16 hc2 x2 x8 x12,
      out_1 c i arg2 harg2 arg8 harg8 arg12 harg12 arg14 arg15 arg16 hc2 x2 x8 x12 v f⟩
  | ⟨1, _⟩, ⟨1, _⟩ => ⟨_, _, h16_3 c i arg2 harg2 arg8 harg8 arg12 harg12 arg14 arg15 hc2 x2 x8 x12, h17_3 c i arg2 harg2 arg8 harg8 arg12 harg12 arg14 arg15 arg16 hc2 x2 x8 x12,
      out_2 c i arg2 harg2 arg8 harg8 arg12 harg12 arg14 arg15 arg16 hc2 x2 x8 x12 v f⟩

/-- A result of a tile, from the masked scores of its lane. -/
def oVal (x2 : Vec Ideal S1x256x1024 .bf16) (x8 : Vec Ideal S1x2x4096x128 .fp8e4m3) (x12 : Vec Ideal S2x64x128 .f32) (x11 : Vec Ideal S1x2x128 .f32) (x13 : Vec Ideal S2x128x4096 .fp8e4m3) (i : grid0.Coords)
    (rb n : Fin 2) (t : Fin 4) (L d : Fin 128) : EReal :=
  (∑ R : Fin 1152, x13 (ix3 n d (eR i rb R)) * pClip (Ideal.exp2 (uS x2 x8 x12 i rb n t R L - ((⨆ R, uS x2 x8 x12 i rb n t R L) - 8))))
    * Ideal.div 1 (∑ R : Fin 1152, Ideal.exp2 (uS x2 x8 x12 i rb n t R L - ((⨆ R, uS x2 x8 x12 i rb n t R L) - 8))) * x11 (ix3 0 n d)

theorem tileU_apply (arg11 : Memref sig .tc .vmem S1x2x128 .f32) (harg11 : arg11.IsWhole) (arg13 : Memref sig .tc .vmem S2x128x4096 .fp8e4m3) (harg13 : arg13.IsWhole)
    (arg17 : Memref sig .tc .vmem S1152x512 .fp8e4m3) (harg17 : arg17.IsWhole) (x11 : Vec Ideal S1x2x128 .f32) (x13 : Vec Ideal S2x128x4096 .fp8e4m3) (x17 : Vec Ideal S1152x512 .fp8e4m3)
    (h0 : ∀ (t : Fin 4) (R : Fin 1152) (L : Fin 128), R.val < 32 * t.val ∨ 32 * t.val + 1056 ≤ R.val → x17 (ix2 R ⟨128 * t.val + L.val, by omega⟩) = (0 : EReal))
    (rb n : Fin 2) (t : Fin 4) (L d : Fin 128) :
    tileU c i arg2 harg2 arg8 harg8 arg12 harg12 arg14 arg15 arg11 harg11 arg13 harg13 arg16 arg17 harg17 hc2 x2 x8 x12 x11 x13 x17 rb n t (ix2 L d)
      = oVal x2 x8 x12 x11 x13 i rb n t L d := by
  obtain ⟨H16', H17', e16, e17, ho⟩ := unit_hist c i arg2 harg2 arg8 harg8 arg12 harg12 arg14 arg15 arg16 hc2 x2 x8 x12 arg17.view (harg17.unread x17) rb n
  unfold tileU
  rw [e17, e16, oTile_apply, unit_r, vsLd_apply]
  unfold oVal
  have hS : ∀ R, SS (mmU c i arg2 harg2 arg8 harg8 arg12 harg12 arg14 arg15 hc2 x2 x8 x12 rb n) (ctU c i arg2 harg2 arg8 harg8 arg12 harg12 arg14 arg15 hc2 x2 x8 x12 rb n) t R L = uS x2 x8 x12 i rb n t R L :=
    fun R => SS_unit c i arg2 harg2 arg8 harg8 arg12 harg12 arg14 arg15 hc2 x2 x8 x12 rb n t R L
  have hp : ∀ R : Fin 1152, View.readAt (Elt Ideal) arg17.view (Rect.unit (s := S1152x512) ![0, 0] S1152x512.size inb_p).toLoadRect
      (arg17.view.writes (Elt Ideal) (harg17.unread x17) (pPieces (sRd0 arg16 (sPieces (mmU c i arg2 harg2 arg8 harg8 arg12 harg12 arg14 arg15 hc2 x2 x8 x12 rb n) (ctU c i arg2 harg2 arg8 harg8 arg12 harg12 arg14 arg15 hc2 x2 x8 x12 rb n) H16'))
        (sRd arg16 (sPieces (mmU c i arg2 harg2 arg8 harg8 arg12 harg12 arg14 arg15 hc2 x2 x8 x12 rb n) (ctU c i arg2 harg2 arg8 harg8 arg12 harg12 arg14 arg15 hc2 x2 x8 x12 rb n) H16'))
        (mLane (mmU c i arg2 harg2 arg8 harg8 arg12 harg12 arg14 arg15 hc2 x2 x8 x12 rb n) (ctU c i arg2 harg2 arg8 harg8 arg12 harg12 arg14 arg15 hc2 x2 x8 x12 rb n)) H17'))
      (ix2 R ⟨128 * t.val + L.val, by omega⟩) = pClip (Ideal.exp2 (uS x2 x8 x12 i rb n t R L - ((⨆ R, uS x2 x8 x12 i rb n t R L) - 8))) := by
    intro R
    have he : (Rect.unit (s := S1152x512) ![0, 0] S1152x512.size inb_p).emb (ix2 R ⟨128 * t.val + L.val, by omega⟩ : S1152x512.Idx) = ix2 R ⟨128 * t.val + L.val, by omega⟩ := by
      funext a
      apply Fin.ext
      rw [unit_emb]
      match a with
      | ⟨0, _⟩ => exact Nat.zero_add _
      | ⟨1, _⟩ => exact Nat.zero_add _
    refine (congrArg (arg17.view.read (Elt Ideal) _) he).trans ?_
    rw [unit_p _ _ arg16 H16' arg17.view _ H17' t R L ?_]
    · simp only [hS]
    · intro hR
      rw [ho t R L hR, Memref.IsWhole.read_unread]
      exact h0 t R L hR
  simp only [hS, hp, vLd_apply]

end Cert.KernelIdeal.Hand

end
-- ==== Proof.Ideal.Spec.lean ====
module

public import proofs.«01_k».proof.Proof.Ideal.KPoint
public import proofs.«01_k».proof.Proof.Ideal.OTile

/-! What each point leaves in the buffers of the results and in the scratch that is carried, as functions of the
arrays of the arguments. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The largest magnitude of one head in one block of 128 query rows, over the largest code. -/
def Qs (X : FVec Ideal S9x4096x1024 .bf16) (b : Fin 9) (n : Fin 32) (h : Fin 8) : EReal :=
  (⨆ r : Fin 128, ⨆ d : Fin 128, eabs (X (ix3 b ⟨128 * n + r, by omega⟩ ⟨128 * h + d, by omega⟩))) * Ideal.ofBits .f32 0x3B124925#32

/-- The codes of the queries. -/
def Qc (X : FVec Ideal S9x4096x1024 .bf16) (b : Fin 9) (R : Fin 4096) (h : Fin 8) (d : Fin 128) : EReal :=
  clip (X (ix3 b R ⟨128 * h + d, by omega⟩)) (Pow2.inv (Qs X b ⟨R / 128, by omega⟩ h))

/-- The largest magnitude of a column of the values, over the largest code. -/
def Vs (X : FVec Ideal S9x4096x256 .bf16) (b : Fin 9) (n : Fin 2) (d : Fin 128) : EReal :=
  (⨆ r : Fin 4096, eabs (X (ix3 b r (col n d)))) * Ideal.ofBits .f32 0x3B124925#32

/-- The codes of the values. -/
def Vc (X : FVec Ideal S9x4096x256 .bf16) (b : Fin 9) (n : Fin 2) (r : Fin 4096) (d : Fin 128) : EReal :=
  clip (X (ix3 b r (col n d))) (Pow2.inv (Vs X b n d))

/-- The keys less the mean of their column. -/
def Kd (X : FVec Ideal S9x4096x256 .bf16) (b : Fin 9) (r : Fin 4096) (e : Fin 256) : EReal :=
  X (ix3 b r e) - (∑ r : Fin 4096, X (ix3 b r e)) * Ideal.ofBits .f32 0x39800000#32

/-- The largest magnitude of one head in one block of 64 rows of these, over the largest code. -/
def Ks (X : FVec Ideal S9x4096x256 .bf16) (b : Fin 9) (n : Fin 2) (g : Fin 64) : EReal :=
  (⨆ r : Fin 64, ⨆ d : Fin 128, eabs (Kd X b ⟨64 * g + r, by omega⟩ (col n d))) * Ideal.ofBits .f32 0x3B124925#32

/-- The codes of the keys. -/
def Kc (X : FVec Ideal S9x4096x256 .bf16) (b : Fin 9) (n : Fin 2) (r : Fin 4096) (d : Fin 128) : EReal :=
  clip (Kd X b r (col n d)) (Pow2.inv (Ks X b n ⟨r / 64, by omega⟩))

/-- The row of the keys a row of the window of a query is: the window begins 1024 rows before the query's block of 128. -/
def wR (q : Fin 4096) (R : Fin 1152) : Fin 4096 := ⟨128 * (q.val / 128) - 1024 + R.val, by omega⟩

/-- The masked score of a window row for a query, in the units of the base-two logarithm. -/
def Os (X : FVec Ideal S9x4096x1024 .bf16) (K : FVec Ideal S9x4096x256 .bf16) (b : Fin 9) (n : Fin 2) (q : Fin 4096) (g : Fin 4) (R : Fin 1152) : EReal :=
  if q.val % 128 + 24 < R.val ∧ R.val ≤ q.val % 128 + 1024 then
    (∑ d : Fin 128, Kc K b n (wR q R) d * Qc X b q ⟨4 * n.val + g.val, by omega⟩ d)
      * (Pow2.scale (Ks K b n ⟨(wR q R).val / 64, by omega⟩) * (Pow2.scale (Qs X b ⟨q.val / 128, by omega⟩ ⟨4 * n.val + g.val, by omega⟩) * kap))
  else ⊥

/-- The result for a query of the rows from 1024 on. -/
def Ov (X : FVec Ideal S9x4096x1024 .bf16) (K W : FVec Ideal S9x4096x256 .bf16) (b : Fin 9) (n : Fin 2) (q : Fin 4096) (g : Fin 4) (d : Fin 128) : EReal :=
  (∑ R : Fin 1152, Vc W b n (wR q R) d * pClip (Ideal.exp2 (Os X K b n q g R - ((⨆ R, Os X K b n q g R) - 8))))
    * Ideal.div 1 (∑ R : Fin 1152, Ideal.exp2 (Os X K b n q g R - ((⨆ R, Os X K b n q g R) - 8))) * Pow2.scale (Vs W b n d)

/-- The arguments, on a device. -/
abbrev argX (c : Dev nD) : FVec Ideal S9x4096x1024 .bf16 := m ((c : Thread nD τ).loc main_arg0)
abbrev argK (c : Dev nD) : FVec Ideal S9x4096x256 .bf16 := m ((c : Thread nD τ).loc main_arg1)
abbrev argV (c : Dev nD) : FVec Ideal S9x4096x256 .bf16 := m ((c : Thread nD τ).loc main_arg2)

theorem tlt (t : Fin cfg0.N) : t.val < 144 := Nat.lt_of_lt_of_eq t.isLt N_0

/-- The batch entry of a point. -/
def tb (t : Fin cfg0.N) : Fin 9 := ⟨t.val / 16, by have := tlt t; omega⟩

def R3 (m : (ℓ : Loc nD τ sig) → Buf (Elt Ideal) ℓ) (c : Dev nD) (t : Fin cfg0.N) (X : Vec Ideal S1x256x1024 .bf16) : Prop :=
  4 ≤ t.val % 16 → ∀ (R : Fin 256) (n : Fin 2) (g : Fin 4) (d : Fin 128),
    X (ix3 0 R ⟨512 * n.val + 128 * g.val + d.val, by omega⟩) = Ov (argX m c) (argK m c) (argV m c) (tb t) n ⟨256 * (t.val % 16) + R, by omega⟩ g d
def R4 (m : (ℓ : Loc nD τ sig) → Buf (Elt Ideal) ℓ) (c : Dev nD) (t : Fin cfg0.N) (X : Vec Ideal S1x256x8x128 .fp8e4m3) : Prop :=
  ∀ (R : Fin 256) (h : Fin 8) (d : Fin 128), X (ix4 0 R h d) = Qc (argX m c) (tb t) ⟨256 * (t.val % 16) + R, by omega⟩ h d
def R5 (m : (ℓ : Loc nD τ sig) → Buf (Elt Ideal) ℓ) (c : Dev nD) (t : Fin cfg0.N) (X : Vec Ideal S1x8x32 .f32) : Prop :=
  ∀ (h : Fin 8) (n : Fin 32), n.val < 2 * (t.val % 16 + 1) → X (ix3 0 h n) = Pow2.scale (Qs (argX m c) (tb t) n h)
def R6 (m : (ℓ : Loc nD τ sig) → Buf (Elt Ideal) ℓ) (c : Dev nD) (t : Fin cfg0.N) (X : Vec Ideal S1x2x4096x128 .fp8e4m3) : Prop :=
  X = fun y : S1x2x4096x128.Idx => Kc (argK m c) (tb t) (y 1) (y 2) (y 3)
def R7 (m : (ℓ : Loc nD τ sig) → Buf (Elt Ideal) ℓ) (c : Dev nD) (t : Fin cfg0.N) (X : Vec Ideal S1x2x64 .f32) : Prop :=
  X = fun y : S1x2x64.Idx => Pow2.scale (Ks (argK m c) (tb t) (y 1) (y 2))
def R8 (m : (ℓ : Loc nD τ sig) → Buf (Elt Ideal) ℓ) (c : Dev nD) (t : Fin cfg0.N) (X : Vec Ideal S1x2x4096x128 .fp8e4m3) : Prop :=
  X = fun y : S1x2x4096x128.Idx => Vc (argV m c) (tb t) (y 1) (y 2) (y 3)
def R9 (m : (ℓ : Loc nD τ sig) → Buf (Elt Ideal) ℓ) (c : Dev nD) (t : Fin cfg0.N) (X : Vec Ideal S1x2x128 .f32) : Prop :=
  X = fun y : S1x2x128.Idx => Pow2.scale (Vs (argV m c) (tb t) (y 1) (y 2))

def S0 (m : (ℓ : Loc nD τ sig) → Buf (Elt Ideal) ℓ) (c : Dev nD) (n : ℕ) (X : Vec Ideal S2x64x128 .f32) : Prop :=
  ∀ b : Fin 9, b.val = n / 16 → n % 16 ≠ 0 → X = fun y : S2x64x128.Idx => Pow2.scale (Ks (argK m c) b (y 0) (y 1))
def S1 (m : (ℓ : Loc nD τ sig) → Buf (Elt Ideal) ℓ) (c : Dev nD) (n : ℕ) (X : Vec Ideal S2x128x4096 .fp8e4m3) : Prop :=
  ∀ b : Fin 9, b.val = n / 16 → n % 16 ≠ 0 → X = fun y : S2x128x4096.Idx => Vc (argV m c) b (y 0) (y 2) (y 1)
def S5 (m : (ℓ : Loc nD τ sig) → Buf (Elt Ideal) ℓ) (c : Dev nD) (n : ℕ) (X : Vec Ideal S1152x512 .fp8e4m3) : Prop :=
  n % 16 ≠ 0 → ∀ (t : Fin 4) (R : Fin 1152) (L : Fin 128), R.val < 32 * t.val ∨ 32 * t.val + 1056 ≤ R.val → X (ix2 R ⟨128 * t.val + L.val, by omega⟩) = (0 : EReal)

theorem S0_zero (c : Dev nD) (X) : S0 m c 0 X := fun _ _ h => absurd rfl h
theorem S1_zero (c : Dev nD) (X) : S1 m c 0 X := fun _ _ h => absurd rfl h
theorem S5_zero (c : Dev nD) (X) : S5 m c 0 X := fun h => absurd rfl h

/-! The queries' block at a point. -/

theorem idxX : ∀ t : Fin cfg0.N, win0_0.index t = ![t.val / 16, t.val % 16, 0] := by decide +kernel

theorem coord0 (t : Fin cfg0.N) : (grid0.coords t 0).val = t.val / 16 := by
  have ht := tlt t
  have e0 : (grid0.coords t 0).val = t.val / 16 % 9 := Pipeline.Grid.coords_val t 0 (by decide) rfl
  omega

theorem coord1 (t : Fin cfg0.N) : (grid0.coords t 1).val = t.val % 16 := by
  have e1 : (grid0.coords t 1).val = t.val / 1 % 16 := Pipeline.Grid.coords_val t 1 (by decide) rfl
  omega

theorem iblk0_apply (c : Dev nD) (t : Fin cfg0.N) (R : Fin 256) (e : Fin 1024) :
    (iblk m c 0 t : Vec Ideal S1x256x1024 .bf16) (ix3 0 R e) = argX m c (ix3 (tb t) ⟨256 * (t.val % 16) + R, by omega⟩ e) := by
  unfold argX tb
  blk_ext [iblk, V, idxX]

theorem qYb_iblk (c : Dev nD) (t : Fin cfg0.N) (rb : Fin 2) (h : Fin 8) :
    qYb (iblk m c 0 t) rb h = Qs (argX m c) (tb t) ⟨2 * (t.val % 16) + rb, by omega⟩ h := by
  unfold qYb Qs
  simp only [iblk0_apply]
  congr 1
  refine iSup_congr fun r => iSup_congr fun d => ?_
  congr 2
  ext a
  fin_cases a <;> simp [ix3] <;> omega

theorem qG_iblk (c : Dev nD) (t : Fin cfg0.N) (R : Fin 256) (h : Fin 8) (d : Fin 128) :
    qG (iblk m c 0 t) (ix4 0 R h d) = Qc (argX m c) (tb t) ⟨256 * (t.val % 16) + R, by omega⟩ h d := by
  show qGat (iblk m c 0 t) R h d = _
  unfold qGat Qc
  rw [qYb_iblk, iblk0_apply]
  congr 3
  apply Fin.ext
  simp only
  omega

/-! A result at a point. -/

theorem eR_wR (t : Fin cfg0.N) (rb : Fin 2) (s : Fin 4) (L : Fin 128) (R : Fin 1152) (h4 : 4 ≤ t.val % 16) :
    eR (grid0.coords t) rb R = wR ⟨256 * (t.val % 16) + (qR rb s L).val, by omega⟩ R := by
  have e := coord1 t
  apply Fin.ext
  show 256 * (grid0.coords t 1).val + 128 * rb.val - 1024 + R.val = 128 * ((256 * (t.val % 16) + (128 * rb.val + (32 * s.val + L.val % 32))) / 128) - 1024 + R.val
  rw [e]
  omega

theorem uS_spec (c : Dev nD) (t : Fin cfg0.N) (h4 : 4 ≤ t.val % 16) (x8 : Vec Ideal S1x2x4096x128 .fp8e4m3) (h8 : x8 = fun y : S1x2x4096x128.Idx => Kc (argK m c) (tb t) (y 1) (y 2) (y 3))
    (x12 : Vec Ideal S2x64x128 .f32) (h12 : x12 = fun y : S2x64x128.Idx => Pow2.scale (Ks (argK m c) (tb t) (y 0) (y 1))) (rb n : Fin 2) (s : Fin 4) (R : Fin 1152) (L : Fin 128) :
    uS (iblk m c 0 t) x8 x12 (grid0.coords t) rb n s R L
      = Os (argX m c) (argK m c) (tb t) n ⟨256 * (t.val % 16) + (qR rb s L).val, by omega⟩ ⟨L.val / 32, by omega⟩ R := by
  subst h8 h12
  have eq : (256 * (t.val % 16) + (qR rb s L).val) % 128 = 32 * s.val + L.val % 32 := by
    show (256 * (t.val % 16) + (128 * rb.val + (32 * s.val + L.val % 32))) % 128 = _
    omega
  have ew := eR_wR t rb s L R h4
  have eb : eB (grid0.coords t) rb R = ⟨(wR ⟨256 * (t.val % 16) + (qR rb s L).val, by omega⟩ R).val / 64, by omega⟩ := Fin.ext (congrArg (fun z : Fin 4096 => z.val / 64) ew)
  have en : (⟨2 * (t.val % 16) + rb.val, by omega⟩ : Fin 32) = ⟨(256 * (t.val % 16) + (qR rb s L).val) / 128, by omega⟩ := Fin.ext (by
    show 2 * (t.val % 16) + rb.val = (256 * (t.val % 16) + (128 * rb.val + (32 * s.val + L.val % 32))) / 128
    omega)
  unfold uS Os
  refine if_congr ?_ ?_ rfl
  · show _ ↔ (256 * (t.val % 16) + (qR rb s L).val) % 128 + 24 < R.val ∧ R.val ≤ (256 * (t.val % 16) + (qR rb s L).val) % 128 + 1024
    rw [eq]
    omega
  refine congrArg₂ (· * ·) (Finset.sum_congr rfl fun d _ => congrArg₂ (· * ·) ?_ (qG_iblk m c t (qR rb s L) (qH n L) d)) (congrArg₂ (· * ·) ?_ (congrArg (· * kap) (congrArg Pow2.scale ?_)))
  · exact congrArg (fun z => Kc (argK m c) (tb t) n z d) ew
  · exact congrArg (fun z => Pow2.scale (Ks (argK m c) (tb t) n z)) eb
  · exact (qYb_iblk m c t rb (qH n L)).trans (congrArg (fun z => Qs (argX m c) (tb t) z (qH n L)) en)

theorem oVal_spec (c : Dev nD) (t : Fin cfg0.N) (h4 : 4 ≤ t.val % 16) (x8 : Vec Ideal S1x2x4096x128 .fp8e4m3) (h8 : x8 = fun y : S1x2x4096x128.Idx => Kc (argK m c) (tb t) (y 1) (y 2) (y 3))
    (x12 : Vec Ideal S2x64x128 .f32) (h12 : x12 = fun y : S2x64x128.Idx => Pow2.scale (Ks (argK m c) (tb t) (y 0) (y 1)))
    (x11 : Vec Ideal S1x2x128 .f32) (h11 : x11 = fun y : S1x2x128.Idx => Pow2.scale (Vs (argV m c) (tb t) (y 1) (y 2)))
    (x13 : Vec Ideal S2x128x4096 .fp8e4m3) (h13 : x13 = fun y : S2x128x4096.Idx => Vc (argV m c) (tb t) (y 0) (y 2) (y 1)) (rb n : Fin 2) (s : Fin 4) (L d : Fin 128) :
    oVal (iblk m c 0 t) x8 x12 x11 x13 (grid0.coords t) rb n s L d
      = Ov (argX m c) (argK m c) (argV m c) (tb t) n ⟨256 * (t.val % 16) + (qR rb s L).val, by omega⟩ ⟨L.val / 32, by omega⟩ d := by
  have hS := fun R => uS_spec m c t h4 x8 h8 x12 h12 rb n s R L
  have hV : ∀ R, x13 (ix3 n d (eR (grid0.coords t) rb R)) = Vc (argV m c) (tb t) n (wR ⟨256 * (t.val % 16) + (qR rb s L).val, by omega⟩ R) d := by
    intro R
    subst h13
    exact congrArg (fun z => Vc (argV m c) (tb t) n z d) (eR_wR t rb s L R h4)
  have hW : x11 (ix3 0 n d) = Pow2.scale (Vs (argV m c) (tb t) n d) := by subst h11; rfl
  unfold oVal Ov
  simp only [hS, hV, hW]

/-! The keys' and the values' blocks at a point. -/

theorem idxK : ∀ t : Fin cfg0.N, win0_1.index t = ![t.val / 16, 0, 0] := by decide +kernel
theorem idxV : ∀ t : Fin cfg0.N, win0_2.index t = ![t.val / 16, 0, 0] := by decide +kernel

theorem iblk1_apply (c : Dev nD) (t : Fin cfg0.N) (R : Fin 4096) (e : Fin 256) :
    (iblk m c 1 t : Vec Ideal S1x4096x256 .bf16) (ix3 0 R e) = argK m c (ix3 (tb t) R e) := by
  unfold argK tb
  blk_ext [iblk, V, idxK]

theorem iblk2_apply (c : Dev nD) (t : Fin cfg0.N) (R : Fin 4096) (e : Fin 256) :
    (iblk m c 2 t : Vec Ideal S1x4096x256 .bf16) (ix3 0 R e) = argV m c (ix3 (tb t) R e) := by
  unfold argV tb
  blk_ext [iblk, V, idxV]

theorem vYb_iblk (c : Dev nD) (t : Fin cfg0.N) (n : Fin 2) (d : Fin 128) : vYb (iblk m c 2 t) (col n d) = Vs (argV m c) (tb t) n d := by
  unfold vYb Vs
  simp only [iblk2_apply]

theorem vGat_iblk (c : Dev nD) (t : Fin cfg0.N) (n : Fin 2) (r : Fin 4096) (d : Fin 128) : vGat (iblk m c 2 t) n r d = Vc (argV m c) (tb t) n r d := by
  unfold vGat Vc
  rw [iblk2_apply, vYb_iblk]

theorem kDb_iblk (c : Dev nD) (t : Fin cfg0.N) (r : Fin 4096) (e : Fin 256) : kDb (iblk m c 1 t) r e = Kd (argK m c) (tb t) r e := by
  unfold kDb kMb Kd
  simp only [iblk1_apply]

theorem kYb_iblk (c : Dev nD) (t : Fin cfg0.N) (n : Fin 2) (g : Fin 64) : kYb (iblk m c 1 t) n g = Ks (argK m c) (tb t) n g := by
  unfold kYb Ks
  simp only [kDb_iblk]

theorem kGat_iblk (c : Dev nD) (t : Fin cfg0.N) (n : Fin 2) (r : Fin 4096) (d : Fin 128) : kGat (iblk m c 1 t) n r d = Kc (argK m c) (tb t) n r d := by
  unfold kGat Kc
  rw [kDb_iblk, kYb_iblk]

/-- Inside a batch entry the point before is of the same entry. -/
theorem tb_prev (t : Fin cfg0.N) (h0 : ¬ t.val % 16 = 0) : tb ⟨t.val - 1, Nat.lt_of_le_of_lt (Nat.sub_le _ _) t.isLt⟩ = tb t := by
  have ht := tlt t
  apply Fin.ext
  simp only [tb]
  omega

theorem tb_of (t : Fin cfg0.N) (b : Fin 9) (hb : b.val = (t.val + 1) / 16) (hn : (t.val + 1) % 16 ≠ 0) : tb t = b := by
  apply Fin.ext
  simp only [tb]
  omega

end Cert.KernelIdeal.Hand

end
-- ==== Proof.Ideal.RunA.lean ====
module

public import proofs.«01_k».proof.Proof.Gen.KernelIdeal.Loops
public import proofs.«01_k».proof.Proof.Gen.KernelIdeal.Frame

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 400000000 in
/-- The step at block 0 of a batch: it clears the query scales and the code buffer, quantises keys and values in two loops, then quantises its own two query blocks.
    The lists are the stores it makes, last first, buffer by buffer; the run is proved beside them. -/
@[irreducible] def runA (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
      Σ' (L6 : List (View.Piece (Elt F) S1x256x8x128 .fp8e4m3)) (L7 : List (View.Piece (Elt F) S1x8x32 .f32)) (L8 : List (View.Piece (Elt F) S1x2x4096x128 .fp8e4m3)) (L9 : List (View.Piece (Elt F) S1x2x64 .f32)) (L10 : List (View.Piece (Elt F) S1x2x4096x128 .fp8e4m3)) (L11 : List (View.Piece (Elt F) S1x2x128 .f32)) (L12 : List (View.Piece (Elt F) S2x64x128 .f32)) (L13 : List (View.Piece (Elt F) S2x128x4096 .fp8e4m3)), { L17 : List (View.Piece (Elt F) S1152x512 .fp8e4m3) // ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ f, (arg6.view.loc (c : Thread nD τ) ↦[arg6.view.set]{fullShare} (arg6.view.writes (Elt F) f L6))) ∗ (∃ f, (arg7.view.loc (c : Thread nD τ) ↦[arg7.view.set]{fullShare} (arg7.view.writes (Elt F) f L7))) ∗ (∃ f, (arg8.view.loc (c : Thread nD τ) ↦[arg8.view.set]{fullShare} (arg8.view.writes (Elt F) f L8))) ∗ (∃ f, (arg9.view.loc (c : Thread nD τ) ↦[arg9.view.set]{fullShare} (arg9.view.writes (Elt F) f L9))) ∗ (∃ f, (arg10.view.loc (c : Thread nD τ) ↦[arg10.view.set]{fullShare} (arg10.view.writes (Elt F) f L10))) ∗ (∃ f, (arg11.view.loc (c : Thread nD τ) ↦[arg11.view.set]{fullShare} (arg11.view.writes (Elt F) f L11))) ∗ (arg12.view.loc (c : Thread nD τ) ↦[arg12.view.set]{fullShare} (arg12.view.writes (Elt F) (harg12.unread x12) L12)) ∗ (∃ f, (arg13.view.loc (c : Thread nD τ) ↦[arg13.view.set]{fullShare} (arg13.view.writes (Elt F) f L13))) ∗ (∃ d, owns (c : Thread nD τ) arg14 fullShare d) ∗ (∃ d, owns (c : Thread nD τ) arg15 fullShare d) ∗ (∃ d, owns (c : Thread nD τ) arg16 fullShare d) ∗ (∃ f, (arg17.view.loc (c : Thread nD τ) ↦[arg17.view.set]{fullShare} (arg17.view.writes (Elt F) f L17)))) -∗ K ⟨⟩))
          ⊢ wp frame (wpE (defs₀ (F := F)) Variants.none c none) E (cc0_sage_fp8_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    unfold cc0_sage_fp8_window_attention
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg12.eq_unread hf12
    sl_exec (disch := first | sl_exact hc0 | sl_exact hc1 | sl_exact hc2)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _, _; isplitr; swap; · iexact H5
      ipureintro; rfl
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexact H12
    isplitl [H13]
    · iexists _; iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _; iexact H17

end Cert.KernelIdeal.Hand

end
-- ==== Proof.Ideal.RunB.lean ====
module

public import proofs.«01_k».proof.Proof.Gen.KernelIdeal.Loops
public import proofs.«01_k».proof.Proof.Gen.KernelIdeal.Frame

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 400000000 in
/-- A step before the window is full: it only quantises its two query blocks.
    The lists are the stores it makes, last first, buffer by buffer; the run is proved beside them. -/
@[irreducible] def runB (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : k0_cond2 i = 1#1) (hc2 : ¬ k0_cond3 i = 1#1)
    (x2 : Vec F S1x256x1024 .bf16) (x7 : Vec F S1x8x32 .f32) :
      Σ' (L6 : List (View.Piece (Elt F) S1x256x8x128 .fp8e4m3)), { L7 : List (View.Piece (Elt F) S1x8x32 .f32) // ∀ (E : Set ℕ) (K : PUnit → sProp 𝕄),
        iprop(owns (c : Thread nD τ) arg2 fullShare x2 ∗ (∃ d, owns (c : Thread nD τ) arg6 fullShare d) ∗ owns (c : Thread nD τ) arg7 fullShare x7 ∗ (∃ d, owns (c : Thread nD τ) arg14 fullShare d) ∗ (∃ d, owns (c : Thread nD τ) arg15 fullShare d)
            ∗ (iprop(owns (c : Thread nD τ) arg2 fullShare x2 ∗ (∃ f, (arg6.view.loc (c : Thread nD τ) ↦[arg6.view.set]{fullShare} (arg6.view.writes (Elt F) f L6))) ∗ (arg7.view.loc (c : Thread nD τ) ↦[arg7.view.set]{fullShare} (arg7.view.writes (Elt F) (harg7.unread x7) L7)) ∗ (∃ d, owns (c : Thread nD τ) arg14 fullShare d) ∗ (∃ d, owns (c : Thread nD τ) arg15 fullShare d)) -∗ K ⟨⟩))
          ⊢ wp frame (wpE (defs₀ (F := F)) Variants.none c none) E (cc0_sage_fp8_window_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    unfold cc0_sage_fp8_window_attention
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton]
    unfold owns
    iintro ⟨⟨%f2, %hf2, H2⟩, ⟨%d6, %f6, -, H6⟩, ⟨%f7, %hf7, H7⟩, ⟨%d14, %f14, -, H14⟩, ⟨%d15, %f15, -, H15⟩, Hk⟩
    obtain rfl := harg2.eq_unread hf2; obtain rfl := harg7.eq_unread hf7
    sl_exec (disch := first | sl_exact hc0 | sl_exact hc1 | sl_exact hc2)
    sl_step
    iapply Hk
    isplitl [H2]
    · iexists _; isplitr; swap; · iexact H2
      ipureintro; exact harg2.read_unread _
    isplitl [H6]
    · iexists _; iexact H6
    isplitl [H7]
    · iexact H7
    isplitl [H14]
    · iexists _, _; isplitr; swap; · iexact H14
      ipureintro; rfl
    iexists _, _; isplitr; swap; · iexact H15
    ipureintro; rfl

end Cert.KernelIdeal.Hand

end
-- ==== Proof.Ideal.QRun.lean ====
module

public import proofs.«01_k».proof.Proof.Ideal.RunA
public import proofs.«01_k».proof.Proof.Ideal.RunB
public import proofs.«01_k».proof.Proof.Ideal.RunC
public import proofs.«01_k».proof.Proof.Ideal.QGen

/-! What each kind of point stores of the queries' codes and scales. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]
set_option maxHeartbeats 4000000

/-- The codes stored at a point of kind A. -/
theorem runA_codes (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).1 = [qPiece (qLoad arg2 harg2 x2) 1 1, qPiece (qLoad arg2 harg2 x2) 1 0, qPiece (qLoad arg2 harg2 x2) 0 1, qPiece (qLoad arg2 harg2 x2) 0 0] := by
  unfold runA
  rfl

/-- The scales stored at a point of kind A. -/
theorem runA_scales (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.1 = qsPieces arg7 i (qLoad arg2 harg2 x2) (arg7.view.readCov [qsZero] (Rect.unit (s := S1x8x32) ![0, 0, 0] S1x8x32.size inb_qs).toLoadRect) [qsZero] := by
  unfold runA
  rfl

/-- The codes stored at a point of kind B. -/
theorem runB_codes (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : k0_cond2 i = 1#1) (hc2 : ¬ k0_cond3 i = 1#1)
    (x2 : Vec F S1x256x1024 .bf16) (x7 : Vec F S1x8x32 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x7).1 = [qPiece (qLoad arg2 harg2 x2) 1 1, qPiece (qLoad arg2 harg2 x2) 1 0, qPiece (qLoad arg2 harg2 x2) 0 1, qPiece (qLoad arg2 harg2 x2) 0 0] := by
  unfold runB
  rfl

/-- The scales stored at a point of kind B. -/
theorem runB_scales (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : k0_cond2 i = 1#1) (hc2 : ¬ k0_cond3 i = 1#1)
    (x2 : Vec F S1x256x1024 .bf16) (x7 : Vec F S1x8x32 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x7).2.1 = qsPieces arg7 i (qLoad arg2 harg2 x2) (View.readAt (Elt F) arg7.view (Rect.unit (s := S1x8x32) ![0, 0, 0] S1x8x32.size inb_qs).toLoadRect (harg7.unread x7)) [] := by
  unfold runB
  rfl

/-- The codes stored at a point of kind C. -/
theorem runC_codes (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : ¬ k0_cond2 i = 1#1) (hc2 : k0_cond3 i = 1#1)
    (x2 : Vec F S1x256x1024 .bf16) (x7 : Vec F S1x8x32 .f32) (x8 : Vec F S1x2x4096x128 .fp8e4m3) (x11 : Vec F S1x2x128 .f32) (x12 : Vec F S2x64x128 .f32) (x13 : Vec F S2x128x4096 .fp8e4m3) (x17 : Vec F S1152x512 .fp8e4m3) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x7 x8 x11 x12 x13 x17).2.1 = [qPiece (qLoad arg2 harg2 x2) 1 1, qPiece (qLoad arg2 harg2 x2) 1 0, qPiece (qLoad arg2 harg2 x2) 0 1, qPiece (qLoad arg2 harg2 x2) 0 0] := by
  unfold runC
  rfl

/-- The scales stored at a point of kind C. -/
theorem runC_scales (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : ¬ k0_cond1 i = 1#1) (hc1 : ¬ k0_cond2 i = 1#1) (hc2 : k0_cond3 i = 1#1)
    (x2 : Vec F S1x256x1024 .bf16) (x7 : Vec F S1x8x32 .f32) (x8 : Vec F S1x2x4096x128 .fp8e4m3) (x11 : Vec F S1x2x128 .f32) (x12 : Vec F S2x64x128 .f32) (x13 : Vec F S2x128x4096 .fp8e4m3) (x17 : Vec F S1152x512 .fp8e4m3) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x7 x8 x11 x12 x13 x17).2.2.1 = qsPieces arg7 i (qLoad arg2 harg2 x2) (View.readAt (Elt F) arg7.view (Rect.unit (s := S1x8x32) ![0, 0, 0] S1x8x32.size inb_qs).toLoadRect (harg7.unread x7)) [] := by
  unfold runC
  rfl

end Cert.KernelIdeal.Hand

end
-- ==== Proof.Ideal.KRun.lean ====
module

public import proofs.«01_k».proof.Proof.Ideal.RunA
public import proofs.«01_k».proof.Proof.Ideal.KGen

/-! What the first point of a batch entry stores of the keys and of the values. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]
set_option maxHeartbeats 4000000

/-- A trip of the first loop. -/
theorem trip1 (𝒱 : Variants) (c : Dev nD) (bd : Option 𝒱.V) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole) (k0_h1 : k0_cond1 i = 1#1) (X_arg3 : BufTy.Contents (Elt F) arg3.view.ty) (X_arg4 : BufTy.Contents (Elt F) arg4.view.ty) (k : Fin k0_t1_loop.trips) (acc : FVec F S8x256 .f32 × FVec F S16x256 .bf16) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg3 X_arg4 k).1 acc = (k0_pay57 acc.1 (kvLoad1 arg3 X_arg3 k), k0_pay58 acc.2 (kvLoad1 arg4 X_arg4 k)) := by
  unfold trip_k0_t1
  rfl

/-- What the first loop carries. -/
theorem acc1 (𝒱 : Variants) (c : Dev nD) (bd : Option 𝒱.V) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole) (k0_h1 : k0_cond1 i = 1#1) (X_arg3 : BufTy.Contents (Elt F) arg3.view.ty) (X_arg4 : BufTy.Contents (Elt F) arg4.view.ty) (n : ℕ) :
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg3 X_arg4 (k0_pay55, k0_pay56) n = kvAcc arg3 arg4 X_arg3 X_arg4 n := by
  induction n with
  | zero => rfl
  | succ n ih =>
    by_cases h : n < k0_t1_loop.trips
    · have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg3 X_arg4 (k0_pay55, k0_pay56) ⟨n, h⟩
      rw [e, ih]
      unfold tripR_k0_t1
      rw [trip1]
      conv_rhs => unfold kvAcc
      rw [dif_pos h]
    · rw [st_k0_t1.eq_2]
      unfold st_k0_t1Step
      rw [dif_neg h, ih]
      conv_rhs => unfold kvAcc
      rw [dif_neg h]

/-- A trip of the second loop. -/
theorem trip2 (𝒱 : Variants) (c : Dev nD) (bd : Option 𝒱.V) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole) (k0_h1 : k0_cond1 i = 1#1) (v22 : FVec F S1x256 .f32) (v27 : FVec F S1x256 .f32) (v82 : IVec S1x256 32) (v88 : IVec S1x256 1) (X_arg3 : BufTy.Contents (Elt F) arg3.view.ty) (X_arg4 : BufTy.Contents (Elt F) arg4.view.ty) (k : Fin k0_t2_loop.trips) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v22 v27 v82 v88 X_arg3 X_arg4 k).1 = [kcPiece v22 (kvLoad arg3 X_arg3 · k) k 1 7, kcPiece v22 (kvLoad arg3 X_arg3 · k) k 1 6, kcPiece v22 (kvLoad arg3 X_arg3 · k) k 1 5, kcPiece v22 (kvLoad arg3 X_arg3 · k) k 1 4, kcPiece v22 (kvLoad arg3 X_arg3 · k) k 1 3, kcPiece v22 (kvLoad arg3 X_arg3 · k) k 1 2, kcPiece v22 (kvLoad arg3 X_arg3 · k) k 1 1, kcPiece v22 (kvLoad arg3 X_arg3 · k) k 1 0, kcPiece v22 (kvLoad arg3 X_arg3 · k) k 0 7, kcPiece v22 (kvLoad arg3 X_arg3 · k) k 0 6, kcPiece v22 (kvLoad arg3 X_arg3 · k) k 0 5, kcPiece v22 (kvLoad arg3 X_arg3 · k) k 0 4, kcPiece v22 (kvLoad arg3 X_arg3 · k) k 0 3, kcPiece v22 (kvLoad arg3 X_arg3 · k) k 0 2, kcPiece v22 (kvLoad arg3 X_arg3 · k) k 0 1, kcPiece v22 (kvLoad arg3 X_arg3 · k) k 0 0]
    ∧ (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v22 v27 v82 v88 X_arg3 X_arg4 k).2.1 = [vcPiece (k0_pay69 v27 v82 v88) (kvLoad arg4 X_arg4 · k) k 1, vcPiece (k0_pay69 v27 v82 v88) (kvLoad arg4 X_arg4 · k) k 0]
    ∧ (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v22 v27 v82 v88 X_arg3 X_arg4 k).2.2.1 = [ksPiece v22 (kvLoad arg3 X_arg3 · k) k 1, ksPiece v22 (kvLoad arg3 X_arg3 · k) k 0]
    ∧ (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v22 v27 v82 v88 X_arg3 X_arg4 k).2.2.2.1 = [vtPiece (k0_pay69 v27 v82 v88) (kvLoad arg4 X_arg4 · k) k 1, vtPiece (k0_pay69 v27 v82 v88) (kvLoad arg4 X_arg4 · k) k 0] := by
  unfold trip_k0_t2
  exact ⟨rfl, rfl, rfl, rfl⟩

/-- What the second loop has stored. -/
theorem pieces2 (𝒱 : Variants) (c : Dev nD) (bd : Option 𝒱.V) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole) (k0_h1 : k0_cond1 i = 1#1) (v22 : FVec F S1x256 .f32) (v27 : FVec F S1x256 .f32) (v82 : IVec S1x256 32) (v88 : IVec S1x256 1) (X_arg3 : BufTy.Contents (Elt F) arg3.view.ty) (X_arg4 : BufTy.Contents (Elt F) arg4.view.ty) (n : ℕ) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v22 v27 v82 v88 X_arg3 X_arg4 n
      = (kcAll v22 (kvLoad arg3 X_arg3) n, vcAll (k0_pay69 v27 v82 v88) (kvLoad arg4 X_arg4) n, ksAll v22 (kvLoad arg3 X_arg3) n, vtAll (k0_pay69 v27 v82 v88) (kvLoad arg4 X_arg4) n) := by
  induction n with
  | zero => rfl
  | succ n ih =>
    by_cases h : n < k0_t2_loop.trips
    · have e := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v22 v27 v82 v88 X_arg3 X_arg4 ⟨n, h⟩
      obtain ⟨e1, e2, e3, e4⟩ := trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v22 v27 v82 v88 X_arg3 X_arg4 ⟨n, h⟩
      rw [e, ih]
      unfold tripL_k0_t2
      simp only [e1, e2, e3, e4]
      conv_rhs => unfold kcAll vcAll ksAll vtAll
      simp only [dif_pos h]
    · rw [pb_k0_t2.eq_2]
      unfold pb_k0_t2Step
      rw [dif_neg h, ih]
      conv_rhs => unfold kcAll vcAll ksAll vtAll
      simp only [dif_neg h]

/-- The inverses the run computes are those of the search. -/
theorem inv_eq (a : FVec F S16x256 .bf16) :
    k0_pay69 (k0_pay60 a) (k0_pay63 (k0_pay60 a) (k0_pay61 a) (k0_pay62 a)) (k0_pay64 (k0_pay60 a) (k0_pay61 a) (k0_pay62 a))
      = truncf .bf16 (vinv (k0_pay60 a)) bitsLt_bf16_f32 := rfl

/-- The codes of the keys stored. -/
theorem runA_kc (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.1 = kcAll (kvMean arg3 arg4 (harg3.unread x3) (harg4.unread x4)) (kvLoad arg3 (harg3.unread x3)) 8 := by
  have h : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.1 = (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (k0_pay59 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).1) (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay63 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (k0_pay64 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (harg3.unread x3) (harg4.unread x4) 8).1 := by
    unfold runA
    rfl
  rw [h]
  simp only [pieces2, acc1, inv_eq]
  rfl

/-- The scales of the keys stored. -/
theorem runA_kd (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.1 = [kdPiece arg12 (arg12.view.writes (Elt F) (harg12.unread x12) (ksAll (kvMean arg3 arg4 (harg3.unread x3) (harg4.unread x4)) (kvLoad arg3 (harg3.unread x3)) 8)) 1, kdPiece arg12 (arg12.view.writes (Elt F) (harg12.unread x12) (ksAll (kvMean arg3 arg4 (harg3.unread x3) (harg4.unread x4)) (kvLoad arg3 (harg3.unread x3)) 8)) 0] := by
  have h : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.1 = [kdPiece arg12 (arg12.view.writes (Elt F) (harg12.unread x12) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (k0_pay59 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).1) (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay63 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (k0_pay64 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (harg3.unread x3) (harg4.unread x4) 8).2.2.1) 1, kdPiece arg12 (arg12.view.writes (Elt F) (harg12.unread x12) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (k0_pay59 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).1) (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay63 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (k0_pay64 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (harg3.unread x3) (harg4.unread x4) 8).2.2.1) 0] := by
    unfold runA
    rfl
  rw [h]
  simp only [pieces2, acc1, inv_eq]
  rfl

/-- The codes of the values stored. -/
theorem runA_vc (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.1 = vcAll (kvInv arg3 arg4 (harg3.unread x3) (harg4.unread x4)) (kvLoad arg4 (harg4.unread x4)) 8 := by
  have h : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.1 = (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (k0_pay59 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).1) (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay63 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (k0_pay64 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (harg3.unread x3) (harg4.unread x4) 8).2.1 := by
    unfold runA
    rfl
  rw [h]
  simp only [pieces2, acc1, inv_eq]
  rfl

/-- The scales of the values stored. -/
theorem runA_vs (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.2.1 = [vsPiece (kvY arg3 arg4 (harg3.unread x3) (harg4.unread x4)) 1, vsPiece (kvY arg3 arg4 (harg3.unread x3) (harg4.unread x4)) 0] := by
  have h : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.2.1 = [vsPiece (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) 1, vsPiece (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) 0] := by
    unfold runA
    rfl
  rw [h]
  simp only [pieces2, acc1, inv_eq]
  rfl

/-- The carried scales of the keys stored. -/
theorem runA_ks (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.2.2.1 = ksAll (kvMean arg3 arg4 (harg3.unread x3) (harg4.unread x4)) (kvLoad arg3 (harg3.unread x3)) 8 := by
  have h : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.2.2.1 = (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (k0_pay59 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).1) (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay63 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (k0_pay64 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (harg3.unread x3) (harg4.unread x4) 8).2.2.1 := by
    unfold runA
    rfl
  rw [h]
  simp only [pieces2, acc1, inv_eq]
  rfl

/-- The transposed codes of the values stored. -/
theorem runA_vt (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec F S1x256x1024 .bf16) (x3 : Vec F S1x4096x256 .bf16) (x4 : Vec F S1x4096x256 .bf16) (x12 : Vec F S2x64x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.2.2.2.1 = vtAll (kvInv arg3 arg4 (harg3.unread x3) (harg4.unread x4)) (kvLoad arg4 (harg4.unread x4)) 8 := by
  have h : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.2.2.2.1 = (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (k0_pay59 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).1) (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay63 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (k0_pay64 (k0_pay60 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay61 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2) (k0_pay62 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x3) (harg4.unread x4) (k0_pay55, k0_pay56) 8).2)) (harg3.unread x3) (harg4.unread x4) 8).2.2.2 := by
    unfold runA
    rfl
  rw [h]
  simp only [pieces2, acc1, inv_eq]
  rfl

end Cert.KernelIdeal.Hand

end
-- ==== Proof.Ideal.Rel.lean ====
module

public import proofs.«01_k».proof.Proof.Ideal.Share
public import proofs.«01_k».proof.Proof.Ideal.Spec
public import proofs.«01_k».proof.Proof.Ideal.QRun
public import proofs.«01_k».proof.Proof.Ideal.KRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! The run of the kernel over the reals: what each point leaves in the buffers of the results, point by point. -/

/-- The windows whose contents are told by a relation: the results. -/
def forgets : Fin 10 → Bool := fun w => decide (3 ≤ w.val)

/-- What a point leaves in the buffer of a result. -/
def Rl (c : Dev nD) : (w : Fin cfg0.W) → (t : Fin cfg0.N) → ((cfg0.win w).block.Idx → Elt Ideal (cfg0.win w).elt) → Prop
  | ⟨3, _⟩, t, X => R3 m c t X
  | ⟨4, _⟩, t, X => R4 m c t X
  | ⟨5, _⟩, t, X => R5 m c t X
  | ⟨6, _⟩, t, X => R6 m c t X
  | ⟨7, _⟩, t, X => R7 m c t X
  | ⟨8, _⟩, t, X => R8 m c t X
  | ⟨9, _⟩, t, X => R9 m c t X
  | _, _, _ => True

/-- The proof data: the arrays as the region finds them, each input's buffer at its block, and the scratch. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ n := iprop(iprop((∃ d, ⌜S0 m c n.val d⌝ ∗ owns (c : Thread nD τ) sc0 fullShare d) ∗ (∃ d, ⌜S1 m c n.val d⌝ ∗ owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, ⌜S5 m c n.val d⌝ ∗ owns (c : Thread nD τ) sc5 fullShare d)) ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]

theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]

theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]

theorem before2 (c : Dev nD) (t : Fin cfg0.N) (d) : (dats m 0 c).before 2 t d = iblk m c 2 t :=
  before0_2_of m (dats m 0 c) (A_eq m c 2) (after2 m c) t d

/-- What a point may find in the buffer of a result. -/
def Fd (c : Dev nD) (w : Fin cfg0.W) (t : Fin cfg0.N) (X : (cfg0.win w).block.Idx → Elt Ideal (cfg0.win w).elt) : Prop :=
  ((dats m 0 c).toRRel forgets (Rl m c)).Finds w t X

/-- Inside a batch entry a point finds what the point before it left. -/
theorem Fd_prev (c : Dev nD) (w : Fin cfg0.W) (t : Fin cfg0.N) (X) (h : Fd m c w t X) (hm : forgets w = true) (ho : (cfg0.win w).isOut = true)
    (ht : t.val % 16 ≠ 0) (hf : ∀ u : Fin cfg0.N, (cfg0.win w).flush u = true ↔ u.val % 16 = 15) :
    Rl m c w ⟨t.val - 1, Nat.lt_of_le_of_lt (Nat.sub_le _ _) t.isLt⟩ X := by
  have ht0 : t.val ≠ 0 := by omega
  rcases (Pipeline.RDat.finds_of_pos _ ((cfg0.win w).fetch_out ho t) ht0 X).mp h with h | h
  · have := (hf _).mp h
    simp only at this
    omega
  · exact (dats m 0 c).toRRel_leaves hm h

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ Y, ⌜Fd m c 3 t Y⌝ ∗ owns (c : Thread nD τ) (ms3 t) fullShare Y)
    ∗ (∃ Y, ⌜Fd m c 4 t Y⌝ ∗ owns (c : Thread nD τ) (ms4 t) fullShare Y)
    ∗ (∃ Y, ⌜Fd m c 5 t Y⌝ ∗ owns (c : Thread nD τ) (ms5 t) fullShare Y)
    ∗ (∃ Y, ⌜Fd m c 6 t Y⌝ ∗ owns (c : Thread nD τ) (ms6 t) fullShare Y)
    ∗ (∃ Y, ⌜Fd m c 7 t Y⌝ ∗ owns (c : Thread nD τ) (ms7 t) fullShare Y)
    ∗ (∃ Y, ⌜Fd m c 8 t Y⌝ ∗ owns (c : Thread nD τ) (ms8 t) fullShare Y)
    ∗ (∃ Y, ⌜Fd m c 9 t Y⌝ ∗ owns (c : Thread nD τ) (ms9 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ X, ⌜Rl m c 3 t X⌝ ∗ owns (c : Thread nD τ) (ms3 t) fullShare X)
    ∗ (∃ X, ⌜Rl m c 4 t X⌝ ∗ owns (c : Thread nD τ) (ms4 t) fullShare X)
    ∗ (∃ X, ⌜Rl m c 5 t X⌝ ∗ owns (c : Thread nD τ) (ms5 t) fullShare X)
    ∗ (∃ X, ⌜Rl m c 6 t X⌝ ∗ owns (c : Thread nD τ) (ms6 t) fullShare X)
    ∗ (∃ X, ⌜Rl m c 7 t X⌝ ∗ owns (c : Thread nD τ) (ms7 t) fullShare X)
    ∗ (∃ X, ⌜Rl m c 8 t X⌝ ∗ owns (c : Thread nD τ) (ms8 t) fullShare X)
    ∗ (∃ X, ⌜Rl m c 9 t X⌝ ∗ owns (c : Thread nD τ) (ms9 t) fullShare X))

/-- What the run of a point has to show, given contents that the point may find. -/
def Sound (c : Dev nD) (t : Fin cfg0.N) : Prop :=
  ∀ (Y3 : Vec Ideal S1x256x1024 .bf16) (Y4 : Vec Ideal S1x256x8x128 .fp8e4m3) (Y5 : Vec Ideal S1x8x32 .f32) (Y6 : Vec Ideal S1x2x4096x128 .fp8e4m3) (Y7 : Vec Ideal S1x2x64 .f32) (Y8 : Vec Ideal S1x2x4096x128 .fp8e4m3) (Y9 : Vec Ideal S1x2x128 .f32) (D0 : Vec Ideal S2x64x128 .f32) (D1 : Vec Ideal S2x128x4096 .fp8e4m3) (D2 : Vec Ideal S2x2x512x128 .fp8e4m3) (D3 : Vec Ideal S2x2x8x128 .f32) (D4 : Vec Ideal S1152x512 .f32) (D5 : Vec Ideal S1152x512 .fp8e4m3), Fd m c 3 t Y3 → Fd m c 4 t Y4 → Fd m c 5 t Y5 → Fd m c 6 t Y6 → Fd m c 7 t Y7 → Fd m c 8 t Y8 → Fd m c 9 t Y9 → S0 m c t.val D0 → S1 m c t.val D1 → S5 m c t.val D5 → ∀ (K : PUnit → sProp 𝕄),
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) sc0 fullShare D0 ∗ owns (c : Thread nD τ) sc1 fullShare D1 ∗ owns (c : Thread nD τ) sc2 fullShare D2 ∗ owns (c : Thread nD τ) sc3 fullShare D3 ∗ owns (c : Thread nD τ) sc4 fullShare D4 ∗ owns (c : Thread nD τ) sc5 fullShare D5 ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ (∃ X, ⌜R3 m c t X⌝ ∗ owns (c : Thread nD τ) (ms3 t) fullShare X) ∗ (∃ X, ⌜R4 m c t X⌝ ∗ owns (c : Thread nD τ) (ms4 t) fullShare X) ∗ (∃ X, ⌜R5 m c t X⌝ ∗ owns (c : Thread nD τ) (ms5 t) fullShare X) ∗ (∃ X, ⌜R6 m c t X⌝ ∗ owns (c : Thread nD τ) (ms6 t) fullShare X) ∗ (∃ X, ⌜R7 m c t X⌝ ∗ owns (c : Thread nD τ) (ms7 t) fullShare X) ∗ (∃ X, ⌜R8 m c t X⌝ ∗ owns (c : Thread nD τ) (ms8 t) fullShare X) ∗ (∃ X, ⌜R9 m c t X⌝ ∗ owns (c : Thread nD τ) (ms9 t) fullShare X) ∗ (∃ d, ⌜S0 m c (t.val + 1) d⌝ ∗ owns (c : Thread nD τ) sc0 fullShare d) ∗ (∃ d, ⌜S1 m c (t.val + 1) d⌝ ∗ owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, ⌜S5 m c (t.val + 1) d⌝ ∗ owns (c : Thread nD τ) sc5 fullShare d)) -∗ K ⟨⟩))
      ⊢ wp frame (wpE (defs₀ (F := Ideal)) Variants.none c none) Set.univ (bodyAt0 t) K

set_option maxHeartbeats 2400000 in
/-- A point of any kind keeps the invariant, from the run of its kind. -/
theorem sound_of (c : Dev nD) (t : Fin cfg0.N) (hrun : Sound m c t) :
    bodyPre m c t ⊢ wp frame (wpE (defs₀ (F := Ideal)) Variants.none c none) Set.univ (bodyAt0 t) (fun _ => bodyPost m c t) := by
  unfold bodyPre bodyPost
  simp only [before0, before1, before2]
  rw [show (dats m 0 c).owesAt () t.succ = (dats m 0 c).owesAt () t.castSucc from rfl]
  rw [show (dats m 0 c).Φ t.castSucc = iprop(iprop((∃ d, ⌜S0 m c t.val d⌝ ∗ owns (c : Thread nD τ) sc0 fullShare d) ∗ (∃ d, ⌜S1 m c t.val d⌝ ∗ owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, ⌜S5 m c t.val d⌝ ∗ owns (c : Thread nD τ) sc5 fullShare d)) ∗ (∃ r, prngReg c r)) from rfl,
    show (dats m 0 c).Φ t.succ = iprop(iprop((∃ d, ⌜S0 m c (t.val + 1) d⌝ ∗ owns (c : Thread nD τ) sc0 fullShare d) ∗ (∃ d, ⌜S1 m c (t.val + 1) d⌝ ∗ owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, ⌜S5 m c (t.val + 1) d⌝ ∗ owns (c : Thread nD τ) sc5 fullShare d)) ∗ (∃ r, prngReg c r)) from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  iintro ⟨⟨⟨⟨%D0, %S0, HS0⟩, ⟨%D1, %S1, HS1⟩, ⟨%D2, HS2⟩, ⟨%D3, HS3⟩, ⟨%D4, HS4⟩, ⟨%D5, %S5, HS5⟩⟩, Hg⟩, Ho, ⟨%d0, H0⟩, ⟨%d1, H1⟩, ⟨%d2, H2⟩, ⟨%Y3, %F3, H3⟩, ⟨%Y4, %F4, H4⟩, ⟨%Y5, %F5, H5⟩, ⟨%Y6, %F6, H6⟩, ⟨%Y7, %F7, H7⟩, ⟨%Y8, %F8, H8⟩, ⟨%Y9, %F9, H9⟩⟩
  iapply hrun Y3 Y4 Y5 Y6 Y7 Y8 Y9 D0 D1 D2 D3 D4 D5 F3 F4 F5 F6 F7 F8 F9 S0 S1 S5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.Ideal.OOut.lean ====
module

public import proofs.«01_k».proof.Proof.Ideal.ORead
public import proofs.«01_k».proof.Proof.Ideal.ORun

/-! The results of a point, read back from their stores. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The results of all units as one table. -/
def GO (tile : Fin 2 → Fin 2 → Fin 4 → FVec Ideal S128x128 .bf16) : S1x256x1024.Idx → EReal := fun y =>
  have h1 : (y 1).val < 256 := (y 1).isLt
  have h2 : (y 2).val < 1024 := (y 2).isLt
  tile ⟨(y 1).val / 128, by omega⟩ ⟨(y 2).val / 512, by omega⟩ ⟨(y 1).val / 32 % 4, by omega⟩ (ix2 ⟨32 * ((y 2).val / 128 % 4) + (y 1).val % 32, by omega⟩ ⟨(y 2).val % 128, by omega⟩)

theorem GO_of (tile : Fin 2 → Fin 2 → Fin 4 → FVec Ideal S128x128 .bf16) (rb n : Fin 2) (t g : Fin 4) (l : Fin 32) (d : Fin 128) :
    GO tile (ix3 0 ⟨128 * rb.val + 32 * t.val + l.val, by omega⟩ ⟨512 * n.val + 128 * g.val + d.val, by omega⟩) = tile rb n t (ix2 ⟨32 * g.val + l.val, by omega⟩ d) := by
  have key : ∀ (rb' n' : Fin 2) (t' : Fin 4) (L' d' : Fin 128), rb' = rb → n' = n → t' = t → L'.val = 32 * g.val + l.val → d' = d → tile rb' n' t' (ix2 L' d') = tile rb n t (ix2 ⟨32 * g.val + l.val, by omega⟩ d) := by
    rintro _ _ _ L' _ rfl rfl rfl h rfl
    exact congrArg (fun z => tile _ _ _ (ix2 z _)) (Fin.ext h : L' = ⟨32 * g.val + l.val, by omega⟩)
  refine key _ _ _ _ _ (Fin.ext ?_) (Fin.ext ?_) (Fin.ext ?_) ?_ (Fin.ext ?_)
  · show (128 * rb.val + 32 * t.val + l.val) / 128 = rb.val; omega
  · show (512 * n.val + 128 * g.val + d.val) / 512 = n.val; omega
  · show (128 * rb.val + 32 * t.val + l.val) / 32 % 4 = t.val; omega
  · show 32 * ((512 * n.val + 128 * g.val + d.val) / 128 % 4) + (128 * rb.val + 32 * t.val + l.val) % 32 = 32 * g.val + l.val; omega
  · show (512 * n.val + 128 * g.val + d.val) % 128 = d.val; omega

theorem oPiece_emb (rb n : Fin 2) (tile : Fin 4 → FVec Ideal S128x128 .bf16) (t g : Fin 4) (l : Fin 32) (d : Fin 128) :
    (oPiece rb n tile (t, g)).1.emb (ix3 0 l d : S1x32x128.Idx) = ix3 0 ⟨128 * rb.val + 32 * t.val + l.val, by omega⟩ ⟨512 * n.val + 128 * g.val + d.val, by omega⟩ := by
  funext a
  apply Fin.ext
  unfold oPiece
  rw [unit_emb]
  match a with
  | ⟨0, _⟩ => rfl
  | ⟨1, _⟩ => rfl
  | ⟨2, _⟩ => rfl

theorem oPiece_eq (tile : Fin 2 → Fin 2 → Fin 4 → FVec Ideal S128x128 .bf16) (rb n : Fin 2) (x : Fin 4 × Fin 4) :
    ∀ z, (oPiece rb n (tile rb n) x).2 z = GO tile ((oPiece rb n (tile rb n) x).1.emb z) := by
  obtain ⟨t, g⟩ := x
  intro (z : S1x32x128.Idx)
  obtain ⟨l, d, rfl⟩ : ∃ (l : Fin 32) (d : Fin 128), z = ix3 0 l d := ⟨z 1, z 2, by idx_ext⟩
  refine Eq.trans ?_ ((congrArg (GO tile) (oPiece_emb rb n (tile rb n) t g l d)).trans (GO_of tile rb n t g l d)).symm
  unfold oPiece
  dsimp only
  generalize tile rb n t = y
  pointwise []

/-- The order of the stores of a point's results. -/
def oAll : List (Fin 2 × Fin 2 × Fin 4 × Fin 4) :=
  oOrd.map (fun x => (0, 0, x)) ++ (oOrd.map (fun x => (0, 1, x)) ++ (oOrd.map (fun x => (1, 0, x)) ++ oOrd.map (fun x => (1, 1, x))))

theorem mem_oAll (rb n : Fin 2) (t g : Fin 4) : (rb, n, t, g) ∈ oAll := by
  revert rb n t g; decide

theorem o_all (tile : Fin 2 → Fin 2 → Fin 4 → FVec Ideal S128x128 .bf16) :
    oPieces 1 1 (tile 1 1) (oPieces 1 0 (tile 1 0) (oPieces 0 1 (tile 0 1) (oPieces 0 0 (tile 0 0) [])))
      = oAll.foldl (fun H x => oPiece x.1 x.2.1 (tile x.1 x.2.1) x.2.2 :: H) [] := rfl

theorem o_read (tile : Fin 2 → Fin 2 → Fin 4 → FVec Ideal S128x128 .bf16) (v : View sig .tc .vmem S1x256x1024 .bf16) (f : v.ty.Contents (Elt Ideal)) (rb n : Fin 2) (t g : Fin 4) (l : Fin 32) (d : Fin 128) :
    v.read (Elt Ideal) (v.writes (Elt Ideal) f (oPieces 1 1 (tile 1 1) (oPieces 1 0 (tile 1 0) (oPieces 0 1 (tile 0 1) (oPieces 0 0 (tile 0 0) [])))))
        (ix3 0 ⟨128 * rb.val + 32 * t.val + l.val, by omega⟩ ⟨512 * n.val + 128 * g.val + d.val, by omega⟩)
      = tile rb n t (ix2 ⟨32 * g.val + l.val, by omega⟩ d) := by
  rw [o_all, ← GO_of tile rb n t g l d]
  refine read_foldl v (fun x : Fin 2 × Fin 2 × Fin 4 × Fin 4 => oPiece x.1 x.2.1 (tile x.1 x.2.1) x.2.2) f oAll [] (GO tile) (fun x _ z => oPiece_eq tile x.1 x.2.1 x.2.2 z) _ ⟨(rb, n, t, g), mem_oAll rb n t g, ?_⟩
  refine (Rect.mem_set_unit (inb := inb_o rb n t g)).mpr fun a => ?_
  match a with
  | ⟨0, _⟩ => show 0 ≤ 0 ∧ 0 < 0 + 1; omega
  | ⟨1, _⟩ => show 128 * rb.val + 32 * t.val ≤ 128 * rb.val + 32 * t.val + l.val ∧ 128 * rb.val + 32 * t.val + l.val < 128 * rb.val + 32 * t.val + 32; have := l.isLt; omega
  | ⟨2, _⟩ => show 512 * n.val + 128 * g.val ≤ 512 * n.val + 128 * g.val + d.val ∧ 512 * n.val + 128 * g.val + d.val < 512 * n.val + 128 * g.val + 128; have := d.isLt; omega

end Cert.KernelIdeal.Hand

end
-- ==== Proof.Ideal.Zero.lean ====
module

public import proofs.«01_k».proof.Proof.Ideal.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! The store of the probabilities, cleared at the first point of a batch entry. -/

theorem zero_read (v : View sig .tc .vmem S1152x512 .fp8e4m3) (f : v.ty.Contents (Elt Ideal)) (y : S1152x512.Idx) :
    v.read (Elt Ideal) (v.writes (Elt Ideal) f (runA.sl.H17_1 (F := Ideal))) y = (0 : EReal) := by
  refine View.read_writes_apply_of_pieces v f (fun _ => (0 : EReal)) (runA.sl.H17_1 (F := Ideal)) ?_ y ?_
  · intro p hp
    obtain rfl : p = _ := List.mem_singleton.mp hp
    intro z
    show Ideal.ofBits .fp8e4m3 0x00#8 = 0
    simp [Ideal.ofBits, Ideal.e4m3fn]
  · refine ⟨_, List.mem_singleton.mpr rfl, ?_⟩
    refine (Rect.mem_set_unit (inb := inb_S1152x512_S1152x512_0_0)).mpr fun a => ?_
    match a with
    | ⟨0, _⟩ => exact ⟨Nat.zero_le _, Nat.lt_of_lt_of_eq (y 0).isLt (Nat.zero_add _).symm⟩
    | ⟨1, _⟩ => exact ⟨Nat.zero_le _, Nat.lt_of_lt_of_eq (y 1).isLt (Nat.zero_add _).symm⟩

/-- The stores of probabilities at a point of kind A. -/
theorem runA_p  (c : Dev nD) (i : grid0.Coords) (arg2 : Memref sig .tc .vmem S1x256x1024 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x1024 .bf16) (harg5 : arg5.IsWhole) (arg6 : Memref sig .tc .vmem S1x256x8x128 .fp8e4m3) (harg6 : arg6.IsWhole) (arg7 : Memref sig .tc .vmem S1x8x32 .f32) (harg7 : arg7.IsWhole) (arg8 : Memref sig .tc .vmem S1x2x4096x128 .fp8e4m3) (harg8 : arg8.IsWhole) (arg9 : Memref sig .tc .vmem S1x2x64 .f32) (harg9 : arg9.IsWhole) (arg10 : Memref sig .tc .vmem S1x2x4096x128 .fp8e4m3) (harg10 : arg10.IsWhole) (arg11 : Memref sig .tc .vmem S1x2x128 .f32) (harg11 : arg11.IsWhole) (arg12 : Memref sig .tc .vmem S2x64x128 .f32) (harg12 : arg12.IsWhole) (arg13 : Memref sig .tc .vmem S2x128x4096 .fp8e4m3) (harg13 : arg13.IsWhole) (arg14 : Memref sig .tc .vmem S2x2x512x128 .fp8e4m3) (harg14 : arg14.IsWhole) (arg15 : Memref sig .tc .vmem S2x2x8x128 .f32) (harg15 : arg15.IsWhole) (arg16 : Memref sig .tc .vmem S1152x512 .f32) (harg16 : arg16.IsWhole) (arg17 : Memref sig .tc .vmem S1152x512 .fp8e4m3) (harg17 : arg17.IsWhole)
    (hc0 : k0_cond1 i = 1#1) (hc1 : k0_cond2 i = 1#1) (hc2 : ¬ k0_cond3 i = 1#1)
    (x2 : Vec Ideal S1x256x1024 .bf16) (x3 x4 : Vec Ideal S1x4096x256 .bf16) (x12 : Vec Ideal S2x64x128 .f32) :
   (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x12).2.2.2.2.2.2.2.2.1 = runA.sl.H17_1 (F := Ideal) := by
  unfold runA
  rfl

end Cert.KernelIdeal.Hand

end
-- ==== Proof.Ideal.Facts.lean ====
module

public import proofs.«01_k».proof.Proof.Ideal.Rel
public import proofs.«01_k».proof.Proof.Ideal.OOut
public import proofs.«01_k».proof.Proof.Ideal.Zero

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! What a point stores, in the terms of the specification: for each kind of point (`A` the first of a batch entry, `B` the
others of the ramp, `C` the rest) and each operand of the body. -/

/-- The whole buffer of the queries' scales, read at its whole rectangle. -/
theorem readAt_qs (arg7 : Memref sig .tc .vmem S1x8x32 .f32) (harg7 : arg7.IsWhole) (x : Vec Ideal S1x8x32 .f32) (h : Fin 8) (n : Fin 32) :
    (View.readAt (Elt Ideal) arg7.view (Rect.unit (s := S1x8x32) ![0, 0, 0] S1x8x32.size inb_qs).toLoadRect (harg7.unread x)) (ix3 0 h n) = x (ix3 0 h n) := by
  rw [Memref.IsWhole.readAt_unread]
  congr 1
  funext a
  apply Fin.ext
  fin_cases a <;> simp [LoadRect.idx, Rect.toLoadRect, Rect.unit, ix3]

theorem factA_5 (c : Dev nD) (t : Fin cfg0.N) (h0 : t.val % 16 = 0) (X : Vec Ideal S1x256x1024 .bf16) : R3 m c t X := fun h => absurd h (by omega)

theorem factA_6 (c : Dev nD) (t : Fin cfg0.N) (h0 : t.val % 16 = 0) (D0 : Vec Ideal S2x64x128 .f32) (G0 : S0 m c t.val D0) (f : (ms4 t).view.ty.Contents (Elt Ideal)) :
    R4 m c t ((ms4 t).view.read (Elt Ideal) ((ms4 t).view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).1)) := by
  intro R h d
  rw [runA_codes, qPieces_read]
  exact qG_iblk m c t R h d

theorem factA_7 (c : Dev nD) (t : Fin cfg0.N) (h0 : t.val % 16 = 0) (D0 : Vec Ideal S2x64x128 .f32) (G0 : S0 m c t.val D0) (f : (ms5 t).view.ty.Contents (Elt Ideal)) :
    R5 m c t ((ms5 t).view.read (Elt Ideal) ((ms5 t).view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.1)) := by
  intro h n hn
  rw [runA_scales, qsPieces_read]
  have e := coord1 t
  split_ifs with a b
  · rw [qYb_iblk]
    congr 2
    apply Fin.ext
    simp only [Fin.isValue]
    have : ((1 : Fin 2) : ℕ) = 1 := rfl
    omega
  · rw [qYb_iblk]
    congr 2
    apply Fin.ext
    have : ((0 : Fin 2) : ℕ) = 0 := rfl
    simp only [Fin.isValue]
    omega
  · omega

theorem factA_8 (c : Dev nD) (t : Fin cfg0.N) (h0 : t.val % 16 = 0) (D0 : Vec Ideal S2x64x128 .f32) (G0 : S0 m c t.val D0) (f : (ms6 t).view.ty.Contents (Elt Ideal)) :
    R6 m c t ((ms6 t).view.read (Elt Ideal) ((ms6 t).view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.1)) := by
  unfold R6
  rw [runA_kc, kcAll_read]
  funext y
  exact kGat_iblk m c t _ _ _

theorem factA_9 (c : Dev nD) (t : Fin cfg0.N) (h0 : t.val % 16 = 0) (D0 : Vec Ideal S2x64x128 .f32) (G0 : S0 m c t.val D0) (f : (ms7 t).view.ty.Contents (Elt Ideal)) :
    R7 m c t ((ms7 t).view.read (Elt Ideal) ((ms7 t).view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.2.1)) := by
  unfold R7
  rw [runA_kd, kd_read (g := fun n b => Pow2.scale (kYb (iblk m c 1 t) n b)) (hX := ksAll_read _ _ _ _ _ _ _ _)]
  funext y
  exact congrArg Pow2.scale (kYb_iblk m c t _ _)

theorem factA_10 (c : Dev nD) (t : Fin cfg0.N) (h0 : t.val % 16 = 0) (D0 : Vec Ideal S2x64x128 .f32) (G0 : S0 m c t.val D0) (f : (ms8 t).view.ty.Contents (Elt Ideal)) :
    R8 m c t ((ms8 t).view.read (Elt Ideal) ((ms8 t).view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.2.2.1)) := by
  unfold R8
  rw [runA_vc, vcAll_read]
  funext y
  exact vGat_iblk m c t _ _ _

theorem factA_11 (c : Dev nD) (t : Fin cfg0.N) (h0 : t.val % 16 = 0) (D0 : Vec Ideal S2x64x128 .f32) (G0 : S0 m c t.val D0) (f : (ms9 t).view.ty.Contents (Elt Ideal)) :
    R9 m c t ((ms9 t).view.read (Elt Ideal) ((ms9 t).view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.2.2.2.1)) := by
  unfold R9
  rw [runA_vs, vs_read]
  funext y
  exact congrArg Pow2.scale (vYb_iblk m c t _ _)

theorem factA_12 (c : Dev nD) (t : Fin cfg0.N) (h0 : t.val % 16 = 0) (D0 : Vec Ideal S2x64x128 .f32) (G0 : S0 m c t.val D0)  :
    S0 m c (t.val + 1) (sc0.view.read (Elt Ideal) (sc0.view.writes (Elt Ideal) (Memref.IsWhole.unread (m := sc0) (Memref.isWhole_whole _) D0) (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.2.2.2.2.1)) := by
  intro b hb hn
  rw [runA_ks, ksAll_read, ← tb_of t b hb hn]
  funext y
  exact congrArg Pow2.scale (kYb_iblk m c t _ _)

theorem factA_13 (c : Dev nD) (t : Fin cfg0.N) (h0 : t.val % 16 = 0) (D0 : Vec Ideal S2x64x128 .f32) (G0 : S0 m c t.val D0) (f : sc1.view.ty.Contents (Elt Ideal)) :
    S1 m c (t.val + 1) (sc1.view.read (Elt Ideal) (sc1.view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.2.2.2.2.2.1)) := by
  intro b hb hn
  rw [runA_vt, vtAll_read, ← tb_of t b hb hn]
  funext y
  exact vGat_iblk m c t _ _ _

theorem factA_17 (c : Dev nD) (t : Fin cfg0.N) (h0 : t.val % 16 = 0) (D0 : Vec Ideal S2x64x128 .f32) (G0 : S0 m c t.val D0) (f : sc5.view.ty.Contents (Elt Ideal)) :
    S5 m c (t.val + 1) (sc5.view.read (Elt Ideal) (sc5.view.writes (Elt Ideal) f (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.2.2.2.2.2.2.1)) := by
  intro _ s R L _
  rw [runA_p]
  exact zero_read sc5.view f _

theorem factB_5 (c : Dev nD) (t : Fin cfg0.N) (h0 : ¬ t.val % 16 = 0) (h1 : t.val % 16 < 4) (Y3 : Vec Ideal S1x256x1024 .bf16) (F3 : Fd m c 3 t Y3) : R3 m c t Y3 := fun h => absurd h (by omega)

theorem factB_6 (c : Dev nD) (t : Fin cfg0.N) (h0 : ¬ t.val % 16 = 0) (h1 : t.val % 16 < 4) (Y5 : Vec Ideal S1x8x32 .f32) (F5 : Fd m c 5 t Y5) (f : (ms4 t).view.ty.Contents (Elt Ideal)) :
    R4 m c t ((ms4 t).view.read (Elt Ideal) ((ms4 t).view.writes (Elt Ideal) f (runB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) ((hcond2 t).mpr h1) (fun h => by have := (hcond3 t).mp h; omega) (iblk m c 0 t) Y5).1)) := by
  intro R h d
  rw [runB_codes, qPieces_read]
  exact qG_iblk m c t R h d

theorem factB_7 (c : Dev nD) (t : Fin cfg0.N) (h0 : ¬ t.val % 16 = 0) (h1 : t.val % 16 < 4) (Y5 : Vec Ideal S1x8x32 .f32) (F5 : Fd m c 5 t Y5)  :
    R5 m c t ((ms5 t).view.read (Elt Ideal) ((ms5 t).view.writes (Elt Ideal) ((hs5 t).unread Y5) (runB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) ((hcond2 t).mpr h1) (fun h => by have := (hcond3 t).mp h; omega) (iblk m c 0 t) Y5).2.1)) := by
  intro h n hn
  rw [runB_scales, qsPieces_read]
  have e := coord1 t
  split_ifs with a b
  · rw [qYb_iblk]
    congr 2
    apply Fin.ext
    have : ((1 : Fin 2) : ℕ) = 1 := rfl
    simp only [Fin.isValue]
    omega
  · rw [qYb_iblk]
    congr 2
    apply Fin.ext
    have : ((0 : Fin 2) : ℕ) = 0 := rfl
    simp only [Fin.isValue]
    omega
  · have hp := Fd_prev m c 5 t Y5 F5 rfl rfl h0 flush0_5
    have := hp h n (by simp only; omega)
    have ht := tlt t
    have eb : tb ⟨t.val - 1, Nat.lt_of_le_of_lt (Nat.sub_le _ _) t.isLt⟩ = tb t := by
      apply Fin.ext
      simp only [tb]
      omega
    rw [eb] at this
    rw [← this]
    exact readAt_qs _ _ _ h n

theorem factB_8 (c : Dev nD) (t : Fin cfg0.N) (h0 : ¬ t.val % 16 = 0) (h1 : t.val % 16 < 4) (Y6 : Vec Ideal S1x2x4096x128 .fp8e4m3) (F6 : Fd m c 6 t Y6) : R6 m c t Y6 := by
  have hp : R6 m c _ Y6 := Fd_prev m c 6 t Y6 F6 rfl rfl h0 flush0_6
  unfold R6 at hp ⊢
  rw [tb_prev t h0] at hp
  exact hp

theorem factB_9 (c : Dev nD) (t : Fin cfg0.N) (h0 : ¬ t.val % 16 = 0) (h1 : t.val % 16 < 4) (Y7 : Vec Ideal S1x2x64 .f32) (F7 : Fd m c 7 t Y7) : R7 m c t Y7 := by
  have hp : R7 m c _ Y7 := Fd_prev m c 7 t Y7 F7 rfl rfl h0 flush0_7
  unfold R7 at hp ⊢
  rw [tb_prev t h0] at hp
  exact hp

theorem factB_10 (c : Dev nD) (t : Fin cfg0.N) (h0 : ¬ t.val % 16 = 0) (h1 : t.val % 16 < 4) (Y8 : Vec Ideal S1x2x4096x128 .fp8e4m3) (F8 : Fd m c 8 t Y8) : R8 m c t Y8 := by
  have hp : R8 m c _ Y8 := Fd_prev m c 8 t Y8 F8 rfl rfl h0 flush0_8
  unfold R8 at hp ⊢
  rw [tb_prev t h0] at hp
  exact hp

theorem factB_11 (c : Dev nD) (t : Fin cfg0.N) (h0 : ¬ t.val % 16 = 0) (h1 : t.val % 16 < 4) (Y9 : Vec Ideal S1x2x128 .f32) (F9 : Fd m c 9 t Y9) : R9 m c t Y9 := by
  have hp : R9 m c _ Y9 := Fd_prev m c 9 t Y9 F9 rfl rfl h0 flush0_9
  unfold R9 at hp ⊢
  rw [tb_prev t h0] at hp
  exact hp

theorem factB_12 (c : Dev nD) (t : Fin cfg0.N) (h0 : ¬ t.val % 16 = 0) (h1 : t.val % 16 < 4) (D0 : Vec Ideal S2x64x128 .f32) (G0 : S0 m c t.val D0) : S0 m c (t.val + 1) D0 := fun b hb hn => G0 b (by omega) h0

theorem factB_13 (c : Dev nD) (t : Fin cfg0.N) (h0 : ¬ t.val % 16 = 0) (h1 : t.val % 16 < 4) (D1 : Vec Ideal S2x128x4096 .fp8e4m3) (G1 : S1 m c t.val D1) : S1 m c (t.val + 1) D1 := fun b hb hn => G1 b (by omega) h0

theorem factB_17 (c : Dev nD) (t : Fin cfg0.N) (h0 : ¬ t.val % 16 = 0) (h1 : t.val % 16 < 4) (D5 : Vec Ideal S1152x512 .fp8e4m3) (G5 : S5 m c t.val D5) : S5 m c (t.val + 1) D5 := fun _ => G5 h0

theorem factC_5 (c : Dev nD) (t : Fin cfg0.N) (h0 : ¬ t.val % 16 = 0) (h1 : ¬ t.val % 16 < 4) (Y5 : Vec Ideal S1x8x32 .f32) (F5 : Fd m c 5 t Y5) (Y6 : Vec Ideal S1x2x4096x128 .fp8e4m3) (F6 : Fd m c 6 t Y6) (Y9 : Vec Ideal S1x2x128 .f32) (F9 : Fd m c 9 t Y9) (D0 : Vec Ideal S2x64x128 .f32) (G0 : S0 m c t.val D0) (D1 : Vec Ideal S2x128x4096 .fp8e4m3) (G1 : S1 m c t.val D1) (D5 : Vec Ideal S1152x512 .fp8e4m3) (G5 : S5 m c t.val D5) (f : (ms3 t).view.ty.Contents (Elt Ideal)) :
    R3 m c t ((ms3 t).view.read (Elt Ideal) ((ms3 t).view.writes (Elt Ideal) f (runC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) (fun h => h1 ((hcond2 t).mp h)) ((hcond3 t).mpr (by omega)) (iblk m c 0 t) Y5 Y6 Y9 D0 D1 D5).1)) := by
  intro h4 R n g d
  have h6 : R6 m c _ Y6 := Fd_prev m c 6 t Y6 F6 rfl rfl h0 flush0_6
  have h9 : R9 m c _ Y9 := Fd_prev m c 9 t Y9 F9 rfl rfl h0 flush0_9
  unfold R6 at h6
  unfold R9 at h9
  rw [tb_prev t h0] at h6 h9
  obtain ⟨rb, s, l, rfl⟩ : ∃ (rb : Fin 2) (s : Fin 4) (l : Fin 32), R = ⟨128 * rb.val + 32 * s.val + l.val, by omega⟩ :=
    ⟨⟨R.val / 128, by omega⟩, ⟨R.val / 32 % 4, by omega⟩, ⟨R.val % 32, by omega⟩, Fin.ext (by show R.val = 128 * (R.val / 128) + 32 * (R.val / 32 % 4) + R.val % 32; omega)⟩
  rw [runC_out]
  refine (o_read (fun rb n => tileU c (grid0.coords t) (ms0 t) (hs0 t) (ms6 t) (hs6 t) sc0 (Memref.isWhole_whole _) sc2 sc3 (ms9 t) (hs9 t) sc1 (Memref.isWhole_whole _) sc4 sc5 (Memref.isWhole_whole _) ((hcond3 t).mpr (by omega)) (iblk m c 0 t) Y6 D0 Y9 D1 D5 rb n) (ms3 t).view f rb n s g l d).trans ?_
  refine (tileU_apply c (grid0.coords t) (ms0 t) (hs0 t) (ms6 t) (hs6 t) sc0 (Memref.isWhole_whole _) sc2 sc3 sc4 ((hcond3 t).mpr (by omega)) (iblk m c 0 t) Y6 D0 (ms9 t) (hs9 t) sc1 (Memref.isWhole_whole _) sc5 (Memref.isWhole_whole _) Y9 D1 D5 (G5 h0) rb n s ⟨32 * g.val + l.val, by omega⟩ d).trans ?_
  refine (oVal_spec m c t h4 Y6 h6 D0 (G0 (tb t) rfl h0) Y9 h9 D1 (G1 (tb t) rfl h0) rb n s ⟨32 * g.val + l.val, by omega⟩ d).trans ?_
  refine congrArg₂ (fun q g => Ov (argX m c) (argK m c) (argV m c) (tb t) n q g d) (Fin.ext ?_) (Fin.ext ?_)
  · show 256 * (t.val % 16) + (128 * rb.val + (32 * s.val + (32 * g.val + l.val) % 32)) = 256 * (t.val % 16) + (128 * rb.val + 32 * s.val + l.val)
    omega
  · show (32 * g.val + l.val) / 32 = g.val
    omega

theorem factC_6 (c : Dev nD) (t : Fin cfg0.N) (h0 : ¬ t.val % 16 = 0) (h1 : ¬ t.val % 16 < 4) (Y5 : Vec Ideal S1x8x32 .f32) (F5 : Fd m c 5 t Y5) (Y6 : Vec Ideal S1x2x4096x128 .fp8e4m3) (F6 : Fd m c 6 t Y6) (Y9 : Vec Ideal S1x2x128 .f32) (F9 : Fd m c 9 t Y9) (D0 : Vec Ideal S2x64x128 .f32) (G0 : S0 m c t.val D0) (D1 : Vec Ideal S2x128x4096 .fp8e4m3) (G1 : S1 m c t.val D1) (D5 : Vec Ideal S1152x512 .fp8e4m3) (G5 : S5 m c t.val D5) (f : (ms4 t).view.ty.Contents (Elt Ideal)) :
    R4 m c t ((ms4 t).view.read (Elt Ideal) ((ms4 t).view.writes (Elt Ideal) f (runC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) (fun h => h1 ((hcond2 t).mp h)) ((hcond3 t).mpr (by omega)) (iblk m c 0 t) Y5 Y6 Y9 D0 D1 D5).2.1)) := by
  intro R h d
  rw [runC_codes, qPieces_read]
  exact qG_iblk m c t R h d

theorem factC_7 (c : Dev nD) (t : Fin cfg0.N) (h0 : ¬ t.val % 16 = 0) (h1 : ¬ t.val % 16 < 4) (Y5 : Vec Ideal S1x8x32 .f32) (F5 : Fd m c 5 t Y5) (Y6 : Vec Ideal S1x2x4096x128 .fp8e4m3) (F6 : Fd m c 6 t Y6) (Y9 : Vec Ideal S1x2x128 .f32) (F9 : Fd m c 9 t Y9) (D0 : Vec Ideal S2x64x128 .f32) (G0 : S0 m c t.val D0) (D1 : Vec Ideal S2x128x4096 .fp8e4m3) (G1 : S1 m c t.val D1) (D5 : Vec Ideal S1152x512 .fp8e4m3) (G5 : S5 m c t.val D5)  :
    R5 m c t ((ms5 t).view.read (Elt Ideal) ((ms5 t).view.writes (Elt Ideal) ((hs5 t).unread Y5) (runC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) (fun h => h1 ((hcond2 t).mp h)) ((hcond3 t).mpr (by omega)) (iblk m c 0 t) Y5 Y6 Y9 D0 D1 D5).2.2.1)) := by
  intro h n hn
  rw [runC_scales, qsPieces_read]
  have e := coord1 t
  split_ifs with a b
  · rw [qYb_iblk]
    congr 2
    apply Fin.ext
    have : ((1 : Fin 2) : ℕ) = 1 := rfl
    simp only [Fin.isValue]
    omega
  · rw [qYb_iblk]
    congr 2
    apply Fin.ext
    have : ((0 : Fin 2) : ℕ) = 0 := rfl
    simp only [Fin.isValue]
    omega
  · have hp := Fd_prev m c 5 t Y5 F5 rfl rfl h0 flush0_5
    have := hp h n (by simp only; omega)
    have ht := tlt t
    have eb : tb ⟨t.val - 1, Nat.lt_of_le_of_lt (Nat.sub_le _ _) t.isLt⟩ = tb t := by
      apply Fin.ext
      simp only [tb]
      omega
    rw [eb] at this
    rw [← this]
    exact readAt_qs _ _ _ h n

theorem factC_8 (c : Dev nD) (t : Fin cfg0.N) (h0 : ¬ t.val % 16 = 0) (h1 : ¬ t.val % 16 < 4) (Y6 : Vec Ideal S1x2x4096x128 .fp8e4m3) (F6 : Fd m c 6 t Y6) : R6 m c t Y6 := by
  have hp : R6 m c _ Y6 := Fd_prev m c 6 t Y6 F6 rfl rfl h0 flush0_6
  unfold R6 at hp ⊢
  rw [tb_prev t h0] at hp
  exact hp

theorem factC_9 (c : Dev nD) (t : Fin cfg0.N) (h0 : ¬ t.val % 16 = 0) (h1 : ¬ t.val % 16 < 4) (Y7 : Vec Ideal S1x2x64 .f32) (F7 : Fd m c 7 t Y7) : R7 m c t Y7 := by
  have hp : R7 m c _ Y7 := Fd_prev m c 7 t Y7 F7 rfl rfl h0 flush0_7
  unfold R7 at hp ⊢
  rw [tb_prev t h0] at hp
  exact hp

theorem factC_10 (c : Dev nD) (t : Fin cfg0.N) (h0 : ¬ t.val % 16 = 0) (h1 : ¬ t.val % 16 < 4) (Y8 : Vec Ideal S1x2x4096x128 .fp8e4m3) (F8 : Fd m c 8 t Y8) : R8 m c t Y8 := by
  have hp : R8 m c _ Y8 := Fd_prev m c 8 t Y8 F8 rfl rfl h0 flush0_8
  unfold R8 at hp ⊢
  rw [tb_prev t h0] at hp
  exact hp

theorem factC_11 (c : Dev nD) (t : Fin cfg0.N) (h0 : ¬ t.val % 16 = 0) (h1 : ¬ t.val % 16 < 4) (Y9 : Vec Ideal S1x2x128 .f32) (F9 : Fd m c 9 t Y9) : R9 m c t Y9 := by
  have hp : R9 m c _ Y9 := Fd_prev m c 9 t Y9 F9 rfl rfl h0 flush0_9
  unfold R9 at hp ⊢
  rw [tb_prev t h0] at hp
  exact hp

theorem factC_12 (c : Dev nD) (t : Fin cfg0.N) (h0 : ¬ t.val % 16 = 0) (h1 : ¬ t.val % 16 < 4) (D0 : Vec Ideal S2x64x128 .f32) (G0 : S0 m c t.val D0) : S0 m c (t.val + 1) D0 := fun b hb hn => G0 b (by omega) h0

theorem factC_13 (c : Dev nD) (t : Fin cfg0.N) (h0 : ¬ t.val % 16 = 0) (h1 : ¬ t.val % 16 < 4) (D1 : Vec Ideal S2x128x4096 .fp8e4m3) (G1 : S1 m c t.val D1) : S1 m c (t.val + 1) D1 := fun b hb hn => G1 b (by omega) h0

theorem factC_17 (c : Dev nD) (t : Fin cfg0.N) (h0 : ¬ t.val % 16 = 0) (h1 : ¬ t.val % 16 < 4) (Y5 : Vec Ideal S1x8x32 .f32) (F5 : Fd m c 5 t Y5) (Y6 : Vec Ideal S1x2x4096x128 .fp8e4m3) (F6 : Fd m c 6 t Y6) (Y9 : Vec Ideal S1x2x128 .f32) (F9 : Fd m c 9 t Y9) (D0 : Vec Ideal S2x64x128 .f32) (G0 : S0 m c t.val D0) (D1 : Vec Ideal S2x128x4096 .fp8e4m3) (G1 : S1 m c t.val D1) (D5 : Vec Ideal S1152x512 .fp8e4m3) (G5 : S5 m c t.val D5)  :
    S5 m c (t.val + 1) (sc5.view.read (Elt Ideal) (sc5.view.writes (Elt Ideal) (Memref.IsWhole.unread (m := sc5) (Memref.isWhole_whole _) D5) (runC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) (fun h => h1 ((hcond2 t).mp h)) ((hcond3 t).mpr (by omega)) (iblk m c 0 t) Y5 Y6 Y9 D0 D1 D5).2.2.2.1)) := by
  intro _ s R L hR
  rw [runC_p]
  refine (out_3 c (grid0.coords t) (ms0 t) (hs0 t) (ms6 t) (hs6 t) sc0 (Memref.isWhole_whole _) sc2 sc3 sc4 ((hcond3 t).mpr (by omega)) (iblk m c 0 t) Y6 D0 sc5.view _ s R L hR).trans ?_
  rw [Memref.IsWhole.read_unread]
  exact G5 h0 s R L hR

end Cert.KernelIdeal.Hand

end
-- ==== Proof.Ideal.Sound.lean ====
module

public import proofs.«01_k».proof.Proof.Ideal.Facts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! Every point keeps the invariant. -/

set_option maxHeartbeats 4000000 in
/-- A point of kind A keeps the invariant. -/
theorem soundA (c : Dev nD) (t : Fin cfg0.N) (h0 : t.val % 16 = 0) : Sound m c t := by
  intro Y3 Y4 Y5 Y6 Y7 Y8 Y9 D0 D1 D2 D3 D4 D5 F3 F4 F5 F6 F7 F8 F9 G0 G1 G5 K
  have hr := (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((hcond1 t).mpr h0) ((hcond2 t).mpr (by omega)) (fun h => by have := (hcond3 t).mp h; omega) (iblk m c 0 t) (iblk m c 1 t) (iblk m c 2 t) D0).2.2.2.2.2.2.2.2.2 Set.univ K
  iintro ⟨H0, H1, H2, H3, H4, H5, H6, H7, H8, H9, HS0, HS1, HS2, HS3, HS4, HS5, Hk⟩
  iapply hr
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, ⟨%f5, H3⟩, ⟨%f6, H4⟩, ⟨%f7, H5⟩, ⟨%f8, H6⟩, ⟨%f9, H7⟩, ⟨%f10, H8⟩, ⟨%f11, H9⟩, HS0, ⟨%f13, HS1⟩, ⟨%f14, HS2⟩, ⟨%f15, HS3⟩, ⟨%f16, HS4⟩, ⟨%f17, HS5⟩⟩
  iapply Hk
  isplitl [H0]
  · iexact H0
  isplitl [H1]
  · iexact H1
  isplitl [H2]
  · iexact H2
  isplitl [H3]
  · iexists _; isplitr; swap
    · iexact H3
    ipureintro; exact factA_5 m c t h0 _
  isplitl [H4]
  · iexists _; isplitr; swap
    · iapply owns_intro; iexact H4
    ipureintro; exact factA_6 m c t h0 D0 G0 f6
  isplitl [H5]
  · iexists _; isplitr; swap
    · iapply owns_intro; iexact H5
    ipureintro; exact factA_7 m c t h0 D0 G0 f7
  isplitl [H6]
  · iexists _; isplitr; swap
    · iapply owns_intro; iexact H6
    ipureintro; exact factA_8 m c t h0 D0 G0 f8
  isplitl [H7]
  · iexists _; isplitr; swap
    · iapply owns_intro; iexact H7
    ipureintro; exact factA_9 m c t h0 D0 G0 f9
  isplitl [H8]
  · iexists _; isplitr; swap
    · iapply owns_intro; iexact H8
    ipureintro; exact factA_10 m c t h0 D0 G0 f10
  isplitl [H9]
  · iexists _; isplitr; swap
    · iapply owns_intro; iexact H9
    ipureintro; exact factA_11 m c t h0 D0 G0 f11
  isplitl [HS0]
  · iexists _; isplitr; swap
    · iapply owns_intro; iexact HS0
    ipureintro; exact factA_12 m c t h0 D0 G0
  isplitl [HS1]
  · iexists _; isplitr; swap
    · iapply owns_intro; iexact HS1
    ipureintro; exact factA_13 m c t h0 D0 G0 f13
  isplitl [HS2]
  · iexists _; iexact HS2
  isplitl [HS3]
  · iexists _; iexact HS3
  isplitl [HS4]
  · iexists _; iexact HS4
  iexists _; isplitr; swap
  · iapply owns_intro; iexact HS5
  ipureintro; exact factA_17 m c t h0 D0 G0 f17

set_option maxHeartbeats 4000000 in
/-- A point of kind B keeps the invariant. -/
theorem soundB (c : Dev nD) (t : Fin cfg0.N) (h0 : ¬ t.val % 16 = 0) (h1 : t.val % 16 < 4) : Sound m c t := by
  intro Y3 Y4 Y5 Y6 Y7 Y8 Y9 D0 D1 D2 D3 D4 D5 F3 F4 F5 F6 F7 F8 F9 G0 G1 G5 K
  have hr := (runB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) ((hcond2 t).mpr h1) (fun h => by have := (hcond3 t).mp h; omega) (iblk m c 0 t) Y5).2.2 Set.univ K
  iintro ⟨H0, H1, H2, H3, H4, H5, H6, H7, H8, H9, HS0, HS1, HS2, HS3, HS4, HS5, Hk⟩
  iapply hr
  isplitl [H0]; · iexact H0
  isplitl [H4]; · iexists _; iexact H4
  isplitl [H5]; · iexact H5
  isplitl [HS2]; · iexists _; iexact HS2
  isplitl [HS3]; · iexists _; iexact HS3
  iintro ⟨H0, ⟨%f6, H4⟩, H5, ⟨%f14, HS2⟩, ⟨%f15, HS3⟩⟩
  iapply Hk
  isplitl [H0]
  · iexact H0
  isplitl [H1]
  · iexact H1
  isplitl [H2]
  · iexact H2
  isplitl [H3]
  · iexists _; isplitr; swap
    · iexact H3
    ipureintro; exact factB_5 m c t h0 h1 Y3 F3
  isplitl [H4]
  · iexists _; isplitr; swap
    · iapply owns_intro; iexact H4
    ipureintro; exact factB_6 m c t h0 h1 Y5 F5 f6
  isplitl [H5]
  · iexists _; isplitr; swap
    · iapply owns_intro; iexact H5
    ipureintro; exact factB_7 m c t h0 h1 Y5 F5
  isplitl [H6]
  · iexists _; isplitr; swap
    · iexact H6
    ipureintro; exact factB_8 m c t h0 h1 Y6 F6
  isplitl [H7]
  · iexists _; isplitr; swap
    · iexact H7
    ipureintro; exact factB_9 m c t h0 h1 Y7 F7
  isplitl [H8]
  · iexists _; isplitr; swap
    · iexact H8
    ipureintro; exact factB_10 m c t h0 h1 Y8 F8
  isplitl [H9]
  · iexists _; isplitr; swap
    · iexact H9
    ipureintro; exact factB_11 m c t h0 h1 Y9 F9
  isplitl [HS0]
  · iexists _; isplitr; swap
    · iexact HS0
    ipureintro; exact factB_12 m c t h0 h1 D0 G0
  isplitl [HS1]
  · iexists _; isplitr; swap
    · iexact HS1
    ipureintro; exact factB_13 m c t h0 h1 D1 G1
  isplitl [HS2]
  · iexists _; iexact HS2
  isplitl [HS3]
  · iexists _; iexact HS3
  isplitl [HS4]
  · iexists _; iexact HS4
  iexists _; isplitr; swap
  · iexact HS5
  ipureintro; exact factB_17 m c t h0 h1 D5 G5

set_option maxHeartbeats 4000000 in
/-- A point of kind C keeps the invariant. -/
theorem soundC (c : Dev nD) (t : Fin cfg0.N) (h0 : ¬ t.val % 16 = 0) (h1 : ¬ t.val % 16 < 4) : Sound m c t := by
  intro Y3 Y4 Y5 Y6 Y7 Y8 Y9 D0 D1 D2 D3 D4 D5 F3 F4 F5 F6 F7 F8 F9 G0 G1 G5 K
  have hr := (runC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((hcond1 t).mp h)) (fun h => h1 ((hcond2 t).mp h)) ((hcond3 t).mpr (by omega)) (iblk m c 0 t) Y5 Y6 Y9 D0 D1 D5).2.2.2.2 Set.univ K
  iintro ⟨H0, H1, H2, H3, H4, H5, H6, H7, H8, H9, HS0, HS1, HS2, HS3, HS4, HS5, Hk⟩
  iapply hr
  isplitl [H0]; · iexact H0
  isplitl [H3]; · iexists _; iexact H3
  isplitl [H4]; · iexists _; iexact H4
  isplitl [H5]; · iexact H5
  isplitl [H6]; · iexact H6
  isplitl [H9]; · iexact H9
  isplitl [HS0]; · iexact HS0
  isplitl [HS1]; · iexact HS1
  isplitl [HS2]; · iexists _; iexact HS2
  isplitl [HS3]; · iexists _; iexact HS3
  isplitl [HS4]; · iexists _; iexact HS4
  isplitl [HS5]; · iexact HS5
  iintro ⟨H0, ⟨%f5, H3⟩, ⟨%f6, H4⟩, H5, H6, H9, HS0, HS1, ⟨%f14, HS2⟩, ⟨%f15, HS3⟩, ⟨%f16, HS4⟩, HS5⟩
  iapply Hk
  isplitl [H0]
  · iexact H0
  isplitl [H1]
  · iexact H1
  isplitl [H2]
  · iexact H2
  isplitl [H3]
  · iexists _; isplitr; swap
    · iapply owns_intro; iexact H3
    ipureintro; exact factC_5 m c t h0 h1 Y5 F5 Y6 F6 Y9 F9 D0 G0 D1 G1 D5 G5 f5
  isplitl [H4]
  · iexists _; isplitr; swap
    · iapply owns_intro; iexact H4
    ipureintro; exact factC_6 m c t h0 h1 Y5 F5 Y6 F6 Y9 F9 D0 G0 D1 G1 D5 G5 f6
  isplitl [H5]
  · iexists _; isplitr; swap
    · iapply owns_intro; iexact H5
    ipureintro; exact factC_7 m c t h0 h1 Y5 F5 Y6 F6 Y9 F9 D0 G0 D1 G1 D5 G5
  isplitl [H6]
  · iexists _; isplitr; swap
    · iexact H6
    ipureintro; exact factC_8 m c t h0 h1 Y6 F6
  isplitl [H7]
  · iexists _; isplitr; swap
    · iexact H7
    ipureintro; exact factC_9 m c t h0 h1 Y7 F7
  isplitl [H8]
  · iexists _; isplitr; swap
    · iexact H8
    ipureintro; exact factC_10 m c t h0 h1 Y8 F8
  isplitl [H9]
  · iexists _; isplitr; swap
    · iexact H9
    ipureintro; exact factC_11 m c t h0 h1 Y9 F9
  isplitl [HS0]
  · iexists _; isplitr; swap
    · iexact HS0
    ipureintro; exact factC_12 m c t h0 h1 D0 G0
  isplitl [HS1]
  · iexists _; isplitr; swap
    · iexact HS1
    ipureintro; exact factC_13 m c t h0 h1 D1 G1
  isplitl [HS2]
  · iexists _; iexact HS2
  isplitl [HS3]
  · iexists _; iexact HS3
  isplitl [HS4]
  · iexists _; iexact HS4
  iexists _; isplitr; swap
  · iapply owns_intro; iexact HS5
  ipureintro; exact factC_17 m c t h0 h1 Y5 F5 Y6 F6 Y9 F9 D0 G0 D1 G1 D5 G5

/-- Every point keeps the invariant. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 16 = 0
  · exact sound_of m c t (soundA m c t h0)
  by_cases h1 : t.val % 16 < 4
  · exact sound_of m c t (soundB m c t h0 h1)
  · exact sound_of m c t (soundC m c t h0 h1)

/-- The body obligation of the pipeline. -/
theorem body_obligation (c : Dev nD) :
    Pipeline.BodyObligationRel (dats m 0 c) (defs₀ (F := Ideal)) Variants.none () Set.univ forgets (Rl m c) := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [PhiA_eq]
  rw [show (dats m 0 c).Φ 0 = iprop(iprop((∃ d, ⌜S0 m c 0 d⌝ ∗ owns (c : Thread nD τ) sc0 fullShare d) ∗ (∃ d, ⌜S1 m c 0 d⌝ ∗ owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, ⌜S5 m c 0 d⌝ ∗ owns (c : Thread nD τ) sc5 fullShare d)) ∗ (∃ r, prngReg c r)) from rfl]
  iintro ⟨⟨⟨%D0, HS0⟩, ⟨%D1, HS1⟩, HS2, HS3, HS4, ⟨%D5, HS5⟩⟩, Hg⟩
  isplitl [HS0 HS1 HS2 HS3 HS4 HS5]
  · isplitl [HS0]
    · iexists D0; isplitr; swap
      · iexact HS0
      ipureintro; exact S0_zero m c D0
    isplitl [HS1]
    · iexists D1; isplitr; swap
      · iexact HS1
      ipureintro; exact S1_zero m c D1
    isplitl [HS2]; · iexact HS2
    isplitl [HS3]; · iexact HS3
    isplitl [HS4]; · iexact HS4
    iexists D5; isplitr; swap
    · iexact HS5
    ipureintro; exact S5_zero m c D5
  iexact Hg

theorem Phi_out (c : Dev nD) : (dats m 0 c).Φ (Fin.last cfg0.N) ⊢ (Pipeline.ΦA spec0 c : sProp 𝕄) := by
  rw [PhiA_eq]
  rw [show (dats m 0 c).Φ (Fin.last cfg0.N) = iprop(iprop((∃ d, ⌜S0 m c cfg0.N d⌝ ∗ owns (c : Thread nD τ) sc0 fullShare d) ∗ (∃ d, ⌜S1 m c cfg0.N d⌝ ∗ owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, ⌜S5 m c cfg0.N d⌝ ∗ owns (c : Thread nD τ) sc5 fullShare d)) ∗ (∃ r, prngReg c r)) from rfl]
  iintro ⟨⟨⟨%D0, -, HS0⟩, ⟨%D1, -, HS1⟩, HS2, HS3, HS4, ⟨%D5, -, HS5⟩⟩, Hg⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexists _; iexact HS5
  iexact Hg

/-- The proof data of the run, the results told by their relation. -/
def rdats (c : Dev nD) : Pipeline.RDat τ (Elt Ideal) Unit ℕ (UR sig nD τ) ℕ (cfgs 0) c := (dats m 0 c).toRRel forgets (Rl m c)

set_option backward.isDefEq.respectTransparency.types false in
/-- The launch: the run ends, with every counter at zero. -/
theorem run_main_quiescent : θ_run defs (onTc (τ := τ) (main (F := Ideal))) (s₀ m ρ) (fun r => (Pipeline.RDat.FramePost (cfgs 0) (rdats m) (V m)) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := Phi_in m) (hout := Phi_out m)
    (hQ' := fun _ h => h)

/-- The frame: the arguments end unchanged, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (rdats m) (A_eq m) ((θ_run defs _ _).mono (fun _ h => h.1) (run_main_quiescent m ρ)))
    ((θ_run defs _ _).mono (fun _ h => h.2) (run_main_quiescent m ρ))

end Cert.KernelIdeal.Hand

end
-- ==== Proof.Ideal.Final.lean ====
module

public import proofs.«01_k».proof.Proof.Ideal.Sound
public import Idealize.ShloMosaic.Lib.Pipeline.ArrRel

/-! The arrays of the results after the run, where a point's blocks are told. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

theorem idx3 : ∀ t : Fin cfg0.N, win0_3.index t = ![t.val / 16, t.val % 16, 0] := by decide +kernel
theorem idx4 : ∀ t : Fin cfg0.N, win0_4.index t = ![t.val / 16, t.val % 16, 0, 0] := by decide +kernel
theorem idx5 : ∀ t : Fin cfg0.N, win0_5.index t = ![t.val / 16, 0, 0] := by decide +kernel
theorem idx6 : ∀ t : Fin cfg0.N, win0_6.index t = ![t.val / 16, 0, 0, 0] := by decide +kernel
theorem idx7 : ∀ t : Fin cfg0.N, win0_7.index t = ![t.val / 16, 0, 0] := by decide +kernel
theorem idx8 : ∀ t : Fin cfg0.N, win0_8.index t = ![t.val / 16, 0, 0, 0] := by decide +kernel
theorem idx9 : ∀ t : Fin cfg0.N, win0_9.index t = ![t.val / 16, 0, 0] := by decide +kernel

/-- The attention over the window of a query, as an array. -/
def G3 (c : Dev nD) : Vec Ideal S9x4096x1024 .bf16 := fun y =>
  have h2 : (y 2).val < 1024 := (y 2).isLt
  Ov (argX m c) (argK m c) (argV m c) (y 0) ⟨(y 2).val / 512, by omega⟩ (y 1) ⟨(y 2).val / 128 % 4, by omega⟩ ⟨(y 2).val % 128, by omega⟩

/-- The codes of the queries, as an array. -/
def G4 (c : Dev nD) : Vec Ideal S9x4096x8x128 .fp8e4m3 := fun y => Qc (argX m c) (y 0) (y 1) (y 2) (y 3)

/-- The scales of the queries, as an array. -/
def G5 (c : Dev nD) : Vec Ideal S9x8x32 .f32 := fun y => Pow2.scale (Qs (argX m c) (y 0) (y 2) (y 1))

/-- The codes of the keys, as an array. -/
def G6 (c : Dev nD) : Vec Ideal S9x2x4096x128 .fp8e4m3 := fun y => Kc (argK m c) (y 0) (y 1) (y 2) (y 3)

/-- The scales of the keys, as an array. -/
def G7 (c : Dev nD) : Vec Ideal S9x2x64 .f32 := fun y => Pow2.scale (Ks (argK m c) (y 0) (y 1) (y 2))

/-- The codes of the values, as an array. -/
def G8 (c : Dev nD) : Vec Ideal S9x2x4096x128 .fp8e4m3 := fun y => Vc (argV m c) (y 0) (y 1) (y 2) (y 3)

/-- The scales of the values, as an array. -/
def G9 (c : Dev nD) : Vec Ideal S9x2x128 .f32 := fun y => Pow2.scale (Vs (argV m c) (y 0) (y 1) (y 2))

theorem final3 (r : PUnit × MemSt nD τ sig (Elt Ideal)) (h : Pipeline.RDat.FramePost (cfgs 0) (rdats m) (V m) r) (c : Dev nD)
    (i : S9x4096x1024.Idx) (hi : 1024 ≤ (i 1).val) :
    r.2.mem ((c : Thread nD τ).loc main_v0_0) i = G3 m c i := by
  obtain ⟨after, hL, hA⟩ := Pipeline.RDat.FramePost.exists_exact h c
  refine (congrFun (hA 3) i).trans ?_
  refine Pipeline.Dat.arrAt_forall_of_covers _ (3 : Fin cfg0.W) (fun i v => 1024 ≤ (i 1).val → v = G3 m c i) (by decide +kernel) (fun t hf y hy => ?_) i
    (Memref.isWhole_whole _) hi
  have hR : R3 m c t (after 3 t) := (dats m 0 c).toRRel_leaves rfl (hL 3 t hf)
  have ht := tlt t
  have h0 : (y 0).val < 1 := (y 0).isLt
  have h1 : (y 1).val < 256 := (y 1).isLt
  have h2 : (y 2).val < 1024 := (y 2).isLt
  have ei := idx3 t
  have hy1 : 1024 ≤ win0_3.index t 1 * 256 + 1 * (y 1).val := hy
  have hy1 : 1024 ≤ t.val % 16 * 256 + 1 * (y 1).val := by rw [ei] at hy1; exact hy1
  have e := hR (by omega) ⟨(y 1).val, h1⟩ ⟨(y 2).val / 512, by omega⟩ ⟨(y 2).val / 128 % 4, by omega⟩ ⟨(y 2).val % 128, by omega⟩
  blk_simp
  refine Eq.trans ?_ (e.trans ?_)
  · refine congrArg (after 3 t) (funext fun a => Fin.ext ?_)
    match a with
    | ⟨0, _⟩ => show (y 0).val = 0; omega
    | ⟨1, _⟩ => rfl
    | ⟨2, _⟩ => show (y 2).val = 512 * ((y 2).val / 512) + 128 * ((y 2).val / 128 % 4) + (y 2).val % 128; omega
  · have e2 : win0_3.index t 2 * 1024 + 1 * (y 2).val = (y 2).val := by
      rw [ei]; show 0 * 1024 + 1 * (y 2).val = (y 2).val; omega
    show Ov _ _ _ _ _ _ _ _ = Ov _ _ _ _ _ _ _ _
    congr 1 <;> apply Fin.ext
    · show t.val / 16 = win0_3.index t 0 * 1 + 1 * (y 0).val
      rw [ei]; show t.val / 16 = t.val / 16 * 1 + 1 * (y 0).val; omega
    · show (y 2).val / 512 = (win0_3.index t 2 * 1024 + 1 * (y 2).val) / 512
      rw [e2]
    · show 256 * (t.val % 16) + (y 1).val = win0_3.index t 1 * 256 + 1 * (y 1).val
      rw [ei]; show 256 * (t.val % 16) + (y 1).val = t.val % 16 * 256 + 1 * (y 1).val; omega
    · show (y 2).val / 128 % 4 = (win0_3.index t 2 * 1024 + 1 * (y 2).val) / 128 % 4
      rw [e2]
    · show (y 2).val % 128 = (win0_3.index t 2 * 1024 + 1 * (y 2).val) % 128
      rw [e2]

theorem final4 (r : PUnit × MemSt nD τ sig (Elt Ideal)) (h : Pipeline.RDat.FramePost (cfgs 0) (rdats m) (V m) r) (c : Dev nD) :
    r.2.mem ((c : Thread nD τ).loc main_v0_1) = G4 m c := by
  obtain ⟨after, hL, hA⟩ := Pipeline.RDat.FramePost.exists_exact h c
  refine (hA 4).trans ?_
  refine Pipeline.Dat.arrAt_eq_of_covers _ (4 : Fin cfg0.W) (G4 m c) (by decide +kernel) fun t hf y => ?_
  have hR : R4 m c t (after 4 t) := (dats m 0 c).toRRel_leaves rfl (hL 4 t hf)
  have ht := tlt t
  have h0 : (y 0).val < 1 := (y 0).isLt
  have h1 : (y 1).val < 256 := (y 1).isLt
  have h2 : (y 2).val < 8 := (y 2).isLt
  have h3 : (y 3).val < 128 := (y 3).isLt
  have e := hR ⟨(y 1).val, h1⟩ ⟨(y 2).val, h2⟩ ⟨(y 3).val, h3⟩
  blk_simp
  refine Eq.trans ?_ (e.trans ?_)
  · refine congrArg (after 4 t) (funext fun a => Fin.ext ?_)
    match a with
    | ⟨0, _⟩ => show (y 0).val = 0; omega
    | ⟨1, _⟩ => rfl
    | ⟨2, _⟩ => rfl
    | ⟨3, _⟩ => rfl
  · show Qc _ _ _ _ _ = Qc _ _ _ _ _
    have e4 := idx4 t
    congr 1 <;> apply Fin.ext
    · show t.val / 16 = win0_4.index t 0 * 1 + 1 * (y 0).val
      rw [e4]; show t.val / 16 = t.val / 16 * 1 + 1 * (y 0).val; omega
    · show 256 * (t.val % 16) + (y 1).val = win0_4.index t 1 * 256 + 1 * (y 1).val
      rw [e4]; show 256 * (t.val % 16) + (y 1).val = t.val % 16 * 256 + 1 * (y 1).val; omega
    · show (y 2).val = win0_4.index t 2 * 8 + 1 * (y 2).val
      rw [e4]; show (y 2).val = 0 * 8 + 1 * (y 2).val; omega
    · show (y 3).val = win0_4.index t 3 * 128 + 1 * (y 3).val
      rw [e4]; show (y 3).val = 0 * 128 + 1 * (y 3).val; omega

theorem final5 (r : PUnit × MemSt nD τ sig (Elt Ideal)) (h : Pipeline.RDat.FramePost (cfgs 0) (rdats m) (V m) r) (c : Dev nD) :
    r.2.mem ((c : Thread nD τ).loc main_v0_2) = G5 m c := by
  obtain ⟨after, hL, hA⟩ := Pipeline.RDat.FramePost.exists_exact h c
  refine (hA 5).trans ?_
  refine Pipeline.Dat.arrAt_eq_of_covers _ (5 : Fin cfg0.W) (G5 m c) (by decide +kernel) fun t hf y => ?_
  have hR : R5 m c t (after 5 t) := (dats m 0 c).toRRel_leaves rfl (hL 5 t hf)
  have ht := tlt t
  have h0 : (y 0).val < 1 := (y 0).isLt
  have h1 : (y 1).val < 8 := (y 1).isLt
  have h2 : (y 2).val < 32 := (y 2).isLt
  have e := hR ⟨(y 1).val, h1⟩ ⟨(y 2).val, h2⟩ (by have := (flush0_5 t).mp hf; simp only; omega)
  blk_simp
  refine Eq.trans ?_ (e.trans ?_)
  · refine congrArg (after 5 t) (funext fun a => Fin.ext ?_)
    match a with
    | ⟨0, _⟩ => show (y 0).val = 0; omega
    | ⟨1, _⟩ => rfl
    | ⟨2, _⟩ => rfl
  · show Pow2.scale (Qs _ _ _ _) = Pow2.scale (Qs _ _ _ _)
    have e5 := idx5 t
    congr 2 <;> apply Fin.ext
    · show t.val / 16 = win0_5.index t 0 * 1 + 1 * (y 0).val
      rw [e5]; show t.val / 16 = t.val / 16 * 1 + 1 * (y 0).val; omega
    · show (y 2).val = win0_5.index t 2 * 32 + 1 * (y 2).val
      rw [e5]; show (y 2).val = 0 * 32 + 1 * (y 2).val; omega
    · show (y 1).val = win0_5.index t 1 * 8 + 1 * (y 1).val
      rw [e5]; show (y 1).val = 0 * 8 + 1 * (y 1).val; omega

theorem final6 (r : PUnit × MemSt nD τ sig (Elt Ideal)) (h : Pipeline.RDat.FramePost (cfgs 0) (rdats m) (V m) r) (c : Dev nD) :
    r.2.mem ((c : Thread nD τ).loc main_v0_3) = G6 m c := by
  obtain ⟨after, hL, hA⟩ := Pipeline.RDat.FramePost.exists_exact h c
  refine (hA 6).trans ?_
  refine Pipeline.Dat.arrAt_eq_of_covers _ (6 : Fin cfg0.W) (G6 m c) (by decide +kernel) fun t hf y => ?_
  have hR : R6 m c t (after 6 t) := (dats m 0 c).toRRel_leaves rfl (hL 6 t hf)
  have ht := tlt t
  have h0 : (y 0).val < 1 := (y 0).isLt
  have e := congrFun hR y
  blk_simp
  refine e.trans ?_
  show Kc _ _ _ _ _ = Kc _ _ _ _ _
  have ei := idx6 t
  congr 1 <;> apply Fin.ext
  · show t.val / 16 = win0_6.index t 0 * 1 + 1 * (y 0).val
    rw [ei]; show t.val / 16 = t.val / 16 * 1 + 1 * (y 0).val; omega
  · show (y 1).val = win0_6.index t 1 * 2 + 1 * (y 1).val
    rw [ei]; show (y 1).val = 0 * 2 + 1 * (y 1).val; omega
  · show (y 2).val = win0_6.index t 2 * 4096 + 1 * (y 2).val
    rw [ei]; show (y 2).val = 0 * 4096 + 1 * (y 2).val; omega
  · show (y 3).val = win0_6.index t 3 * 128 + 1 * (y 3).val
    rw [ei]; show (y 3).val = 0 * 128 + 1 * (y 3).val; omega

theorem final7 (r : PUnit × MemSt nD τ sig (Elt Ideal)) (h : Pipeline.RDat.FramePost (cfgs 0) (rdats m) (V m) r) (c : Dev nD) :
    r.2.mem ((c : Thread nD τ).loc main_v0_4) = G7 m c := by
  obtain ⟨after, hL, hA⟩ := Pipeline.RDat.FramePost.exists_exact h c
  refine (hA 7).trans ?_
  refine Pipeline.Dat.arrAt_eq_of_covers _ (7 : Fin cfg0.W) (G7 m c) (by decide +kernel) fun t hf y => ?_
  have hR : R7 m c t (after 7 t) := (dats m 0 c).toRRel_leaves rfl (hL 7 t hf)
  have ht := tlt t
  have h0 : (y 0).val < 1 := (y 0).isLt
  have e := congrFun hR y
  blk_simp
  refine e.trans ?_
  show Pow2.scale (Ks _ _ _ _) = Pow2.scale (Ks _ _ _ _)
  have ei := idx7 t
  congr 2 <;> apply Fin.ext
  · show t.val / 16 = win0_7.index t 0 * 1 + 1 * (y 0).val
    rw [ei]; show t.val / 16 = t.val / 16 * 1 + 1 * (y 0).val; omega
  · show (y 1).val = win0_7.index t 1 * 2 + 1 * (y 1).val
    rw [ei]; show (y 1).val = 0 * 2 + 1 * (y 1).val; omega
  · show (y 2).val = win0_7.index t 2 * 64 + 1 * (y 2).val
    rw [ei]; show (y 2).val = 0 * 64 + 1 * (y 2).val; omega

theorem final8 (r : PUnit × MemSt nD τ sig (Elt Ideal)) (h : Pipeline.RDat.FramePost (cfgs 0) (rdats m) (V m) r) (c : Dev nD) :
    r.2.mem ((c : Thread nD τ).loc main_v0_5) = G8 m c := by
  obtain ⟨after, hL, hA⟩ := Pipeline.RDat.FramePost.exists_exact h c
  refine (hA 8).trans ?_
  refine Pipeline.Dat.arrAt_eq_of_covers _ (8 : Fin cfg0.W) (G8 m c) (by decide +kernel) fun t hf y => ?_
  have hR : R8 m c t (after 8 t) := (dats m 0 c).toRRel_leaves rfl (hL 8 t hf)
  have ht := tlt t
  have h0 : (y 0).val < 1 := (y 0).isLt
  have e := congrFun hR y
  blk_simp
  refine e.trans ?_
  show Vc _ _ _ _ _ = Vc _ _ _ _ _
  have ei := idx8 t
  congr 1 <;> apply Fin.ext
  · show t.val / 16 = win0_8.index t 0 * 1 + 1 * (y 0).val
    rw [ei]; show t.val / 16 = t.val / 16 * 1 + 1 * (y 0).val; omega
  · show (y 1).val = win0_8.index t 1 * 2 + 1 * (y 1).val
    rw [ei]; show (y 1).val = 0 * 2 + 1 * (y 1).val; omega
  · show (y 2).val = win0_8.index t 2 * 4096 + 1 * (y 2).val
    rw [ei]; show (y 2).val = 0 * 4096 + 1 * (y 2).val; omega
  · show (y 3).val = win0_8.index t 3 * 128 + 1 * (y 3).val
    rw [ei]; show (y 3).val = 0 * 128 + 1 * (y 3).val; omega

theorem final9 (r : PUnit × MemSt nD τ sig (Elt Ideal)) (h : Pipeline.RDat.FramePost (cfgs 0) (rdats m) (V m) r) (c : Dev nD) :
    r.2.mem ((c : Thread nD τ).loc main_v0_6) = G9 m c := by
  obtain ⟨after, hL, hA⟩ := Pipeline.RDat.FramePost.exists_exact h c
  refine (hA 9).trans ?_
  refine Pipeline.Dat.arrAt_eq_of_covers _ (9 : Fin cfg0.W) (G9 m c) (by decide +kernel) fun t hf y => ?_
  have hR : R9 m c t (after 9 t) := (dats m 0 c).toRRel_leaves rfl (hL 9 t hf)
  have ht := tlt t
  have h0 : (y 0).val < 1 := (y 0).isLt
  have e := congrFun hR y
  blk_simp
  refine e.trans ?_
  show Pow2.scale (Vs _ _ _ _) = Pow2.scale (Vs _ _ _ _)
  have ei := idx9 t
  congr 2 <;> apply Fin.ext
  · show t.val / 16 = win0_9.index t 0 * 1 + 1 * (y 0).val
    rw [ei]; show t.val / 16 = t.val / 16 * 1 + 1 * (y 0).val; omega
  · show (y 1).val = win0_9.index t 1 * 2 + 1 * (y 1).val
    rw [ei]; show (y 1).val = 0 * 2 + 1 * (y 1).val; omega
  · show (y 2).val = win0_9.index t 2 * 128 + 1 * (y 2).val
    rw [ei]; show (y 2).val = 0 * 128 + 1 * (y 2).val; omega

/-- The run: the results' arrays, and the arguments unchanged. -/
theorem run : θ_run defs (onTc (τ := τ) (main (F := Ideal))) ⟨m, fun _ => 0, ρ⟩ fun r => ∀ c : Dev nD,
      (∀ i : S9x4096x1024.Idx, 1024 ≤ (i 1).val → r.2.mem ((c : Thread nD τ).loc main_v0_0) i = G3 m c i)
      ∧ r.2.mem ((c : Thread nD τ).loc main_v0_1) = G4 m c
      ∧ r.2.mem ((c : Thread nD τ).loc main_v0_2) = G5 m c
      ∧ r.2.mem ((c : Thread nD τ).loc main_v0_3) = G6 m c
      ∧ r.2.mem ((c : Thread nD τ).loc main_v0_4) = G7 m c
      ∧ r.2.mem ((c : Thread nD τ).loc main_v0_5) = G8 m c
      ∧ r.2.mem ((c : Thread nD τ).loc main_v0_6) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨final3 m r h.1.1 c, final4 m r h.1.1 c, final5 m r h.1.1 c, final6 m r h.1.1 c, final7 m r h.1.1 c, final8 m r h.1.1 c, final9 m r h.1.1 c, h.2.1 c⟩) (θ_run_and (run_main_quiescent m ρ) (frame m ρ))

end Cert.KernelIdeal.Hand

end
-- ==== Proof.Ref.Read.lean ====
module
public import proofs.«01_k».proof.Proof.Gen.ReferenceIdeal.Frame
public import Idealize.ShloMosaic.Lib.StableHlo.RunRead
public import Idealize.ShloMosaic.Lib.Pointwise

/-! The arrays the reference computes before its last region, each as one expression of an argument array. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ)
set_option maxHeartbeats 4000000

section Scale

variable {S : Shape} (hb : S_.BroadcastsInDim S (![] : Fin 0 → Fin S.rank))

/-- The exponent of the power of two above `y`, zero for a `y` below the smallest normal number. -/
def refExp (y : FVec Ideal S .f32) : FVec Ideal S .f32 :=
  select (cmpf .olt y (broadcastInDim S ![] hb (constant S_ .f32 0x00800000#32))) (broadcastInDim S ![] hb (constant S_ .f32 0x00000000#32))
    (addf (Host.floor (Host.divf (Host.log y) (broadcastInDim S ![] hb (Host.log (constant S_ .f32 0x40000000#32)))))
      (broadcastInDim S ![] hb (constant S_ .f32 0x3F800000#32)))

/-- A maximum magnitude over the largest code. -/
def refY (a : FVec Ideal S .f32) : FVec Ideal S .f32 := mulf a (broadcastInDim S ![] hb (constant S_ .f32 0x3B124925#32))

/-- The scale of a maximum magnitude. -/
def refScale (a : FVec Ideal S .f32) : FVec Ideal S .f32 :=
  Host.powf (broadcastInDim S ![] hb (constant S_ .f32 0x40000000#32)) (refExp hb (refY hb a))

/-- The inverse of the scale of a maximum magnitude. -/
def refInv (a : FVec Ideal S .f32) : FVec Ideal S .f32 :=
  Host.powf (broadcastInDim S ![] hb (constant S_ .f32 0x40000000#32)) (Host.negf (refExp hb (refY hb a)))

/-- The clip to the range of the codes. -/
def refClip (a : FVec Ideal S .f32) : FVec Ideal S .f32 :=
  minimumf (broadcastInDim S ![] hb (constant S_ .f32 0x43E00000#32)) (maximumf (broadcastInDim S ![] hb (constant S_ .f32 0xC3E00000#32)) a)

end Scale

/-- The values, head by head. -/
def vf (X : FVec Ideal S9x4096x256 .bf16) : FVec Ideal S9x4096x2x128 .f32 := shapeCast S9x4096x2x128 (extf .f32 X bitsLt_bf16_f32) shapeCasts_S9x4096x256_S9x4096x2x128

/-- The largest magnitude of a channel of the values. -/
def vAmax (X : FVec Ideal S9x4096x256 .bf16) : FVec Ideal S9x2x128 .f32 :=
  Host.reduce FloatOps.maximumf (Host.absf (vf X)) (constant S_ .f32 0xFF800000#32) reducesTo_S9x4096x2x128_S9x2x128_d1 h_S_

/-- The codes of the values. -/
def vCodes (X : FVec Ideal S9x4096x256 .bf16) : FVec Ideal S9x4096x2x128 .f32 :=
  refClip bcast_S_S9x4096x2x128 (mulf (vf X) (broadcastInDim S9x4096x2x128 ![0, 1, 2, 3] bcast_S9x1x2x128_S9x4096x2x128_0_1_2_3
    (broadcastInDim S9x1x2x128 ![0, 2, 3] bcast_S9x2x128_S9x1x2x128_0_2_3 (refInv bcast_S_S9x2x128 (vAmax X)))))

/-- The queries, in blocks of 128 rows. -/
def qf (X : FVec Ideal S9x4096x1024 .bf16) : FVec Ideal S9x32x128x8x128 .f32 := shapeCast S9x32x128x8x128 (extf .f32 X bitsLt_bf16_f32) shapeCasts_S9x4096x1024_S9x32x128x8x128

/-- The largest magnitude of a block of the queries. -/
def qAmax (X : FVec Ideal S9x4096x1024 .bf16) : FVec Ideal S9x32x8 .f32 :=
  Host.reduce FloatOps.maximumf (Host.absf (qf X)) (constant S_ .f32 0xFF800000#32) reducesTo_S9x32x128x8x128_S9x32x8_d2_4 h_S_

/-- The codes of the queries. -/
def qCodes (X : FVec Ideal S9x4096x1024 .bf16) : FVec Ideal S9x4096x8x128 .f32 :=
  shapeCast S9x4096x8x128 (refClip bcast_S_S9x32x128x8x128 (mulf (qf X) (broadcastInDim S9x32x128x8x128 ![0, 1, 2, 3, 4] bcast_S9x32x1x8x1_S9x32x128x8x128_0_1_2_3_4
    (broadcastInDim S9x32x1x8x1 ![0, 1, 3] bcast_S9x32x8_S9x32x1x8x1_0_1_3 (refInv bcast_S_S9x32x8 (qAmax X)))))) shapeCasts_S9x32x128x8x128_S9x4096x8x128

/-- The keys, head by head. -/
def kf (X : FVec Ideal S9x4096x256 .bf16) : FVec Ideal S9x4096x2x128 .f32 := shapeCast S9x4096x2x128 (extf .f32 X bitsLt_bf16_f32) shapeCasts_S9x4096x256_S9x4096x2x128

/-- The mean of a channel of the keys. -/
def kMean (X : FVec Ideal S9x4096x256 .bf16) : FVec Ideal S9x1x2x128 .f32 :=
  Host.divf (broadcastInDim S9x1x2x128 ![0, 2, 3] bcast_S9x2x128_S9x1x2x128_0_2_3
    (Host.reduceAdd (kf X) (constant S_ .f32 0x00000000#32) reducesTo_S9x4096x2x128_S9x2x128_d1 h_S_))
    (broadcastInDim S9x1x2x128 ![] bcast_S_S9x1x2x128 (constant S_ .f32 0x45800000#32))

/-- The keys with their mean taken off, in blocks of 64 rows. -/
def kc (X : FVec Ideal S9x4096x256 .bf16) : FVec Ideal S9x64x64x2x128 .f32 :=
  shapeCast S9x64x64x2x128 (subf (kf X) (broadcastInDim S9x4096x2x128 ![0, 1, 2, 3] bcast_S9x1x2x128_S9x4096x2x128_0_1_2_3 (kMean X))) shapeCasts_S9x4096x2x128_S9x64x64x2x128

/-- The largest magnitude of a block of the keys. -/
def kAmax (X : FVec Ideal S9x4096x256 .bf16) : FVec Ideal S9x64x2 .f32 :=
  Host.reduce FloatOps.maximumf (Host.absf (kc X)) (constant S_ .f32 0xFF800000#32) reducesTo_S9x64x64x2x128_S9x64x2_d2_4 h_S_

/-- The codes of the keys. -/
def kCodes (X : FVec Ideal S9x4096x256 .bf16) : FVec Ideal S9x4096x2x128 .f32 :=
  shapeCast S9x4096x2x128 (refClip bcast_S_S9x64x64x2x128 (mulf (kc X) (broadcastInDim S9x64x64x2x128 ![0, 1, 2, 3, 4] bcast_S9x64x1x2x1_S9x64x64x2x128_0_1_2_3_4
    (broadcastInDim S9x64x1x2x1 ![0, 1, 3] bcast_S9x64x2_S9x64x1x2x1_0_1_3 (refInv bcast_S_S9x64x2 (kAmax X)))))) shapeCasts_S9x64x64x2x128_S9x4096x2x128

section Casts

theorem tb15 (h1 h2 h3) (x) : (StableHlo.TRef.of (T := ⟨S9x32x8, .f32⟩) (sig := sig) main_v15 h1 h2 h3).toBuf (Val := Elt Ideal) x = x := rfl
theorem ob15 (h1 h2 h3) (x) : (StableHlo.TRef.of (T := ⟨S9x32x8, .f32⟩) (sig := sig) main_v15 h1 h2 h3).ofBuf (Val := Elt Ideal) x = x := rfl
theorem tb48 (h1 h2 h3) (x) : (StableHlo.TRef.of (T := ⟨S9x64x2, .f32⟩) (sig := sig) main_v48 h1 h2 h3).toBuf (Val := Elt Ideal) x = x := rfl
theorem ob48 (h1 h2 h3) (x) : (StableHlo.TRef.of (T := ⟨S9x64x2, .f32⟩) (sig := sig) main_v48 h1 h2 h3).ofBuf (Val := Elt Ideal) x = x := rfl
theorem tb74 (h1 h2 h3) (x) : (StableHlo.TRef.of (T := ⟨S9x2x128, .f32⟩) (sig := sig) main_v74 h1 h2 h3).toBuf (Val := Elt Ideal) x = x := rfl
theorem ob74 (h1 h2 h3) (x) : (StableHlo.TRef.of (T := ⟨S9x2x128, .f32⟩) (sig := sig) main_v74 h1 h2 h3).ofBuf (Val := Elt Ideal) x = x := rfl
theorem tb24 (h1 h2 h3) (x) : (StableHlo.TRef.of (T := ⟨S9x32x128x8x128, .f32⟩) (sig := sig) main_v24 h1 h2 h3).toBuf (Val := Elt Ideal) x = x := rfl
theorem ob24 (h1 h2 h3) (x) : (StableHlo.TRef.of (T := ⟨S9x32x128x8x128, .f32⟩) (sig := sig) main_v24 h1 h2 h3).ofBuf (Val := Elt Ideal) x = x := rfl
theorem tb57 (h1 h2 h3) (x) : (StableHlo.TRef.of (T := ⟨S9x64x64x2x128, .f32⟩) (sig := sig) main_v57 h1 h2 h3).toBuf (Val := Elt Ideal) x = x := rfl
theorem ob57 (h1 h2 h3) (x) : (StableHlo.TRef.of (T := ⟨S9x64x64x2x128, .f32⟩) (sig := sig) main_v57 h1 h2 h3).ofBuf (Val := Elt Ideal) x = x := rfl
theorem tb83 (h1 h2 h3) (x) : (StableHlo.TRef.of (T := ⟨S9x4096x2x128, .f32⟩) (sig := sig) main_v83 h1 h2 h3).toBuf (Val := Elt Ideal) x = x := rfl
theorem ob83 (h1 h2 h3) (x) : (StableHlo.TRef.of (T := ⟨S9x4096x2x128, .f32⟩) (sig := sig) main_v83 h1 h2 h3).ofBuf (Val := Elt Ideal) x = x := rfl
theorem ob7 (h1 h2 h3) (x) : (StableHlo.TRef.of (T := ⟨S9x32x8, .i1⟩) (sig := sig) main_v7 h1 h2 h3).ofBuf (Val := Elt Ideal) x = x := rfl
theorem ob40 (h1 h2 h3) (x) : (StableHlo.TRef.of (T := ⟨S9x64x2, .i1⟩) (sig := sig) main_v40 h1 h2 h3).ofBuf (Val := Elt Ideal) x = x := rfl
theorem ob66 (h1 h2 h3) (x) : (StableHlo.TRef.of (T := ⟨S9x2x128, .i1⟩) (sig := sig) main_v66 h1 h2 h3).ofBuf (Val := Elt Ideal) x = x := rfl
theorem ob14 (h1 h2 h3) (x) : (StableHlo.TRef.of (T := ⟨S9x32x8, .f32⟩) (sig := sig) main_v14 h1 h2 h3).ofBuf (Val := Elt Ideal) x = x := rfl
theorem ob47 (h1 h2 h3) (x) : (StableHlo.TRef.of (T := ⟨S9x64x2, .f32⟩) (sig := sig) main_v47 h1 h2 h3).ofBuf (Val := Elt Ideal) x = x := rfl
theorem ob73 (h1 h2 h3) (x) : (StableHlo.TRef.of (T := ⟨S9x2x128, .f32⟩) (sig := sig) main_v73 h1 h2 h3).ofBuf (Val := Elt Ideal) x = x := rfl
theorem ob23 (h1 h2 h3) (x) : (StableHlo.TRef.of (T := ⟨S9x32x128x8x128, .f32⟩) (sig := sig) main_v23 h1 h2 h3).ofBuf (Val := Elt Ideal) x = x := rfl
theorem ob56 (h1 h2 h3) (x) : (StableHlo.TRef.of (T := ⟨S9x64x64x2x128, .f32⟩) (sig := sig) main_v56 h1 h2 h3).ofBuf (Val := Elt Ideal) x = x := rfl
theorem ob82 (h1 h2 h3) (x) : (StableHlo.TRef.of (T := ⟨S9x4096x2x128, .f32⟩) (sig := sig) main_v82 h1 h2 h3).ofBuf (Val := Elt Ideal) x = x := rfl
theorem cb4 (h1 h2 h3) (x) : (StableHlo.TRef.of (T := ⟨S_, .f32⟩) (sig := sig) main_cst_4 h1 h2 h3).ofBuf (Val := Elt Ideal) x = x := rfl
theorem cb7 (h1 h2 h3) (x) : (StableHlo.TRef.of (T := ⟨S_, .f32⟩) (sig := sig) main_cst_7 h1 h2 h3).ofBuf (Val := Elt Ideal) x = x := rfl
theorem cb8 (h1 h2 h3) (x) : (StableHlo.TRef.of (T := ⟨S_, .f32⟩) (sig := sig) main_cst_8 h1 h2 h3).ofBuf (Val := Elt Ideal) x = x := rfl
theorem cb16 (h1 h2 h3) (x) : (StableHlo.TRef.of (T := ⟨S_, .f32⟩) (sig := sig) main_cst_16 h1 h2 h3).ofBuf (Val := Elt Ideal) x = x := rfl
theorem cb19 (h1 h2 h3) (x) : (StableHlo.TRef.of (T := ⟨S_, .f32⟩) (sig := sig) main_cst_19 h1 h2 h3).ofBuf (Val := Elt Ideal) x = x := rfl
theorem cb20 (h1 h2 h3) (x) : (StableHlo.TRef.of (T := ⟨S_, .f32⟩) (sig := sig) main_cst_20 h1 h2 h3).ofBuf (Val := Elt Ideal) x = x := rfl
theorem cb26 (h1 h2 h3) (x) : (StableHlo.TRef.of (T := ⟨S_, .f32⟩) (sig := sig) main_cst_26 h1 h2 h3).ofBuf (Val := Elt Ideal) x = x := rfl
theorem cb29 (h1 h2 h3) (x) : (StableHlo.TRef.of (T := ⟨S_, .f32⟩) (sig := sig) main_cst_29 h1 h2 h3).ofBuf (Val := Elt Ideal) x = x := rfl
theorem cb30 (h1 h2 h3) (x) : (StableHlo.TRef.of (T := ⟨S_, .f32⟩) (sig := sig) main_cst_30 h1 h2 h3).ofBuf (Val := Elt Ideal) x = x := rfl

end Casts

/-- The scales of the values. -/
theorem t76 (c : Dev nD) : V m c main_v76 = refScale bcast_S_S9x2x128 (vAmax (m ((c : Thread nD τ).loc main_arg2))) := by
  unfold V
  after_reads_simp
  simp only [StableHlo.TRef.ofBuf_toBuf, id, tb15, ob15, tb48, ob48, tb74, ob74, tb24, ob24, tb57, ob57, tb83, ob83, ob7, ob40, ob66, ob14, ob47, ob73, ob23, ob56, ob82, cb4, cb7, cb8, cb16, cb19, cb20, cb26, cb29, cb30]
  rfl

/-- The scales of the queries. -/
theorem t84 (c : Dev nD) : V m c main_v84 = transpose S9x8x32 [0, 2, 1] (refScale bcast_S_S9x32x8 (qAmax (m ((c : Thread nD τ).loc main_arg0)))) transposes_S9x32x8_S9x8x32_0_2_1 := by
  unfold V
  after_reads_simp
  simp only [StableHlo.TRef.ofBuf_toBuf, id, tb15, ob15, tb48, ob48, tb74, ob74, tb24, ob24, tb57, ob57, tb83, ob83, ob7, ob40, ob66, ob14, ob47, ob73, ob23, ob56, ob82, cb4, cb7, cb8, cb16, cb19, cb20, cb26, cb29, cb30]
  rfl

/-- The scales of the keys. -/
theorem t85 (c : Dev nD) : V m c main_v85 = transpose S9x2x64 [0, 2, 1] (refScale bcast_S_S9x64x2 (kAmax (m ((c : Thread nD τ).loc main_arg1)))) transposes_S9x64x2_S9x2x64_0_2_1 := by
  unfold V
  after_reads_simp
  simp only [StableHlo.TRef.ofBuf_toBuf, id, tb15, ob15, tb48, ob48, tb74, ob74, tb24, ob24, tb57, ob57, tb83, ob83, ob7, ob40, ob66, ob14, ob47, ob73, ob23, ob56, ob82, cb4, cb7, cb8, cb16, cb19, cb20, cb26, cb29, cb30]
  rfl

/-- The codes of the queries. -/
theorem t25 (c : Dev nD) : V m c main_v25 = qCodes (m ((c : Thread nD τ).loc main_arg0)) := by
  unfold V
  after_reads_simp
  simp only [StableHlo.TRef.ofBuf_toBuf, id, tb15, ob15, tb48, ob48, tb74, ob74, tb24, ob24, tb57, ob57, tb83, ob83, ob7, ob40, ob66, ob14, ob47, ob73, ob23, ob56, ob82, cb4, cb7, cb8, cb16, cb19, cb20, cb26, cb29, cb30]
  rfl

/-- The codes of the keys, head by head. -/
theorem t140 (c : Dev nD) : V m c main_v140 = transpose S9x2x4096x128 [0, 2, 1, 3] (kCodes (m ((c : Thread nD τ).loc main_arg1))) transposes_S9x4096x2x128_S9x2x4096x128_0_2_1_3 := by
  unfold V
  after_reads_simp
  simp only [StableHlo.TRef.ofBuf_toBuf, id, tb15, ob15, tb48, ob48, tb74, ob74, tb24, ob24, tb57, ob57, tb83, ob83, ob7, ob40, ob66, ob14, ob47, ob73, ob23, ob56, ob82, cb4, cb7, cb8, cb16, cb19, cb20, cb26, cb29, cb30]
  rfl

/-- The codes of the values, head by head. -/
theorem t141 (c : Dev nD) : V m c main_v141 = transpose S9x2x4096x128 [0, 2, 1, 3] (vCodes (m ((c : Thread nD τ).loc main_arg2))) transposes_S9x4096x2x128_S9x2x4096x128_0_2_1_3 := by
  unfold V
  after_reads_simp
  simp only [StableHlo.TRef.ofBuf_toBuf, id, tb15, ob15, tb48, ob48, tb74, ob74, tb24, ob24, tb57, ob57, tb83, ob83, ob7, ob40, ob66, ob14, ob47, ob73, ob23, ob56, ob82, cb4, cb7, cb8, cb16, cb19, cb20, cb26, cb29, cb30]
  rfl

end Cert.ReferenceIdeal.Hand
-- ==== Proof.Ref.OutRead.lean ====
module
public import proofs.«01_k».proof.Proof.Ref.Read

/-! The reference's attention as one expression of the codes and scales. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ)
set_option maxHeartbeats 4000000

/-- The scores before the mask. -/
def oRaw (kcd : FVec Ideal S9x4096x2x128 .f32) (qcd : FVec Ideal S9x4096x8x128 .f32) (qsc : FVec Ideal S9x8x32 .f32) (ksc : FVec Ideal S9x2x64 .f32) : FVec Ideal S9x2x4x4096x4096 .f32 :=
  mulf (mulf (transpose S9x2x4x4096x4096 [0, 1, 4, 3, 2] (Host.dotGeneral dot_S9x4096x2x128_S9x4096x2x4x128_S9x2x4096x4096x4_3_4_1_13_02_02 none kcd
      (shapeCast S9x4096x2x4x128 qcd shapeCasts_S9x4096x8x128_S9x4096x2x4x128)) transposes_S9x2x4096x4096x4_S9x2x4x4096x4096_0_1_4_3_2)
      (broadcastInDim S9x2x4x4096x4096 ![0, 1, 2, 3, 4] bcast_S9x2x4x4096x1_S9x2x4x4096x4096_0_1_2_3_4 (Host.divf
        (broadcastInDim S9x2x4x4096x1 ![0, 1, 2, 3] bcast_S9x2x4x4096_S9x2x4x4096x1_0_1_2_3 (shapeCast S9x2x4x4096 (shapeCast S9x8x4096
          (broadcastInDim S9x8x32x128 ![0, 1, 2] bcast_S9x8x32_S9x8x32x128_0_1_2 qsc) shapeCasts_S9x8x32x128_S9x8x4096) shapeCasts_S9x8x4096_S9x2x4x4096))
        (broadcastInDim S9x2x4x4096x1 ![] bcast_S_S9x2x4x4096x1 (Host.sqrt (constant S_ .f32 0x43000000#32))))))
    (broadcastInDim S9x2x4x4096x4096 ![0, 1, 2, 3, 4] bcast_S9x2x1x1x4096_S9x2x4x4096x4096_0_1_2_3_4 (broadcastInDim S9x2x1x1x4096 ![0, 1, 4] bcast_S9x2x4096_S9x2x1x1x4096_0_1_4
      (shapeCast S9x2x4096 (broadcastInDim S9x2x64x64 ![0, 1, 2] bcast_S9x2x64_S9x2x64x64_0_1_2 ksc) shapeCasts_S9x2x64x64_S9x2x4096)))

/-- Which keys a row sees. -/
def oMask : IVec S4096x4096 1 :=
  andi (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
    (cmpi .sgt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (subi (broadcastInDim S4096x1 ![0] bcast_S4096_S4096x1_0 (iotaInDim S4096 32 0))
        (broadcastInDim S4096x1 ![] bcast_S_S4096x1 (constantI S_ 32 1000#32)))))

/-- The masked scores. -/
def oSc (x : FVec Ideal S9x2x4x4096x4096 .f32) : FVec Ideal S9x2x4x4096x4096 .f32 :=
  select (broadcastInDim S9x2x4x4096x4096 ![3, 4] bcast_S4096x4096_S9x2x4x4096x4096_3_4 oMask) x (broadcastInDim S9x2x4x4096x4096 ![] bcast_S_S9x2x4x4096x4096 (constant S_ .f32 0xFF800000#32))

/-- The exponentials. -/
def oExp (s : FVec Ideal S9x2x4x4096x4096 .f32) : FVec Ideal S9x2x4x4096x4096 .f32 :=
  Host.exp (subf s (broadcastInDim S9x2x4x4096x4096 ![0, 1, 2, 3, 4] bcast_S9x2x4x4096x1_S9x2x4x4096x4096_0_1_2_3_4
    (broadcastInDim S9x2x4x4096x1 ![0, 1, 2, 3] bcast_S9x2x4x4096_S9x2x4x4096x1_0_1_2_3
      (Host.reduce FloatOps.maximumf s (constant S_ .f32 0xFF800000#32) reducesTo_S9x2x4x4096x4096_S9x2x4x4096_d4 h_S_))))

/-- The result from the exponentials. -/
def oRes (p : FVec Ideal S9x2x4x4096x4096 .f32) (vcd : FVec Ideal S9x4096x2x128 .f32) (vsc : FVec Ideal S9x2x128 .f32) : FVec Ideal S9x4096x2x4x128 .f32 :=
  Host.divf (mulf (transpose S9x4096x2x4x128 [0, 4, 1, 3, 2] (Host.dotGeneral dot_S9x4096x2x128_S9x2x4x4096x4096_S9x2x128x4x4096_1_4_3_23_02_01 none vcd
      (refClip bcast_S_S9x2x4x4096x4096 (mulf p (broadcastInDim S9x2x4x4096x4096 ![] bcast_S_S9x2x4x4096x4096 (constant S_ .f32 0x43800000#32)))))
      transposes_S9x2x128x4x4096_S9x4096x2x4x128_0_4_1_3_2)
      (broadcastInDim S9x4096x2x4x128 ![0, 1, 2, 3, 4] bcast_S9x1x2x1x128_S9x4096x2x4x128_0_1_2_3_4 (mulf (broadcastInDim S9x1x2x1x128 ![] bcast_S_S9x1x2x1x128 (constant S_ .f32 0x3B800000#32))
        (broadcastInDim S9x1x2x1x128 ![0, 2, 4] bcast_S9x2x128_S9x1x2x1x128_0_2_4 vsc))))
    (broadcastInDim S9x4096x2x4x128 ![0, 1, 2, 3, 4] bcast_S9x4096x2x4x1_S9x4096x2x4x128_0_1_2_3_4 (broadcastInDim S9x4096x2x4x1 ![0, 1, 2, 3] bcast_S9x4096x2x4_S9x4096x2x4x1_0_1_2_3
      (transpose S9x4096x2x4 [0, 3, 1, 2] (Host.reduceAdd p (constant S_ .f32 0x00000000#32) reducesTo_S9x2x4x4096x4096_S9x2x4x4096_d4 h_S_) transposes_S9x2x4x4096_S9x4096x2x4_0_3_1_2)))

/-- The attention. -/
def oOut (X : FVec Ideal S9x4096x1024 .bf16) (K W : FVec Ideal S9x4096x256 .bf16) : FVec Ideal S9x4096x1024 .bf16 :=
  truncf .bf16 (shapeCast S9x4096x1024 (oRes (oExp (oSc (oRaw (kCodes K) (qCodes X)
      (transpose S9x8x32 [0, 2, 1] (refScale bcast_S_S9x32x8 (qAmax X)) transposes_S9x32x8_S9x8x32_0_2_1)
      (transpose S9x2x64 [0, 2, 1] (refScale bcast_S_S9x64x2 (kAmax K)) transposes_S9x64x2_S9x2x64_0_2_1))))
    (vCodes W) (refScale bcast_S_S9x2x128 (vAmax W))) shapeCasts_S9x4096x2x4x128_S9x4096x1024) bitsLt_bf16_f32

section Casts

theorem tb117 (h1 h2 h3) (x) : (StableHlo.TRef.of (T := ⟨S9x2x4x4096x4096, .f32⟩) (sig := sig) main_v117 h1 h2 h3).toBuf (Val := Elt Ideal) x = x := rfl
theorem tb126 (h1 h2 h3) (x) : (StableHlo.TRef.of (T := ⟨S9x2x4x4096x4096, .f32⟩) (sig := sig) main_v126 h1 h2 h3).toBuf (Val := Elt Ideal) x = x := rfl
theorem ob117 (h1 h2 h3) (x) : (StableHlo.TRef.of (T := ⟨S9x2x4x4096x4096, .f32⟩) (sig := sig) main_v117 h1 h2 h3).ofBuf (Val := Elt Ideal) x = x := rfl
theorem ob126 (h1 h2 h3) (x) : (StableHlo.TRef.of (T := ⟨S9x2x4x4096x4096, .f32⟩) (sig := sig) main_v126 h1 h2 h3).ofBuf (Val := Elt Ideal) x = x := rfl
theorem ob125 (h1 h2 h3) (x) : (StableHlo.TRef.of (T := ⟨S9x2x4x4096x4096, .f32⟩) (sig := sig) main_v125 h1 h2 h3).ofBuf (Val := Elt Ideal) x = x := rfl
theorem ob102 (h1 h2 h3) (x) : (StableHlo.TRef.of (T := ⟨S9x2x4x4096x4096, .f32⟩) (sig := sig) main_v102 h1 h2 h3).ofBuf (Val := Elt Ideal) x = x := rfl
theorem ob116 (h1 h2 h3) (x) : (StableHlo.TRef.of (T := ⟨S4096x4096, .i1⟩) (sig := sig) main_v116 h1 h2 h3).ofBuf (Val := Elt Ideal) x = x := rfl
theorem cb32 (h1 h2 h3) (x) : (StableHlo.TRef.of (T := ⟨S_, .f32⟩) (sig := sig) main_cst_32 h1 h2 h3).ofBuf (Val := Elt Ideal) x = x := rfl
theorem cb36 (h1 h2 h3) (x) : (StableHlo.TRef.of (T := ⟨S_, .f32⟩) (sig := sig) main_cst_36 h1 h2 h3).ofBuf (Val := Elt Ideal) x = x := rfl
theorem cb37 (h1 h2 h3) (x) : (StableHlo.TRef.of (T := ⟨S_, .f32⟩) (sig := sig) main_cst_37 h1 h2 h3).ofBuf (Val := Elt Ideal) x = x := rfl

end Casts

/-- The reference's result. -/
theorem t139 (c : Dev nD) : V m c main_v139 = oOut (m ((c : Thread nD τ).loc main_arg0)) (m ((c : Thread nD τ).loc main_arg1)) (m ((c : Thread nD τ).loc main_arg2)) := by
  unfold V
  after_reads_simp
  simp only [StableHlo.TRef.ofBuf_toBuf, id, tb15, ob15, tb48, ob48, tb74, ob74, tb24, ob24, tb57, ob57, tb83, ob83, ob7, ob40, ob66, ob14, ob47, ob73, ob23, ob56, ob82, cb4, cb7, cb8, cb16, cb19, cb20, cb26, cb29, cb30,
    tb117, tb126, ob117, ob126, ob125, ob102, ob116, cb32, cb36, cb37]
  rfl

end Cert.ReferenceIdeal.Hand
-- ==== Proof.Ref.Pre.lean ====
module

public import proofs.«01_k».proof.Defs
public import proofs.«01_k».proof.Proof.Gen.Pre_finite
public import proofs.«01_k».proof.Proof.Ideal.QVal
public import Idealize.ShloMosaic.Lib.ReduceAll

/-! What the precondition says of the arguments: every entry has a magnitude of at most the largest finite bf16. -/

@[expose] public section

noncomputable section

namespace Cert.Hand

open Idealize.ShloMosaic Idealize.ShloMosaic.TcCoe
open Cert.KernelIdeal.Hand (eabs)

/-- The largest finite bf16. -/
def top : EReal := Ideal.ofBits .f32 0x7F7F0000#32

theorem cmp_ole (x y : EReal) (h : FloatOps.cmpf (F := Ideal) (φ := .f32) .ole x y = 1#1) : x ≤ y := by
  by_contra hn
  have : FloatOps.cmpf (F := Ideal) (φ := .f32) .ole x y = 0#1 := by
    show BitVec.ofBool (decide (x ≤ y)) = 0#1
    rw [decide_eq_false hn]; rfl
  rw [this] at h
  exact absurd h (by decide)

theorem andi_one {c d : BitVec 1} : IntOp.andi c d = 1#1 ↔ c = 1#1 ∧ d = 1#1 := by revert c d; decide

instance : Subsingleton Cert.Pre_finite.S_.Idx := ⟨fun a b => funext fun i => i.elim0⟩

theorem finite_args (x : FVec Ideal Cert.Pre_finite.S9x4096x1024 .bf16) (k v : FVec Ideal Cert.Pre_finite.S9x4096x256 .bf16)
    (h : Cert.Pre_finite.fn (F := Ideal) x k v = fun _ => 1#1) :
    (∀ i, eabs (x i) ≤ top) ∧ (∀ i, eabs (k i) ≤ top) ∧ (∀ i, eabs (v i) ≤ top) := by
  have e := congrFun h (fun a => a.elim0)
  unfold Cert.Pre_finite.fn at e
  obtain ⟨e12, e3⟩ := andi_one.mp e
  obtain ⟨e1, e2⟩ := andi_one.mp e12
  exact ⟨fun i => cmp_ole _ _ (Host.reduce_andi_all _ _ _ _ _ e1 i), fun i => cmp_ole _ _ (Host.reduce_andi_all _ _ _ _ _ e2 i),
    fun i => cmp_ole _ _ (Host.reduce_andi_all _ _ _ _ _ e3 i)⟩

end Cert.Hand

end
-- ==== Proof.Ref.QRef.lean ====
module

public import proofs.«01_k».proof.Proof.Ref.Read
public import proofs.«01_k».proof.Proof.Ref.Pre
public import proofs.«01_k».proof.Proof.Ideal.Spec

/-! The reference's quantised queries are the kernel's. -/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (eabs clip ninf32 Qs Qc)
open Cert.Hand (top)

theorem ofBits_two : Ideal.ofBits .f32 0x40000000#32 = ((2 : ℝ) : EReal) := by
  have := Pow2.ofBits_exp 128 (by norm_num) (by norm_num)
  simpa using this

theorem ofBits_zero : Ideal.ofBits .f32 0x00000000#32 = 0 := by
  simp [Ideal.ofBits, Ideal.ieee]

theorem ofBits_one : Ideal.ofBits .f32 0x3F800000#32 = 1 := by
  have := Pow2.ofBits_exp 127 (by norm_num) (by norm_num)
  simpa using this

section Scale

variable {S : Shape} (hb : S_.BroadcastsInDim S (![] : Fin 0 → Fin S.rank))

theorem refExp_apply (y : FVec Ideal S .f32) (j : S.Idx) : refExp hb y j = Pow2.rexp (y j) := by
  pointwise [refExp]
  unfold Pow2.rexp
  simp only [ofBits_two, ofBits_zero, ofBits_one, Pow2.ofBits_tiny]

theorem refScale_apply (a : FVec Ideal S .f32) (j : S.Idx) :
    refScale hb a j = Ideal.pow ((2 : ℝ) : EReal) (Pow2.rexp (a j * Ideal.ofBits .f32 0x3B124925#32)) := by
  pointwise [refScale]
  rw [refExp_apply, ofBits_two]
  pointwise [refY]

theorem refInv_apply (a : FVec Ideal S .f32) (j : S.Idx) :
    refInv hb a j = Ideal.pow ((2 : ℝ) : EReal) (-Pow2.rexp (a j * Ideal.ofBits .f32 0x3B124925#32)) := by
  pointwise [refInv]
  rw [refExp_apply, ofBits_two]
  pointwise [refY]

end Scale

theorem eabs_eq (x : EReal) : eabs x = max x (-x) := rfl

theorem eabs_nonneg (x : EReal) : 0 ≤ eabs x := by
  rw [eabs_eq]
  rcases le_total 0 x with h | h
  · exact le_max_of_le_left h
  · exact le_max_of_le_right (EReal.neg_nonneg.mpr h)

theorem small (a : EReal) (h0 : 0 ≤ a) (h : a ≤ top) : 0 ≤ a * Ideal.ofBits .f32 0x3B124925#32 ∧ a * Ideal.ofBits .f32 0x3B124925#32 < (((2 : ℝ) ^ (125 : ℤ) : ℝ) : EReal) := by
  have e1 : top = (((2 : ℝ) ^ (127 : ℤ) * (1 + 127 / 128) : ℝ) : EReal) := by
    unfold top
    simp [Ideal.ofBits, Ideal.ieee, -EReal.coe_mul]; norm_num
  have e2 : Ideal.ofBits .f32 0x3B124925#32 = ((9586981 / 4294967296 : ℝ) : EReal) := by
    simp [Ideal.ofBits, Ideal.ieee, -EReal.coe_mul]; norm_num
  rw [e1] at h
  rw [e2]
  induction a using EReal.rec with
  | bot => simp at h0
  | top => exact absurd h (not_le.mpr (EReal.coe_lt_top _))
  | coe a =>
    have h0' : (0 : ℝ) ≤ a := by exact_mod_cast h0
    have h' := EReal.coe_le_coe_iff.mp h
    rw [← EReal.coe_mul]
    constructor
    · exact_mod_cast (by positivity : (0 : ℝ) ≤ a * (9586981 / 4294967296))
    · rw [EReal.coe_lt_coe_iff]
      norm_num at h' ⊢
      linarith

theorem qAmax_apply (X : FVec Ideal S9x4096x1024 .bf16) (b : Fin 9) (n : Fin 32) (h : Fin 8) :
    qAmax X (ix3 b n h) = ⨆ r : Fin 128, ⨆ d : Fin 128, eabs (X (ix3 b ⟨128 * n + r, by omega⟩ ⟨128 * h + d, by omega⟩)) := by
  pointwise [qAmax, qf]
  rw [show (Ideal.ofBits FTy.f32 4286578688#32) = ⊥ from ninf32]
  refine le_antisymm (Finset.fold_max_le _ |>.mpr ⟨bot_le, fun i hi => ?_⟩) (iSup_le fun r => iSup_le fun d => ?_)
  · have e := (Finset.mem_filter.mp hi).2
    have e0 : i 0 = b := congrFun e 0
    have e1 : i 1 = n := congrFun e 1
    have e3 : i 3 = h := congrFun e 2
    refine le_iSup_of_le (i 2) (le_iSup_of_le (i 4) (le_of_eq ?_))
    subst e0 e1 e3
    refine congrArg (fun z => eabs (X z)) (funext fun a => Fin.ext ?_)
    match a with
    | ⟨0, _⟩ => rfl
    | ⟨1, _⟩ => show (i 1).val * 128 + (i 2).val = 128 * (i 1).val + (i 2).val; omega
    | ⟨2, _⟩ => show (i 3).val * 128 + (i 4).val = 128 * (i 3).val + (i 4).val; omega
  · refine (Finset.le_fold_max _).mpr (Or.inr ⟨ix5 b n r h d, ?_, le_of_eq ?_⟩)
    · refine Finset.mem_filter.mpr ⟨Finset.mem_univ _, funext fun a => ?_⟩
      match a with
      | ⟨0, _⟩ => rfl
      | ⟨1, _⟩ => rfl
      | ⟨2, _⟩ => rfl
    · refine congrArg (fun z => eabs (X z)) (funext fun a => Fin.ext ?_)
      match a with
      | ⟨0, _⟩ => rfl
      | ⟨1, _⟩ => show 128 * n.val + r.val = n.val * 128 + r.val; omega
      | ⟨2, _⟩ => show 128 * h.val + d.val = h.val * 128 + d.val; omega

theorem Qs_small (X : FVec Ideal S9x4096x1024 .bf16) (hX : ∀ i, eabs (X i) ≤ top) (b : Fin 9) (n : Fin 32) (h : Fin 8) :
    0 ≤ Qs X b n h ∧ Qs X b n h < (((2 : ℝ) ^ (125 : ℤ) : ℝ) : EReal) :=
  small _ (le_iSup_of_le 0 (le_iSup_of_le 0 (eabs_nonneg _))) (iSup_le fun _ => iSup_le fun _ => hX _)

/-- The scales of the queries. -/
theorem qScale_eq (X : FVec Ideal S9x4096x1024 .bf16) (hX : ∀ i, eabs (X i) ≤ top) (b : Fin 9) (n : Fin 32) (h : Fin 8) :
    refScale bcast_S_S9x32x8 (qAmax X) (ix3 b n h) = Pow2.scale (Qs X b n h) := by
  rw [refScale_apply, qAmax_apply]
  exact (Pow2.scale_inv_eq _ (Qs_small X hX b n h).1 (Qs_small X hX b n h).2).1.symm

theorem qInv_eq (X : FVec Ideal S9x4096x1024 .bf16) (hX : ∀ i, eabs (X i) ≤ top) (b : Fin 9) (n : Fin 32) (h : Fin 8) :
    refInv bcast_S_S9x32x8 (qAmax X) (ix3 b n h) = Pow2.inv (Qs X b n h) := by
  rw [refInv_apply, qAmax_apply]
  exact (Pow2.scale_inv_eq _ (Qs_small X hX b n h).1 (Qs_small X hX b n h).2).2.1.symm

/-- The codes of the queries. -/
theorem qCodes_eq (X : FVec Ideal S9x4096x1024 .bf16) (hX : ∀ i, eabs (X i) ≤ top) (b : Fin 9) (R : Fin 4096) (h : Fin 8) (d : Fin 128) :
    qCodes X (ix4 b R h d) = Qc X b R h d := by
  pointwise [qCodes, refClip, qf]
  rw [qInv_eq X hX]
  unfold Qc clip
  refine congrArg (fun z => min _ (max _ (X z * _))) (funext fun a => Fin.ext ?_)
  match a with
  | ⟨0, _⟩ => rfl
  | ⟨1, _⟩ => rfl
  | ⟨2, _⟩ => show h.val * 128 + d.val = 128 * h.val + d.val; omega

end Cert.ReferenceIdeal.Hand

end
-- ==== Proof.Ref.KVRef.lean ====
module

public import proofs.«01_k».proof.Proof.Ref.QRef

/-! The reference's quantised keys and values are the kernel's. -/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (eabs clip ninf32 col Vs Vc Kd Ks Kc)
open Cert.Hand (top)

theorem vAmax_apply (X : FVec Ideal S9x4096x256 .bf16) (b : Fin 9) (n : Fin 2) (d : Fin 128) :
    vAmax X (ix3 b n d) = ⨆ r : Fin 4096, eabs (X (ix3 b r (col n d))) := by
  pointwise [vAmax, vf]
  rw [show (Ideal.ofBits FTy.f32 4286578688#32) = ⊥ from ninf32]
  have ec : (⟨n.val * 128 + d.val, by omega⟩ : Fin 256) = col n d := Fin.ext (by show n.val * 128 + d.val = 128 * n.val + d.val; omega)
  rw [Cert.KernelIdeal.Hand.fold_max_bot]
  exact iSup_congr fun r => congrArg (fun z => eabs (X (ix3 b r z))) ec

theorem Vs_small (X : FVec Ideal S9x4096x256 .bf16) (hX : ∀ i, eabs (X i) ≤ top) (b : Fin 9) (n : Fin 2) (d : Fin 128) :
    0 ≤ Vs X b n d ∧ Vs X b n d < (((2 : ℝ) ^ (125 : ℤ) : ℝ) : EReal) :=
  small _ (le_iSup_of_le 0 (eabs_nonneg _)) (iSup_le fun _ => hX _)

/-- The scales of the values. -/
theorem vScale_eq (X : FVec Ideal S9x4096x256 .bf16) (hX : ∀ i, eabs (X i) ≤ top) (b : Fin 9) (n : Fin 2) (d : Fin 128) :
    refScale bcast_S_S9x2x128 (vAmax X) (ix3 b n d) = Pow2.scale (Vs X b n d) := by
  rw [refScale_apply, vAmax_apply]
  exact (Pow2.scale_inv_eq _ (Vs_small X hX b n d).1 (Vs_small X hX b n d).2).1.symm

theorem vInv_eq (X : FVec Ideal S9x4096x256 .bf16) (hX : ∀ i, eabs (X i) ≤ top) (b : Fin 9) (n : Fin 2) (d : Fin 128) :
    refInv bcast_S_S9x2x128 (vAmax X) (ix3 b n d) = Pow2.inv (Vs X b n d) := by
  rw [refInv_apply, vAmax_apply]
  exact (Pow2.scale_inv_eq _ (Vs_small X hX b n d).1 (Vs_small X hX b n d).2).2.1.symm

/-- The codes of the values. -/
theorem vCodes_eq (X : FVec Ideal S9x4096x256 .bf16) (hX : ∀ i, eabs (X i) ≤ top) (b : Fin 9) (R : Fin 4096) (n : Fin 2) (d : Fin 128) :
    vCodes X (ix4 b R n d) = Vc X b n R d := by
  pointwise [vCodes, refClip, vf]
  rw [vInv_eq X hX]
  unfold Vc clip
  refine congrArg (fun z => min _ (max _ (X z * _))) (funext fun a => Fin.ext ?_)
  match a with
  | ⟨0, _⟩ => rfl
  | ⟨1, _⟩ => rfl
  | ⟨2, _⟩ => show n.val * 128 + d.val = 128 * n.val + d.val; omega

/-! The keys. -/

theorem ofBits_4096 : Ideal.ofBits .f32 0x45800000#32 = ((4096 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

theorem top_eq : top = (((2 : ℝ) ^ (127 : ℤ) * (1 + 127 / 128) : ℝ) : EReal) := by
  unfold top
  simp [Ideal.ofBits, Ideal.ieee, -EReal.coe_mul]; norm_num

theorem small2 (a : EReal) (h0 : 0 ≤ a) (h : a ≤ (((2 : ℝ) ^ (128 : ℤ) * (1 + 127 / 128) : ℝ) : EReal)) :
    0 ≤ a * Ideal.ofBits .f32 0x3B124925#32 ∧ a * Ideal.ofBits .f32 0x3B124925#32 < (((2 : ℝ) ^ (125 : ℤ) : ℝ) : EReal) := by
  have e2 : Ideal.ofBits .f32 0x3B124925#32 = ((9586981 / 4294967296 : ℝ) : EReal) := by
    simp [Ideal.ofBits, Ideal.ieee, -EReal.coe_mul]; norm_num
  rw [e2]
  induction a using EReal.rec with
  | bot => simp at h0
  | top => exact absurd h (not_le.mpr (EReal.coe_lt_top _))
  | coe a =>
    have h0' : (0 : ℝ) ≤ a := by exact_mod_cast h0
    have h' := EReal.coe_le_coe_iff.mp h
    rw [← EReal.coe_mul]
    constructor
    · exact_mod_cast (by positivity : (0 : ℝ) ≤ a * (9586981 / 4294967296))
    · rw [EReal.coe_lt_coe_iff]
      norm_num at h' ⊢
      linarith

/-- A number within a real bound is a real. -/
theorem real_of_eabs (x : EReal) (T : ℝ) (h : eabs x ≤ (T : EReal)) : ∃ r : ℝ, x = r ∧ |r| ≤ T := by
  induction x using EReal.rec with
  | bot => exact absurd (le_trans (le_max_right _ _) h) (by simp)
  | top => exact absurd (le_trans (le_max_left _ _) h) (by simp)
  | coe r =>
    refine ⟨r, rfl, abs_le'.mpr ⟨?_, ?_⟩⟩
    · exact EReal.coe_le_coe_iff.mp (le_trans (le_max_left _ _) h)
    · have := le_trans (le_max_right _ _) h
      exact EReal.coe_le_coe_iff.mp (by rw [EReal.coe_neg]; exact this)

theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Less their mean, the keys are at most twice as large. -/
theorem Kd_le (X : FVec Ideal S9x4096x256 .bf16) (hX : ∀ i, eabs (X i) ≤ top) (b : Fin 9) (r : Fin 4096) (e : Fin 256) :
    eabs (Kd X b r e) ≤ (((2 : ℝ) ^ (128 : ℤ) * (1 + 127 / 128) : ℝ) : EReal) := by
  obtain ⟨T, hT⟩ : ∃ T : ℝ, T = (2 : ℝ) ^ (127 : ℤ) * (1 + 127 / 128) := ⟨_, rfl⟩
  have hT2 : (2 : ℝ) ^ (128 : ℤ) * (1 + 127 / 128) = T + T := by rw [hT]; norm_num
  rw [hT2]
  rw [top_eq, ← hT] at hX
  choose f hf hb using fun r : Fin 4096 => real_of_eabs _ T (hX (ix3 b r e))
  unfold Kd
  simp only [hf]
  rw [← coe_sum, ofBits_inv4096, ← EReal.coe_mul, ← EReal.coe_sub]
  have hs : |∑ r : Fin 4096, f r| ≤ 4096 * T := by
    refine (Finset.abs_sum_le_sum_abs _ _).trans ((Finset.sum_le_sum fun i _ => hb i).trans ?_)
    simp
  have h1 : |f r - (∑ r : Fin 4096, f r) * (1 / 4096)| ≤ T + T := by
    refine (abs_sub _ _).trans (add_le_add (hb r) ?_)
    rw [abs_mul, abs_of_pos (by norm_num : (0 : ℝ) < 1 / 4096)]
    linarith
  obtain ⟨h2, h3⟩ := abs_le'.mp h1
  exact max_le (EReal.coe_le_coe_iff.mpr h2) (by rw [← EReal.coe_neg]; exact EReal.coe_le_coe_iff.mpr h3)

theorem kMean_apply (X : FVec Ideal S9x4096x256 .bf16) (b : Fin 9) (n : Fin 2) (d : Fin 128) :
    kMean X (ix4 b 0 n d) = (∑ r : Fin 4096, X (ix3 b r (col n d))) * Ideal.ofBits .f32 0x39800000#32 := by
  pointwise [kMean, kf]
  have ec : (⟨n.val * 128 + d.val, by omega⟩ : Fin 256) = col n d := Fin.ext (by show n.val * 128 + d.val = 128 * n.val + d.val; omega)
  refine (congrArg (fun z => Ideal.div (∑ x : Fin 4096, X (ix3 b x z)) (Ideal.ofBits .f32 0x45800000#32)) ec).trans ?_
  show Ideal.div (∑ x : Fin 4096, X (ix3 b x (col n d))) (Ideal.ofBits .f32 0x45800000#32) = _
  generalize (∑ x : Fin 4096, X (ix3 b x (col n d))) = s
  rw [ofBits_4096, ofBits_inv4096]
  rw [show ((1 / 4096 : ℝ) : EReal) = ((4096 : ℝ) : EReal)⁻¹ by rw [← EReal.coe_inv]; norm_num]
  simp [Ideal.div, EReal.div_eq_inv_mul, mul_comm]

theorem kc_apply (X : FVec Ideal S9x4096x256 .bf16) (b : Fin 9) (g r : Fin 64) (n : Fin 2) (d : Fin 128) :
    kc X (ix5 b g r n d) = Kd X b ⟨64 * g + r, by omega⟩ (col n d) := by
  pointwise [kc, kf]
  have ec : (⟨n.val * 128 + d.val, by omega⟩ : Fin 256) = col n d := Fin.ext (by show n.val * 128 + d.val = 128 * n.val + d.val; omega)
  have er : (⟨g.val * 64 + r.val, by omega⟩ : Fin 4096) = ⟨64 * g.val + r.val, by omega⟩ := Fin.ext (by show g.val * 64 + r.val = 64 * g.val + r.val; omega)
  rw [ec, er, kMean_apply]
  rfl

theorem kAmax_apply (X : FVec Ideal S9x4096x256 .bf16) (b : Fin 9) (g : Fin 64) (n : Fin 2) :
    kAmax X (ix3 b g n) = ⨆ r : Fin 64, ⨆ d : Fin 128, eabs (Kd X b ⟨64 * g + r, by omega⟩ (col n d)) := by
  pointwise [kAmax]
  rw [show (Ideal.ofBits FTy.f32 4286578688#32) = ⊥ from ninf32]
  refine le_antisymm (Finset.fold_max_le _ |>.mpr ⟨bot_le, fun i hi => ?_⟩) (iSup_le fun r => iSup_le fun d => ?_)
  · have e := (Finset.mem_filter.mp hi).2
    have e0 : i 0 = b := congrFun e 0
    have e1 : i 1 = g := congrFun e 1
    have e3 : i 3 = n := congrFun e 2
    refine le_iSup_of_le (i 2) (le_iSup_of_le (i 4) (le_of_eq ?_))
    subst e0 e1 e3
    exact (congrArg (fun z => eabs (kc X z)) (funext fun a => by fin_cases a <;> rfl)).trans
      (congrArg eabs (kc_apply X (i 0) (i 1) (i 2) (i 3) (i 4)))
  · refine (Finset.le_fold_max _).mpr (Or.inr ⟨ix5 b g r n d, ?_, le_of_eq ?_⟩)
    · refine Finset.mem_filter.mpr ⟨Finset.mem_univ _, funext fun a => ?_⟩
      match a with
      | ⟨0, _⟩ => rfl
      | ⟨1, _⟩ => rfl
      | ⟨2, _⟩ => rfl
    · exact congrArg eabs (kc_apply X b g r n d).symm

theorem Ks_small (X : FVec Ideal S9x4096x256 .bf16) (hX : ∀ i, eabs (X i) ≤ top) (b : Fin 9) (n : Fin 2) (g : Fin 64) :
    0 ≤ Ks X b n g ∧ Ks X b n g < (((2 : ℝ) ^ (125 : ℤ) : ℝ) : EReal) :=
  small2 _ (le_iSup_of_le 0 (le_iSup_of_le 0 (eabs_nonneg _))) (iSup_le fun _ => iSup_le fun _ => Kd_le X hX _ _ _)

/-- The scales of the keys. -/
theorem kScale_eq (X : FVec Ideal S9x4096x256 .bf16) (hX : ∀ i, eabs (X i) ≤ top) (b : Fin 9) (g : Fin 64) (n : Fin 2) :
    refScale bcast_S_S9x64x2 (kAmax X) (ix3 b g n) = Pow2.scale (Ks X b n g) := by
  rw [refScale_apply, kAmax_apply]
  exact (Pow2.scale_inv_eq _ (Ks_small X hX b n g).1 (Ks_small X hX b n g).2).1.symm

theorem kInv_eq (X : FVec Ideal S9x4096x256 .bf16) (hX : ∀ i, eabs (X i) ≤ top) (b : Fin 9) (g : Fin 64) (n : Fin 2) :
    refInv bcast_S_S9x64x2 (kAmax X) (ix3 b g n) = Pow2.inv (Ks X b n g) := by
  rw [refInv_apply, kAmax_apply]
  exact (Pow2.scale_inv_eq _ (Ks_small X hX b n g).1 (Ks_small X hX b n g).2).2.1.symm

/-- The codes of the keys. -/
theorem kCodes_eq (X : FVec Ideal S9x4096x256 .bf16) (hX : ∀ i, eabs (X i) ≤ top) (b : Fin 9) (R : Fin 4096) (n : Fin 2) (d : Fin 128) :
    kCodes X (ix4 b R n d) = Kc X b n R d := by
  pointwise [kCodes, refClip]
  rw [kInv_eq X hX, kc_apply]
  unfold Kc clip
  refine congrArg (fun z => min _ (max _ (Kd X b z _ * _))) (Fin.ext ?_)
  show 64 * (R.val / 64) + R.val % 64 = R.val
  omega

end Cert.ReferenceIdeal.Hand

end
-- ==== Proof.Ref.Attn.lean ====
module

public import proofs.«01_k».proof.Proof.Ref.KVRef
public import proofs.«01_k».proof.Proof.Ideal.OVal

/-! Attention over a window, with the exponentials taken in base two and raised by eight, is attention over all keys. -/

@[expose] public section

set_option maxRecDepth 16384

noncomputable section

namespace Cert.ReferenceIdeal.Hand

open Idealize.ShloMosaic

/-- The clip to the range of the codes. -/
def pC (x : EReal) : EReal := min (Ideal.ofBits .f32 0x43E00000#32) (max (Ideal.ofBits .f32 0xC3E00000#32) x)

theorem ofBits_448 : Ideal.ofBits .f32 0x43E00000#32 = ((448 : ℝ) : EReal) := by
  simp [Ideal.ofBits, Ideal.ieee]
  rw [← EReal.coe_mul]
  show ((_ : ℝ) : EReal) = ((448 : ℝ) : EReal)
  congr 1
  norm_num

theorem ofBits_n448 : Ideal.ofBits .f32 0xC3E00000#32 = ((-448 : ℝ) : EReal) := by
  simp [Ideal.ofBits, Ideal.ieee]
  rw [← EReal.coe_mul]
  show ((_ : ℝ) : EReal) = ((448 : ℝ) : EReal)
  congr 1
  norm_num

theorem coe_max (x y : ℝ) : ((max x y : ℝ) : EReal) = max (x : EReal) (y : EReal) :=
  (EReal.coe_strictMono.monotone).map_max

theorem coe_min (x y : ℝ) : ((min x y : ℝ) : EReal) = min (x : EReal) (y : EReal) :=
  (EReal.coe_strictMono.monotone).map_min

theorem pC_coe (x : ℝ) : pC (x : EReal) = ((min 448 (max (-448) x) : ℝ) : EReal) := by
  unfold pC
  rw [ofBits_448, ofBits_n448, coe_min, coe_max]

theorem pC_real (x : EReal) : ∃ r : ℝ, pC x = (r : EReal) := by
  induction x with
  | bot => exact ⟨-448, by unfold pC; rw [ofBits_448, ofBits_n448, max_eq_left bot_le, ← coe_min]; norm_num⟩
  | top => exact ⟨448, by unfold pC; rw [ofBits_448, ofBits_n448, max_eq_right le_top, min_eq_left le_top]⟩
  | coe r => exact ⟨_, pC_coe r⟩

theorem div_coe (x y : ℝ) (h : y ≠ 0) : Ideal.div (x : EReal) (y : EReal) = ((x / y : ℝ) : EReal) := by
  have h' : (y : EReal) ≠ 0 := by exact_mod_cast h
  unfold Ideal.div
  rw [if_neg h', EReal.coe_div]
  exact (div_eq_mul_inv _ _).symm

section Attn

variable (a v : Fin 4096 → ℝ) (w : ℝ) (P : Fin 4096 → Prop) [DecidablePred P] (e : Fin 1152 → Fin 4096)

theorem exp2_step (x y : ℝ) : Ideal.exp2 (((x * (Real.log 2)⁻¹ : ℝ) : EReal) - (((y * (Real.log 2)⁻¹ : ℝ) : EReal) - 8)) = ((256 * Real.exp (x - y) : ℝ) : EReal) := by
  have h : (((x * (Real.log 2)⁻¹ : ℝ) : EReal) - (((y * (Real.log 2)⁻¹ : ℝ) : EReal) - 8)) = ((x * (Real.log 2)⁻¹ - (y * (Real.log 2)⁻¹ - 8) : ℝ) : EReal) := by
    rw [EReal.coe_sub, EReal.coe_sub]
    rfl
  rw [h, Ideal.exp2_coe]
  congr 1
  show (2 : ℝ) ^ (x * (Real.log 2)⁻¹ - (y * (Real.log 2)⁻¹ - 8)) = _
  have hl : Real.log 2 ≠ 0 := (Real.log_pos (by norm_num)).ne'
  have h1 : x * (Real.log 2)⁻¹ - (y * (Real.log 2)⁻¹ - 8) = (x - y) * (Real.log 2)⁻¹ + (8 : ℕ) := by push_cast; ring
  rw [h1, Real.rpow_add_natCast (by norm_num), Real.rpow_def_of_pos (by norm_num)]
  have h2 : Real.log 2 * ((x - y) * (Real.log 2)⁻¹) = x - y := by field_simp
  rw [h2]
  ring

/-- The two forms agree. -/
theorem attn (he : Function.Injective e) (hc : ∀ j, P j → ∃ R, e R = j) (hP : ∃ j, P j)
    (S : Fin 1152 → EReal) (hS : ∀ R, S R = if P (e R) then ((a (e R) * (Real.log 2)⁻¹ : ℝ) : EReal) else ⊥)
    (T : Fin 4096 → EReal) (hT : ∀ j, T j = if P j then ((a j : ℝ) : EReal) else ⊥) :
    (∑ R, (v (e R) : EReal) * pC (Ideal.exp2 (S R - ((⨆ R, S R) - 8)))) * Ideal.div 1 (∑ R, Ideal.exp2 (S R - ((⨆ R, S R) - 8))) * (w : EReal)
      = Ideal.div ((∑ j, (v j : EReal) * pC (Ideal.exp (T j - ⨆ j, T j) * ((256 : ℝ) : EReal))) * (((1 / 256 : ℝ) : EReal) * (w : EReal)))
        (∑ j, Ideal.exp (T j - ⨆ j, T j)) := by
  obtain ⟨jm, hjm, hmax⟩ : ∃ jm, P jm ∧ ∀ j, P j → a j ≤ a jm := by
    obtain ⟨j0, h0⟩ := hP
    obtain ⟨jm, h1, h2⟩ := Finset.exists_max_image (Finset.univ.filter P) a ⟨j0, by simp [h0]⟩
    exact ⟨jm, (Finset.mem_filter.mp h1).2, fun j hj => h2 j (Finset.mem_filter.mpr ⟨Finset.mem_univ _, hj⟩)⟩
  have hlog : 0 < (Real.log 2)⁻¹ := inv_pos.mpr (Real.log_pos (by norm_num))
  have hM : (⨆ R, S R) = ((a jm * (Real.log 2)⁻¹ : ℝ) : EReal) := by
    refine le_antisymm (iSup_le fun R => ?_) ?_
    · rw [hS]
      split
      · rename_i h
        exact EReal.coe_le_coe_iff.mpr (mul_le_mul_of_nonneg_right (hmax _ h) hlog.le)
      · exact bot_le
    · obtain ⟨R, hR⟩ := hc jm hjm
      refine le_trans (le_of_eq ?_) (le_iSup S R)
      rw [hS, hR, if_pos hjm]
  have hm : (⨆ j, T j) = ((a jm : ℝ) : EReal) := by
    refine le_antisymm (iSup_le fun j => ?_) ?_
    · rw [hT]
      split
      · rename_i h
        exact EReal.coe_le_coe_iff.mpr (hmax _ h)
      · exact bot_le
    · refine le_trans (le_of_eq ?_) (le_iSup T jm)
      rw [hT, if_pos hjm]
  rw [hM, hm]
  have hp : ∀ R, Ideal.exp2 (S R - (((a jm * (Real.log 2)⁻¹ : ℝ) : EReal) - 8)) = (((if P (e R) then Real.exp (a (e R) - a jm) else 0) * 256 : ℝ) : EReal) := by
    intro R
    rw [hS]
    split
    · rw [exp2_step, mul_comm]
    · rw [show (8 : EReal) = ((8 : ℝ) : EReal) from rfl, ← EReal.coe_sub, sub_eq_add_neg, EReal.bot_add, Ideal.exp2_bot, zero_mul]
      rfl
  have hq : ∀ j, Ideal.exp (T j - ((a jm : ℝ) : EReal)) = ((if P j then Real.exp (a j - a jm) else 0 : ℝ) : EReal) := by
    intro j
    rw [hT]
    split
    · rw [← EReal.coe_sub, Ideal.exp_coe]
    · rw [sub_eq_add_neg, EReal.bot_add, Ideal.exp_bot]
      rfl
  set E : Fin 4096 → ℝ := fun j => if P j then Real.exp (a j - a jm) else 0 with hE
  have hE0 : ∀ j, j ∉ Set.range e → E j = 0 := by
    intro j hj
    have : ¬ P j := fun h => hj (hc j h)
    simp [hE, this]
  have hl : 0 < ∑ j, E j := by
    refine Finset.sum_pos' (fun j _ => ?_) ⟨jm, Finset.mem_univ _, ?_⟩
    · simp only [hE]; split
      · exact (Real.exp_pos _).le
      · exact le_rfl
    · simp only [hE, if_pos hjm]; exact Real.exp_pos _
  have s1 : (∑ R, Ideal.exp2 (S R - (((a jm * (Real.log 2)⁻¹ : ℝ) : EReal) - 8))) = (((∑ j, E j) * 256 : ℝ) : EReal) := by
    rw [Finset.sum_congr rfl (fun R _ => hp R), ← coe_sum, Finset.sum_mul]
    congr 1
    exact Fintype.sum_of_injective e he _ _ (fun j hj => by rw [hE0 j hj, zero_mul]) (fun R => rfl)
  have s2 : (∑ j, Ideal.exp (T j - ((a jm : ℝ) : EReal))) = ((∑ j, E j : ℝ) : EReal) := by
    rw [Finset.sum_congr rfl (fun j _ => hq j), ← coe_sum]
  have s3 : (∑ R, (v (e R) : EReal) * pC (Ideal.exp2 (S R - (((a jm * (Real.log 2)⁻¹ : ℝ) : EReal) - 8))))
      = ((∑ j, v j * min 448 (max (-448) (E j * 256)) : ℝ) : EReal) := by
    rw [Finset.sum_congr rfl (fun R _ => by rw [hp R, pC_coe, ← EReal.coe_mul]), ← coe_sum]
    congr 1
    exact Fintype.sum_of_injective e he _ _ (fun j hj => by rw [hE0 j hj]; norm_num) (fun R => rfl)
  have s4 : (∑ j, (v j : EReal) * pC (Ideal.exp (T j - ((a jm : ℝ) : EReal)) * ((256 : ℝ) : EReal)))
      = ((∑ j, v j * min 448 (max (-448) (E j * 256)) : ℝ) : EReal) := by
    rw [Finset.sum_congr rfl (fun j _ => by rw [hq j, ← EReal.coe_mul, pC_coe, ← EReal.coe_mul]), ← coe_sum]
  rw [s1, s2, s3, s4, ← EReal.coe_mul, ← EReal.coe_mul, div_coe _ _ hl.ne', show (1 : EReal) = ((1 : ℝ) : EReal) from rfl,
    div_coe _ _ (by positivity), ← EReal.coe_mul, ← EReal.coe_mul]
  congr 1
  generalize (∑ j, v j * min 448 (max (-448) (E j * 256))) = A
  generalize (∑ j, E j) = B at hl
  field_simp

end Attn

end Cert.ReferenceIdeal.Hand

end
-- ==== Proof.Ref.OutRef.lean ====
module

public import proofs.«01_k».proof.Proof.Ref.OutRead
public import proofs.«01_k».proof.Proof.Ref.Attn

/-! The reference's attention, element by element. -/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (eabs clip ninf32 Qs Qc Ks Kc Vs Vc)
open Cert.Hand (top)

theorem oRaw_apply (kcd : FVec Ideal S9x4096x2x128 .f32) (qcd : FVec Ideal S9x4096x8x128 .f32) (qsc : FVec Ideal S9x8x32 .f32) (ksc : FVec Ideal S9x2x64 .f32)
    (b : Fin 9) (n : Fin 2) (g : Fin 4) (q k : Fin 4096) :
    oRaw kcd qcd qsc ksc (ix5 b n g q k) = (∑ d : Fin 128, kcd (ix4 b k n d) * qcd (ix4 b q ⟨n.val * 4 + g.val, by omega⟩ d))
      * Ideal.div (qsc (ix3 b ⟨n.val * 4 + g.val, by omega⟩ ⟨q.val / 128, by omega⟩)) (Ideal.sqrt (Ideal.ofBits .f32 0x43000000#32)) * ksc (ix3 b n ⟨k.val / 64, by omega⟩) := by
  pointwise [oRaw]

theorem toInt_ofNat (k : ℕ) (h : k < 4096) : (BitVec.ofNat 32 k).toInt = k := by
  have e : (BitVec.ofNat 32 k).toNat = k := by rw [BitVec.toNat_ofNat]; omega
  rw [BitVec.toInt_eq_toNat_of_lt (by rw [e]; omega), e]

theorem toInt_sub1000 (k : ℕ) (h : k < 4096) : (IntOp.subi (BitVec.ofNat 32 k) 1000#32).toInt = (k : ℤ) - 1000 := by
  show (BitVec.ofNat 32 k - 1000#32).toInt = _
  rw [BitVec.toInt_sub, toInt_ofNat k h, show (1000#32).toInt = 1000 from rfl]
  norm_num [Int.bmod]
  split <;> omega

theorem ofBool_one (b : Bool) : BitVec.ofBool b = 1#1 ↔ b = true := by cases b <;> decide

theorem mask_iff (q k : Fin 4096) : IntOp.andi (IntOp.cmpi .sle (BitVec.ofNat 32 k.val) (BitVec.ofNat 32 q.val))
    (IntOp.cmpi .sgt (BitVec.ofNat 32 k.val) (IntOp.subi (BitVec.ofNat 32 q.val) 1000#32)) = 1#1 ↔ k.val ≤ q.val ∧ q.val < k.val + 1000 := by
  rw [Cert.Hand.andi_one]
  refine and_congr ?_ ?_
  · show BitVec.ofBool ((BitVec.ofNat 32 k.val).sle (BitVec.ofNat 32 q.val)) = 1#1 ↔ _
    rw [ofBool_one, BitVec.sle, decide_eq_true_iff, toInt_ofNat _ k.isLt, toInt_ofNat _ q.isLt]
    omega
  · show BitVec.ofBool ((IntOp.subi (BitVec.ofNat 32 q.val) 1000#32).slt (BitVec.ofNat 32 k.val)) = 1#1 ↔ _
    rw [ofBool_one, BitVec.slt, decide_eq_true_iff, toInt_ofNat _ k.isLt, toInt_sub1000 _ q.isLt]
    omega

theorem oMask_apply (q k : Fin 4096) : oMask (ix2 q k) = 1#1 ↔ k.val ≤ q.val ∧ q.val < k.val + 1000 := by
  rw [← mask_iff]
  pointwise [oMask]

theorem oSc_apply (x : FVec Ideal S9x2x4x4096x4096 .f32) (b : Fin 9) (n : Fin 2) (g : Fin 4) (q k : Fin 4096) :
    oSc x (ix5 b n g q k) = if k.val ≤ q.val ∧ q.val < k.val + 1000 then x (ix5 b n g q k) else ⊥ := by
  have h : oSc x (ix5 b n g q k) = Scalar.select (oMask (ix2 q k)) (x (ix5 b n g q k)) (Ideal.ofBits .f32 0xFF800000#32) := by
    unfold oSc
    generalize oMask = y
    pointwise []
  rw [h, Cert.KernelIdeal.Hand.sel_iff _ _ (oMask_apply q k), show (Ideal.ofBits .f32 0xFF800000#32) = ⊥ from ninf32]

theorem oExp_apply (s : FVec Ideal S9x2x4x4096x4096 .f32) (b : Fin 9) (n : Fin 2) (g : Fin 4) (q k : Fin 4096) :
    oExp s (ix5 b n g q k) = Ideal.exp (s (ix5 b n g q k) - ⨆ k : Fin 4096, s (ix5 b n g q k)) := by
  pointwise [oExp]
  rw [show (Ideal.ofBits FTy.f32 4286578688#32) = ⊥ from ninf32]
  rw [Cert.KernelIdeal.Hand.fold_max_bot]

theorem oRes_apply (p : FVec Ideal S9x2x4x4096x4096 .f32) (vcd : FVec Ideal S9x4096x2x128 .f32) (vsc : FVec Ideal S9x2x128 .f32)
    (b : Fin 9) (q : Fin 4096) (n : Fin 2) (g : Fin 4) (d : Fin 128) :
    oRes p vcd vsc (ix5 b q n g d) = Ideal.div ((∑ k : Fin 4096, vcd (ix4 b k n d) * pC (p (ix5 b n g q k) * Ideal.ofBits .f32 0x43800000#32))
      * (Ideal.ofBits .f32 0x3B800000#32 * vsc (ix3 b n d))) (∑ k : Fin 4096, p (ix5 b n g q k)) := by
  pointwise [oRes, refClip, pC]

theorem oCast_apply (x : FVec Ideal S9x4096x2x4x128 .f32) (b : Fin 9) (q : Fin 4096) (n : Fin 2) (g : Fin 4) (d : Fin 128) :
    (truncf .bf16 (shapeCast S9x4096x1024 x shapeCasts_S9x4096x2x4x128_S9x4096x1024) bitsLt_bf16_f32 : FVec Ideal S9x4096x1024 .bf16)
      (ix3 b q ⟨512 * n.val + 128 * g.val + d.val, by omega⟩) = x (ix5 b q n g d) := by
  pointwise []

end Cert.ReferenceIdeal.Hand

end
-- ==== Proof.Ref.OutEq.lean ====
module

public import proofs.«01_k».proof.Proof.Ref.OutRef
public import proofs.«01_k».proof.Proof.Ref.KVRef
public import proofs.«01_k».proof.Proof.Ref.QRef

/-! From row 1024 on, the reference's attention over all keys is the attention over the window of a query. -/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (eabs clip ninf32 Qs Qc Ks Kc Vs Vc wR Os Ov kap pClip)
open Cert.Hand (top)

theorem ofBits_256 : Ideal.ofBits .f32 0x43800000#32 = ((256 : ℝ) : EReal) := by
  simp [Ideal.ofBits, Ideal.ieee]
  rw [← EReal.coe_mul]
  show ((_ : ℝ) : EReal) = ((256 : ℝ) : EReal)
  congr 1
  norm_num

theorem ofBits_inv256 : Ideal.ofBits .f32 0x3B800000#32 = ((1 / 256 : ℝ) : EReal) := by
  simp [Ideal.ofBits, Ideal.ieee]
  rw [← EReal.coe_mul]
  show ((_ : ℝ) : EReal) = ((_ : ℝ) : EReal)
  congr 1
  norm_num

theorem ofBits_128 : Ideal.ofBits .f32 0x43000000#32 = ((128 : ℝ) : EReal) := by
  simp [Ideal.ofBits, Ideal.ieee]
  rw [← EReal.coe_mul]
  show ((_ : ℝ) : EReal) = ((128 : ℝ) : EReal)
  congr 1
  norm_num

theorem sqrt_128 : Ideal.sqrt (Ideal.ofBits .f32 0x43000000#32) = ((Real.sqrt 128 : ℝ) : EReal) := by
  rw [ofBits_128]
  show (if (128 : ℝ) < 0 then (⊥ : EReal) else ((Real.sqrt 128 : ℝ) : EReal)) = _
  rw [if_neg (by norm_num)]

theorem kap_eq : kap = (((Real.sqrt 128)⁻¹ * (Real.log 2)⁻¹ : ℝ) : EReal) := rfl

theorem scale_real (y : EReal) (h : 0 ≤ y ∧ y < (((2 : ℝ) ^ (125 : ℤ) : ℝ) : EReal)) : ∃ r : ℝ, Pow2.scale y = r :=
  let ⟨m, h, _⟩ := (Pow2.scale_inv_eq y h.1 h.2).2.2
  ⟨_, h⟩

variable (X : FVec Ideal S9x4096x1024 .bf16) (K W : FVec Ideal S9x4096x256 .bf16)

/-- The reference's masked scores. -/
def oT (b : Fin 9) (n : Fin 2) (g : Fin 4) (q j : Fin 4096) : EReal :=
  if j.val ≤ q.val ∧ q.val < j.val + 1000 then
    (∑ d : Fin 128, Kc K b n j d * Qc X b q ⟨4 * n.val + g.val, by omega⟩ d)
      * Ideal.div (Pow2.scale (Qs X b ⟨q.val / 128, by omega⟩ ⟨4 * n.val + g.val, by omega⟩)) ((Real.sqrt 128 : ℝ) : EReal)
      * Pow2.scale (Ks K b n ⟨j.val / 64, by omega⟩)
  else ⊥

theorem tq (y : FVec Ideal S9x32x8 .f32) (b : Fin 9) (h : Fin 8) (n : Fin 32) :
    transpose S9x8x32 [0, 2, 1] y transposes_S9x32x8_S9x8x32_0_2_1 (ix3 b h n) = y (ix3 b n h) := by
  pointwise []

theorem tk (y : FVec Ideal S9x64x2 .f32) (b : Fin 9) (h : Fin 2) (n : Fin 64) :
    transpose S9x2x64 [0, 2, 1] y transposes_S9x64x2_S9x2x64_0_2_1 (ix3 b h n) = y (ix3 b n h) := by
  pointwise []

theorem oT_eq (hX : ∀ i, eabs (X i) ≤ top) (hK : ∀ i, eabs (K i) ≤ top) (b : Fin 9) (n : Fin 2) (g : Fin 4) (q j : Fin 4096) :
    oSc (oRaw (kCodes K) (qCodes X)
      (transpose S9x8x32 [0, 2, 1] (refScale bcast_S_S9x32x8 (qAmax X)) transposes_S9x32x8_S9x8x32_0_2_1)
      (transpose S9x2x64 [0, 2, 1] (refScale bcast_S_S9x64x2 (kAmax K)) transposes_S9x64x2_S9x2x64_0_2_1)) (ix5 b n g q j) = oT X K b n g q j := by
  have eh : (⟨n.val * 4 + g.val, by omega⟩ : Fin 8) = ⟨4 * n.val + g.val, by omega⟩ := Fin.ext (by show n.val * 4 + g.val = 4 * n.val + g.val; omega)
  rw [oSc_apply, oRaw_apply, tq, tk, eh, qScale_eq X hX, kScale_eq K hK, sqrt_128]
  simp only [kCodes_eq K hK, qCodes_eq X hX]
  rfl

theorem oOut_apply (hX : ∀ i, eabs (X i) ≤ top) (hK : ∀ i, eabs (K i) ≤ top) (hW : ∀ i, eabs (W i) ≤ top)
    (b : Fin 9) (n : Fin 2) (g : Fin 4) (q : Fin 4096) (d : Fin 128) :
    oOut X K W (ix3 b q ⟨512 * n.val + 128 * g.val + d.val, by omega⟩)
      = Ideal.div ((∑ j : Fin 4096, Vc W b n j d * pC (Ideal.exp (oT X K b n g q j - ⨆ j, oT X K b n g q j) * ((256 : ℝ) : EReal)))
        * (((1 / 256 : ℝ) : EReal) * Pow2.scale (Vs W b n d))) (∑ j : Fin 4096, Ideal.exp (oT X K b n g q j - ⨆ j, oT X K b n g q j)) := by
  unfold oOut
  rw [oCast_apply, oRes_apply, vScale_eq W hW, ofBits_256, ofBits_inv256]
  simp only [oExp_apply, oT_eq X K hX hK, vCodes_eq W hW]

theorem ref_out (hX : ∀ i, eabs (X i) ≤ top) (hK : ∀ i, eabs (K i) ≤ top) (hW : ∀ i, eabs (W i) ≤ top)
    (b : Fin 9) (n : Fin 2) (g : Fin 4) (q : Fin 4096) (d : Fin 128) (hq : 1024 ≤ q.val) :
    oOut X K W (ix3 b q ⟨512 * n.val + 128 * g.val + d.val, by omega⟩) = Ov X K W b n q g d := by
  rw [oOut_apply X K W hX hK hW]
  have rk : ∀ j d, ∃ r : ℝ, Kc K b n j d = r := fun j d => pC_real _
  have rq : ∀ d, ∃ r : ℝ, Qc X b q ⟨4 * n.val + g.val, by omega⟩ d = r := fun d => pC_real _
  have rv : ∀ j, ∃ r : ℝ, Vc W b n j d = r := fun j => pC_real _
  have rks : ∀ j, ∃ r : ℝ, Pow2.scale (Ks K b n j) = r := fun j => scale_real _ (Ks_small K hK b n j)
  obtain ⟨qs, hqs⟩ := scale_real _ (Qs_small X hX b ⟨q.val / 128, by omega⟩ ⟨4 * n.val + g.val, by omega⟩)
  obtain ⟨w, hw⟩ := scale_real _ (Vs_small W hW b n d)
  choose k hk using rk
  choose x hx using rq
  choose v hv using rv
  choose ks hks using rks
  have h128 : Real.sqrt 128 ≠ 0 := (Real.sqrt_pos.mpr (by norm_num)).ne'
  have hwR : ∀ R, (wR q R).val = 128 * (q.val / 128) - 1024 + R.val := fun R => rfl
  have e := attn (fun j => (∑ d, k j d * x d) * (qs / Real.sqrt 128) * ks ⟨j.val / 64, by omega⟩) v w
    (fun j => j.val ≤ q.val ∧ q.val < j.val + 1000) (wR q)
    (fun R R' h => Fin.ext (by have := congrArg Fin.val h; rw [hwR, hwR] at this; omega))
    (fun j hj => ⟨⟨j.val - (128 * (q.val / 128) - 1024), by omega⟩, Fin.ext (by rw [hwR]; show 128 * (q.val / 128) - 1024 + (j.val - (128 * (q.val / 128) - 1024)) = j.val; omega)⟩)
    ⟨q, by omega, by omega⟩ (Os X K b n q g) ?_ (oT X K b n g q) ?_
  · rw [hw]
    simp only [hv]
    unfold Ov
    rw [hw]
    simp only [hv]
    exact e.symm
  · intro R
    have hR := hwR R
    unfold Os
    refine ite_congr (propext ⟨fun h => ⟨by omega, by omega⟩, fun h => ⟨by omega, by omega⟩⟩) (fun _ => ?_) fun _ => rfl
    rw [hks, hqs, kap_eq]
    simp only [hk, hx, ← EReal.coe_mul, ← coe_sum]
    refine congrArg _ ?_
    rw [div_eq_mul_inv]
    ring
  · intro j
    unfold oT
    refine ite_congr rfl (fun _ => ?_) fun _ => rfl
    rw [hks, hqs, div_coe _ _ h128]
    simp only [hk, hx, ← EReal.coe_mul, ← coe_sum]

end Cert.ReferenceIdeal.Hand

end
-- ==== Proof.Ref.Run.lean ====
module

public import proofs.«01_k».proof.Proof.Ref.Read
public import proofs.«01_k».proof.Proof.Gen.ReferenceIdeal.Value
public import Idealize.ShloMosaic.Lib.Pipeline.ValueKit

/-! The arrays of the reference's results after its run. -/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

theorem idx0 : ∀ t : Fin cfg0.N, win0_0.index t = ![0, 0, 0, 0] := by decide +kernel
theorem idx3 : ∀ t : Fin cfg0.N, win0_3.index t = ![0, 0, 0, 0] := by decide +kernel

/-- The codes of the queries: the last region copies them. -/
theorem res3 (c : Dev nD) : (dats m 0 c).arrAt 3 cfg0.N = (V m c main_v25 : FVec Ideal S9x4096x8x128 .f32) := by
  refine Pipeline.Dat.arrAt_eq_of_covers _ (3 : Fin cfg0.W) _ (by decide +kernel) fun t hf y => ?_
  blk_simp
  rw [after0_3]
  unfold out0_3
  rw [Value.canon3_eq, View.ld_unit_zero (funext fun a => by fin_cases a <;> rfl)]
  show V m c main_v25 ((win0_0.blk t).view.emb (Value.ix3_0 y)) = _
  have e0 := idx0 t
  have e1 := idx3 t
  refine congrArg (V m c main_v25) (funext fun a => Fin.ext ?_)
  match a with
  | ⟨0, _⟩ =>
    show win0_0.index t 0 * 9 + 1 * (y 0).val = win0_3.index t 0 * 9 + 1 * (y 0).val
    rw [e0, e1]
  | ⟨1, _⟩ =>
    show win0_0.index t 1 * 4096 + 1 * (y 1).val = win0_3.index t 1 * 4096 + 1 * (y 1).val
    rw [e0, e1]
  | ⟨2, _⟩ =>
    show win0_0.index t 2 * 8 + 1 * (y 2).val = win0_3.index t 2 * 8 + 1 * (y 2).val
    rw [e0, e1]
  | ⟨3, _⟩ =>
    show win0_0.index t 3 * 128 + 1 * (y 3).val = win0_3.index t 3 * 128 + 1 * (y 3).val
    rw [e0, e1]

theorem idx1 : ∀ t : Fin cfg0.N, win0_1.index t = ![0, 0, 0, 0] := by decide +kernel
theorem idx4 : ∀ t : Fin cfg0.N, win0_4.index t = ![0, 0, 0, 0] := by decide +kernel

/-- The codes of the keys: the last region copies them. -/
theorem res4 (c : Dev nD) : (dats m 0 c).arrAt 4 cfg0.N = (V m c main_v140 : FVec Ideal S9x2x4096x128 .f32) := by
  refine Pipeline.Dat.arrAt_eq_of_covers _ (4 : Fin cfg0.W) _ (by decide +kernel) fun t hf y => ?_
  blk_simp
  rw [after0_4]
  unfold out0_4
  rw [Value.canon4_eq, View.ld_unit_zero (funext fun a => by fin_cases a <;> rfl)]
  show V m c main_v140 ((win0_1.blk t).view.emb (Value.ix4_0 y)) = _
  have e0 := idx1 t
  have e1 := idx4 t
  refine congrArg (V m c main_v140) (funext fun a => Fin.ext ?_)
  match a with
  | ⟨0, _⟩ =>
    show win0_1.index t 0 * 9 + 1 * (y 0).val = win0_4.index t 0 * 9 + 1 * (y 0).val
    rw [e0, e1]
  | ⟨1, _⟩ =>
    show win0_1.index t 1 * 2 + 1 * (y 1).val = win0_4.index t 1 * 2 + 1 * (y 1).val
    rw [e0, e1]
  | ⟨2, _⟩ =>
    show win0_1.index t 2 * 4096 + 1 * (y 2).val = win0_4.index t 2 * 4096 + 1 * (y 2).val
    rw [e0, e1]
  | ⟨3, _⟩ =>
    show win0_1.index t 3 * 128 + 1 * (y 3).val = win0_4.index t 3 * 128 + 1 * (y 3).val
    rw [e0, e1]

theorem idx2 : ∀ t : Fin cfg0.N, win0_2.index t = ![0, 0, 0, 0] := by decide +kernel
theorem idx5 : ∀ t : Fin cfg0.N, win0_5.index t = ![0, 0, 0, 0] := by decide +kernel

/-- The codes of the values: the last region copies them. -/
theorem res5 (c : Dev nD) : (dats m 0 c).arrAt 5 cfg0.N = (V m c main_v141 : FVec Ideal S9x2x4096x128 .f32) := by
  refine Pipeline.Dat.arrAt_eq_of_covers _ (5 : Fin cfg0.W) _ (by decide +kernel) fun t hf y => ?_
  blk_simp
  rw [after0_5]
  unfold out0_5
  rw [Value.canon5_eq, View.ld_unit_zero (funext fun a => by fin_cases a <;> rfl)]
  show V m c main_v141 ((win0_2.blk t).view.emb (Value.ix5_0 y)) = _
  have e0 := idx2 t
  have e1 := idx5 t
  refine congrArg (V m c main_v141) (funext fun a => Fin.ext ?_)
  match a with
  | ⟨0, _⟩ =>
    show win0_2.index t 0 * 9 + 1 * (y 0).val = win0_5.index t 0 * 9 + 1 * (y 0).val
    rw [e0, e1]
  | ⟨1, _⟩ =>
    show win0_2.index t 1 * 2 + 1 * (y 1).val = win0_5.index t 1 * 2 + 1 * (y 1).val
    rw [e0, e1]
  | ⟨2, _⟩ =>
    show win0_2.index t 2 * 4096 + 1 * (y 2).val = win0_5.index t 2 * 4096 + 1 * (y 2).val
    rw [e0, e1]
  | ⟨3, _⟩ =>
    show win0_2.index t 3 * 128 + 1 * (y 3).val = win0_5.index t 3 * 128 + 1 * (y 3).val
    rw [e0, e1]

/-- The run: the results' arrays as the host left them, the last region's as it copied them, and the arguments unchanged. -/
theorem run : θ_run defs (onTc (τ := τ) (main (F := Ideal))) ⟨m, fun _ => 0, ρ⟩ fun r => ∀ c : Dev nD,
      (∀ b : Ref sig .tc, b ∈ Pipeline.restRefs sig spec0 → r.2.mem ((c : Thread nD τ).loc b) = V m c b)
      ∧ r.2.mem ((c : Thread nD τ).loc main_v142_0) = (V m c main_v25 : FVec Ideal S9x4096x8x128 .f32)
      ∧ r.2.mem ((c : Thread nD τ).loc main_v142_1) = (V m c main_v140 : FVec Ideal S9x2x4096x128 .f32)
      ∧ r.2.mem ((c : Thread nD τ).loc main_v142_2) = (V m c main_v141 : FVec Ideal S9x2x4096x128 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2, (Value.post3 m r h c).trans (res3 m c), (Value.post4 m r h c).trans (res4 m c),
      (Value.post5 m r h c).trans (res5 m c), Value.kept_main_arg0 m r h c, Value.kept_main_arg1 m r h c, Value.kept_main_arg2 m r h c⟩)
    (run_main m ρ)

end Cert.ReferenceIdeal.Hand

end
-- ==== Proof.Algebraic.lean ====
module

public import proofs.«01_k».proof.Defs
public import proofs.«01_k».proof.Proof.Ideal.Final
public import proofs.«01_k».proof.Proof.Ref.OutEq
public import proofs.«01_k».proof.Proof.Ref.Run
public import proofs.«01_k».proof.Proof.Gen.On_proved_here

/-! The kernel and the reference end with the same results, where the mask is set. -/

@[expose] public section

set_option maxRecDepth 16384

noncomputable section

namespace Cert.Hand

open Idealize.ShloMosaic Idealize.ShloMosaic.TcCoe Idealize.SL.Sem
open Cert.KernelIdeal.Hand (eabs G3 G4 G5 G6 G7 G8 G9 argX argK argV)
open Cert.ReferenceIdeal.Hand (qCodes kCodes vCodes refScale qAmax kAmax vAmax)

/-- The named constant is the rounding of what it names. -/
theorem preserves : Cert.preserves_Kernel_KernelIdeal :=
  IdealRules.named_const.statement Cert.KernelIdeal.κ "score_scale" .f32 0x3E0293EE#32
    (((Real.sqrt 128)⁻¹ * (Real.log 2)⁻¹ : ℝ) : EReal) rfl

/-- The mask of the first result is set from row 1024 on. -/
theorem mask_row (k : ℕ) (hk : k < 4096) (h : IntOp.cmpi .sge (BitVec.ofNat 32 k) 1024#32 = 1#1) : 1024 ≤ k := by
  have h : BitVec.ofBool ((1024#32).sle (BitVec.ofNat 32 k)) = 1#1 := h
  rw [Cert.ReferenceIdeal.Hand.ofBool_one, BitVec.sle, decide_eq_true_iff, Cert.ReferenceIdeal.Hand.toInt_ofNat k hk,
    show (1024#32).toInt = 1024 from rfl] at h
  omega

open Cert.ReferenceIdeal in
theorem ref_o (m : (ℓ : Loc Cert.KernelIdeal.nD Cert.KernelIdeal.τ Cert.KernelIdeal.sig) → Buf (Elt Ideal) ℓ) (c : Dev Cert.KernelIdeal.nD)
    (hX : ∀ i, eabs (argX m c i) ≤ top) (hK : ∀ i, eabs (argK m c i) ≤ top) (hV : ∀ i, eabs (argV m c i) ≤ top)
    (y : S9x4096x1024.Idx) (hy : 1024 ≤ (y 1).val) :
    Cert.ReferenceIdeal.Hand.oOut (argX m c) (argK m c) (argV m c) y = G3 m c y := by
  have h2 : (y 2).val < 1024 := (y 2).isLt
  refine (congrArg (Cert.ReferenceIdeal.Hand.oOut (argX m c) (argK m c) (argV m c)) (funext fun a => Fin.ext ?_)).trans
    (Cert.ReferenceIdeal.Hand.ref_out (argX m c) (argK m c) (argV m c) hX hK hV (y 0) ⟨(y 2).val / 512, by omega⟩ ⟨(y 2).val / 128 % 4, by omega⟩ (y 1)
      ⟨(y 2).val % 128, by omega⟩ hy)
  match a with
  | ⟨0, _⟩ => rfl
  | ⟨1, _⟩ => rfl
  | ⟨2, _⟩ => show (y 2).val = 512 * ((y 2).val / 512) + 128 * ((y 2).val / 128 % 4) + (y 2).val % 128; omega

open Cert.ReferenceIdeal in
theorem ref_q (m : (ℓ : Loc Cert.KernelIdeal.nD Cert.KernelIdeal.τ Cert.KernelIdeal.sig) → Buf (Elt Ideal) ℓ) (c : Dev Cert.KernelIdeal.nD)
    (hX : ∀ i, eabs (argX m c i) ≤ top) :
    (qCodes (argX m c) : FVec Ideal S9x4096x8x128 .f32) = G4 m c := by
  funext y
  exact (congrArg (qCodes (argX m c)) (funext fun a => by fin_cases a <;> rfl)).trans
    (Cert.ReferenceIdeal.Hand.qCodes_eq (argX m c) hX (y 0) (y 1) (y 2) (y 3))

open Cert.ReferenceIdeal Cert.ReferenceIdeal.Gen in
theorem ref_qs (m : (ℓ : Loc Cert.KernelIdeal.nD Cert.KernelIdeal.τ Cert.KernelIdeal.sig) → Buf (Elt Ideal) ℓ) (c : Dev Cert.KernelIdeal.nD)
    (hX : ∀ i, eabs (argX m c i) ≤ top) :
    transpose S9x8x32 [0, 2, 1] (refScale bcast_S_S9x32x8 (qAmax (argX m c))) transposes_S9x32x8_S9x8x32_0_2_1 = G5 m c := by
  funext y
  exact (congrArg (refScale bcast_S_S9x32x8 (qAmax (argX m c))) (funext fun a => by fin_cases a <;> rfl)).trans
    (Cert.ReferenceIdeal.Hand.qScale_eq (argX m c) hX (y 0) (y 2) (y 1))

open Cert.ReferenceIdeal Cert.ReferenceIdeal.Gen in
theorem ref_k (m : (ℓ : Loc Cert.KernelIdeal.nD Cert.KernelIdeal.τ Cert.KernelIdeal.sig) → Buf (Elt Ideal) ℓ) (c : Dev Cert.KernelIdeal.nD)
    (hX : ∀ i, eabs (argK m c i) ≤ top) :
    transpose S9x2x4096x128 [0, 2, 1, 3] (kCodes (argK m c)) transposes_S9x4096x2x128_S9x2x4096x128_0_2_1_3 = G6 m c := by
  funext y
  exact (congrArg (kCodes (argK m c)) (funext fun a => by fin_cases a <;> rfl)).trans
    (Cert.ReferenceIdeal.Hand.kCodes_eq (argK m c) hX (y 0) (y 2) (y 1) (y 3))

open Cert.ReferenceIdeal Cert.ReferenceIdeal.Gen in
theorem ref_ks (m : (ℓ : Loc Cert.KernelIdeal.nD Cert.KernelIdeal.τ Cert.KernelIdeal.sig) → Buf (Elt Ideal) ℓ) (c : Dev Cert.KernelIdeal.nD)
    (hX : ∀ i, eabs (argK m c i) ≤ top) :
    transpose S9x2x64 [0, 2, 1] (refScale bcast_S_S9x64x2 (kAmax (argK m c))) transposes_S9x64x2_S9x2x64_0_2_1 = G7 m c := by
  funext y
  exact (congrArg (refScale bcast_S_S9x64x2 (kAmax (argK m c))) (funext fun a => by fin_cases a <;> rfl)).trans
    (Cert.ReferenceIdeal.Hand.kScale_eq (argK m c) hX (y 0) (y 2) (y 1))

open Cert.ReferenceIdeal Cert.ReferenceIdeal.Gen in
theorem ref_v (m : (ℓ : Loc Cert.KernelIdeal.nD Cert.KernelIdeal.τ Cert.KernelIdeal.sig) → Buf (Elt Ideal) ℓ) (c : Dev Cert.KernelIdeal.nD)
    (hX : ∀ i, eabs (argV m c i) ≤ top) :
    transpose S9x2x4096x128 [0, 2, 1, 3] (vCodes (argV m c)) transposes_S9x4096x2x128_S9x2x4096x128_0_2_1_3 = G8 m c := by
  funext y
  exact (congrArg (vCodes (argV m c)) (funext fun a => by fin_cases a <;> rfl)).trans
    (Cert.ReferenceIdeal.Hand.vCodes_eq (argV m c) hX (y 0) (y 2) (y 1) (y 3))

open Cert.ReferenceIdeal Cert.ReferenceIdeal.Gen in
theorem ref_vs (m : (ℓ : Loc Cert.KernelIdeal.nD Cert.KernelIdeal.τ Cert.KernelIdeal.sig) → Buf (Elt Ideal) ℓ) (c : Dev Cert.KernelIdeal.nD)
    (hX : ∀ i, eabs (argV m c i) ≤ top) :
    refScale bcast_S_S9x2x128 (vAmax (argV m c)) = G9 m c := by
  funext y
  exact (congrArg (refScale bcast_S_S9x2x128 (vAmax (argV m c))) (funext fun a => by fin_cases a <;> rfl)).trans
    (Cert.ReferenceIdeal.Hand.vScale_eq (argV m c) hX (y 0) (y 1) (y 2))

set_option maxHeartbeats 1000000 in
/-- The claim: where the mask is set, both programs end with the same results. -/
theorem algebraic : Cert.algebraic_KernelIdeal_ReferenceIdeal_on_proved_here_pre_finite := by
  intro m g m' g' hpre hargs
  have hfin := fun c => finite_args _ _ _ (hpre c)
  refine ⟨G3 m, G4 m, G5 m, G6 m, G7 m, G8 m, G9 m,
    (θ_run _ _ _).mono (fun r h c => ?_) (Cert.KernelIdeal.Hand.run m g),
    (θ_run _ _ _).mono (fun r h c => ?_) (Cert.ReferenceIdeal.Hand.run m' g')⟩
  · obtain ⟨h3, h4, h5, h6, h7, h8, h9, a0, a1, a2⟩ := h c
    exact ⟨fun i hi => h3 i (mask_row _ (i 1).isLt hi), fun i _ => congrFun h4 i, fun i _ => congrFun h5 i, fun i _ => congrFun h6 i, fun i _ => congrFun h7 i,
      fun i _ => congrFun h8 i, fun i _ => congrFun h9 i, a0, a1, a2⟩
  · obtain ⟨hr, h0, h1, h2, a0, a1, a2⟩ := h c
    obtain ⟨e0, e1, e2⟩ := hargs c
    obtain ⟨hX, hK, hV⟩ := hfin c
    refine ⟨fun i hi => (congrFun ((hr Cert.ReferenceIdeal.main_v139 (Pipeline.mem_restRefs_of Cert.ReferenceIdeal.main_v139 (by decide) (by decide))).trans
        (Cert.ReferenceIdeal.Hand.t139 m' c)) i).trans ?_, fun i _ => congrFun (h0.trans ?_) i,
      fun i _ => congrFun ((hr Cert.ReferenceIdeal.main_v84 (Pipeline.mem_restRefs_of Cert.ReferenceIdeal.main_v84 (by decide) (by decide))).trans ?_) i,
      fun i _ => congrFun (h1.trans ?_) i,
      fun i _ => congrFun ((hr Cert.ReferenceIdeal.main_v85 (Pipeline.mem_restRefs_of Cert.ReferenceIdeal.main_v85 (by decide) (by decide))).trans ?_) i,
      fun i _ => congrFun (h2.trans ?_) i,
      fun i _ => congrFun ((hr Cert.ReferenceIdeal.main_v76 (Pipeline.mem_restRefs_of Cert.ReferenceIdeal.main_v76 (by decide) (by decide))).trans ?_) i, a0, a1, a2⟩
    · rw [e0, e1, e2]; exact ref_o m c hX hK hV i (mask_row _ (i 1).isLt hi)
    · rw [Cert.ReferenceIdeal.Hand.t25, e0]; exact ref_q m c hX
    · rw [Cert.ReferenceIdeal.Hand.t84, e0]; exact ref_qs m c hX
    · rw [Cert.ReferenceIdeal.Hand.t140, e1]; exact ref_k m c hK
    · rw [Cert.ReferenceIdeal.Hand.t85, e1]; exact ref_ks m c hK
    · rw [Cert.ReferenceIdeal.Hand.t141, e2]; exact ref_v m c hV
    · rw [Cert.ReferenceIdeal.Hand.t76, e2]; exact ref_vs m c hV

end Cert.Hand

end
-- ==== Proof.lean ====
module

public import proofs.«01_k».proof.Defs
public import proofs.«01_k».proof.Proof.Bits.Frame
public import proofs.«01_k».proof.Proof.Algebraic
public import proofs.«01_k».proof.Proof.Gen.ReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_proved_here
public import proofs.«01_k».proof.Proof.Gen.Pre_finite
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts, Cert.On_proved_here.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    Cert.Hand.preserves, Cert.Hand.algebraic⟩

end Cert.Proof

end
